-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v1) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Attention_AttentionIdeal : Prop :=
  IdealRules.named_const.Statement Cert.AttentionIdeal.κ "mask" .f32 0xF149F2CA#32 ⊥

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v76) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v36) = v0 c
          ∧ r.2.mem ((c.tc : Thread Cert.PrepRefIdeal.nD Cert.PrepRefIdeal.τ).loc Cert.PrepRefIdeal.main_v44) = v1 c
          ∧ r.2.mem ((c.tc : Thread Cert.PrepRefIdeal.nD Cert.PrepRefIdeal.τ).loc Cert.PrepRefIdeal.main_v70) = v2 c
          ∧ r.2.mem ((c.tc : Thread Cert.PrepRefIdeal.nD Cert.PrepRefIdeal.τ).loc Cert.PrepRefIdeal.main_v78) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hMerge : Cert.Merge.Facts) (hMergeIdeal : Cert.MergeIdeal.Facts) (hMergeRefIdeal : Cert.MergeRefIdeal.Facts) (hProject : Cert.Project.Facts) (hProjectIdeal : Cert.ProjectIdeal.Facts) (hProjectRefIdeal : Cert.ProjectRefIdeal.Facts) (hAttention : Cert.Attention.Facts) (hAttentionIdeal : Cert.AttentionIdeal.Facts) (hPool : Cert.Pool.Facts) (hPoolIdeal : Cert.PoolIdeal.Facts) (hPoolRefIdeal : Cert.PoolRefIdeal.Facts) (hPrep : Cert.Prep.Facts) (hPrepIdeal : Cert.PrepIdeal.Facts) (hPrepRefIdeal : Cert.PrepRefIdeal.Facts),
    quiescent_Merge (hMerge := hMerge)
    ∧ quiescent_MergeIdeal (hMergeIdeal := hMergeIdeal)
    ∧ quiescent_MergeRefIdeal (hMergeRefIdeal := hMergeRefIdeal)
    ∧ quiescent_Project (hProject := hProject)
    ∧ quiescent_ProjectIdeal (hProjectIdeal := hProjectIdeal)
    ∧ quiescent_ProjectRefIdeal (hProjectRefIdeal := hProjectRefIdeal)
    ∧ quiescent_Attention (hAttention := hAttention)
    ∧ quiescent_AttentionIdeal (hAttentionIdeal := hAttentionIdeal)
    ∧ quiescent_Pool (hPool := hPool)
    ∧ quiescent_PoolIdeal (hPoolIdeal := hPoolIdeal)
    ∧ quiescent_PoolRefIdeal (hPoolRefIdeal := hPoolRefIdeal)
    ∧ quiescent_Prep (hPrep := hPrep)
    ∧ quiescent_PrepIdeal (hPrepIdeal := hPrepIdeal)
    ∧ quiescent_PrepRefIdeal (hPrepRefIdeal := hPrepRefIdeal)
    ∧ preserves_Merge_MergeIdeal
    ∧ algebraic_MergeIdeal_MergeRefIdeal (hMergeIdeal := hMergeIdeal) (hMergeRefIdeal := hMergeRefIdeal)
    ∧ preserves_Project_ProjectIdeal
    ∧ algebraic_ProjectIdeal_ProjectRefIdeal (hProjectIdeal := hProjectIdeal) (hProjectRefIdeal := hProjectRefIdeal)
    ∧ preserves_Attention_AttentionIdeal
    ∧ preserves_Pool_PoolIdeal
    ∧ algebraic_PoolIdeal_PoolRefIdeal (hPoolIdeal := hPoolIdeal) (hPoolRefIdeal := hPoolRefIdeal)
    ∧ preserves_Prep_PrepIdeal
    ∧ algebraic_PrepIdeal_PrepRefIdeal (hPrepIdeal := hPrepIdeal) (hPrepRefIdeal := hPrepRefIdeal)
-- ==== Merge.lean ====
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x512 : Shape := ⟨2, ![1024, 512]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1024x2048, .bf16⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_30 : BitVec 32 := 0#32
  let v41 : BitVec 1 := Scalar.cmpi .ne v40 c0_i32_30
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MergeRefIdeal.lean ====
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1024x2048, .bf16⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S16384x1024, .f32⟩
  | .hbm, ⟨11, _⟩ => ⟨S1024x2048, .f32⟩
  | .hbm, ⟨12, _⟩ => ⟨S16384x2048, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S2048x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S2048x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S2048x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Project.lean ====
abbrev S16384x2048 : Shape := ⟨2, ![16384, 2048]⟩
abbrev S2048x3840 : Shape := ⟨2, ![2048, 3840]⟩
abbrev S16384x3840 : Shape := ⟨2, ![16384, 3840]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x3840, .bf16⟩
  | .hbm, ⟨2, _⟩ => ⟨S16384x3840, .f32⟩
  | .local _ .vmem, ⟨0, _⟩ => ⟨S1024x2048, .f32⟩
  | .local _ .vmem, ⟨1, _⟩ => ⟨S1024x2048, .f32⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S16384x2048 : Shape := ⟨2, ![16384, 2048]⟩
abbrev S2048x3840 : Shape := ⟨2, ![2048, 3840]⟩
abbrev S16384x3840 : Shape := ⟨2, ![16384, 3840]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x3840, .bf16⟩
  | .hbm, ⟨2, _⟩ => ⟨S2048x3840, .f32⟩
  | .hbm, ⟨3, _⟩ => ⟨S16384x3840, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Attention.lean ====
abbrev S16384x3840 : Shape := ⟨2, ![16384, 3840]⟩
abbrev S32x4096 : Shape := ⟨2, ![32, 4096]⟩
abbrev S4x4x256x64 : Shape := ⟨4, ![4, 4, 256, 64]⟩
abbrev S4x4x64x256 : Shape := ⟨4, ![4, 4, 64, 256]⟩
abbrev S4x4x16x256x128 : Shape := ⟨5, ![4, 4, 16, 256, 128]⟩
abbrev S4x4x16x80x256 : Shape := ⟨5, ![4, 4, 16, 80, 256]⟩
abbrev S4x4x16x256x64 : Shape := ⟨5, ![4, 4, 16, 256, 64]⟩
abbrev S64x256 : Shape := ⟨2, ![64, 256]⟩
abbrev S16384x1024 : Shape := ⟨2, ![16384, 1024]⟩
abbrev S256x256 : Shape := ⟨2, ![256, 256]⟩
abbrev S32x256 : Shape := ⟨2, ![32, 256]⟩
abbrev S256x128 : Shape := ⟨2, ![256, 128]⟩
abbrev S1x1x256x64 : Shape := ⟨4, ![1, 1, 256, 64]⟩
abbrev S1x1x64x256 : Shape := ⟨4, ![1, 1, 64, 256]⟩
abbrev S1x1x16x256x128 : Shape := ⟨5, ![1, 1, 16, 256, 128]⟩
abbrev S1x1x16x80x256 : Shape := ⟨5, ![1, 1, 16, 80, 256]⟩
abbrev S1x1x16x256x64 : Shape := ⟨5, ![1, 1, 16, 256, 64]⟩
abbrev S4x128x256 : Shape := ⟨3, ![4, 128, 256]⟩
abbrev S128x256 : Shape := ⟨2, ![128, 256]⟩
abbrev S4x1x256 : Shape := ⟨3, ![4, 1, 256]⟩
abbrev S4x80x256 : Shape := ⟨3, ![4, 80, 256]⟩
abbrev S4x256x256 : Shape := ⟨3, ![4, 256, 256]⟩
abbrev S2x4x256x256 : Shape := ⟨4, ![2, 4, 256, 256]⟩
abbrev S3x4x256x256 : Shape := ⟨4, ![3, 4, 256, 256]⟩
abbrev S1x32x256 : Shape := ⟨3, ![1, 32, 256]⟩
abbrev S256x64 : Shape := ⟨2, ![256, 64]⟩
abbrev S1x64x256 : Shape := ⟨3, ![1, 64, 256]⟩
abbrev S1x256x256 : Shape := ⟨3, ![1, 256, 256]⟩
abbrev S1x256x128 : Shape := ⟨3, ![1, 256, 128]⟩
abbrev S128 : Shape := ⟨1, ![128]⟩
abbrev S1x128 : Shape := ⟨2, ![1, 128]⟩
abbrev S1x256 : Shape := ⟨2, ![1, 256]⟩
abbrev S8x256 : Shape := ⟨2, ![8, 256]⟩
abbrev S1x1x1x256x128 : Shape := ⟨5, ![1, 1, 1, 256, 128]⟩
abbrev S1x128x256 : Shape := ⟨3, ![1, 128, 256]⟩
abbrev S1x4x256x256 : Shape := ⟨4, ![1, 4, 256, 256]⟩
abbrev S1x1x1x80x256 : Shape := ⟨5, ![1, 1, 1, 80, 256]⟩
abbrev S80x256 : Shape := ⟨2, ![80, 256]⟩
abbrev S1x1x128 : Shape := ⟨3, ![1, 1, 128]⟩
abbrev S1x80x256 : Shape := ⟨3, ![1, 80, 256]⟩
abbrev S1x1x256 : Shape := ⟨3, ![1, 1, 256]⟩
abbrev S1x1x1x256x64 : Shape := ⟨5, ![1, 1, 1, 256, 64]⟩

abbrev nBuf : Space → Nat
  | .hbm => 11
  | .vmem => 40
  | .smem => 0
  | _ => 0

abbrev bufTy : (tb : Table) → Fin (tcTables nBuf tb) → BufTy
  | .hbm, ⟨0, _⟩ => ⟨S16384x3840, .f32⟩
  | .hbm, ⟨1, _⟩ => ⟨S32x4096, .f32⟩
  | .hbm, ⟨2, _⟩ => ⟨S32x4096, .f32⟩
  | .hbm, ⟨3, _⟩ => ⟨S4x4x256x64, .bf16⟩
  | .hbm, ⟨4, _⟩ => ⟨S4x4x64x256, .bf16⟩
  | .hbm, ⟨5, _⟩ => ⟨S4x4x16x256x128, .bf16⟩
  | .hbm, ⟨6, _⟩ => ⟨S4x4x16x80x256, .bf16⟩
  | .hbm, ⟨7, _⟩ => ⟨S4x4x16x256x64, .bf16⟩
  | .hbm, ⟨8, _⟩ => ⟨S4x4x16x80x256, .bf16⟩
  | .hbm, ⟨9, _⟩ => ⟨S64x256, .bf16⟩
  | .hbm, ⟨10, _⟩ => ⟨S16384x1024, .bf16⟩
  | .local _ .vmem, ⟨0, _⟩ => ⟨S256x256, .f32⟩
  | .local _ .vmem, ⟨1, _⟩ => ⟨S256x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S256x128, .f32⟩
  | .local _ .vmem, ⟨7, _⟩ => ⟨S256x128, .f32⟩
  | .local _ .vmem, ⟨8, _⟩ => ⟨S1x1x256x64, .bf16⟩
  | .local _ .vmem, ⟨9, _⟩ => ⟨S1x1x256x64, .bf16⟩
  | .local _ .vmem, ⟨10, _⟩ => ⟨S1x1x64x256, .bf16⟩
  | .local _ .vmem, ⟨11, _⟩ => ⟨S1x1x64x256, .bf16⟩
  | .local _ .vmem, ⟨12, _⟩ => ⟨S1x1x16x256x128, .bf16⟩
  | .local _ .vmem, ⟨13, _⟩ => ⟨S1x1x16x256x128, .bf16⟩
  | .local _ .vmem, ⟨14, _⟩ => ⟨S1x1x16x80x256, .bf16⟩
  | .local _ .vmem, ⟨15, _⟩ => ⟨S1x1x16x80x256, .bf16⟩
  | .local _ .vmem, ⟨16, _⟩ => ⟨S1x1x16x256x64, .bf16⟩
  | .local _ .vmem, ⟨17, _⟩ => ⟨S1x1x16x256x64, .bf16⟩
  | .local _ .vmem, ⟨18, _⟩ => ⟨S1x1x16x80x256, .bf16⟩
  | .local _ .vmem, ⟨19, _⟩ => ⟨S1x1x16x80x256, .bf16⟩
  | .local _ .vmem, ⟨20, _⟩ => ⟨S64x256, .bf16⟩
  | .local _ .vmem, ⟨21, _⟩ => ⟨S256x256, .bf16⟩
  | .local _ .vmem, ⟨22, _⟩ => ⟨S256x256, .bf16⟩
  | .local _ .vmem, ⟨23, _⟩ => ⟨S4x128x256, .bf16⟩
  | .local _ .vmem, ⟨24, _⟩ => ⟨S128x256, .f32⟩
  | .local _ .vmem, ⟨25, _⟩ => ⟨S64x256, .f32⟩
  | .local _ .vmem, ⟨26, _⟩ => ⟨S4x1x256, .f32⟩
  | .local _ .vmem, ⟨27, _⟩ => ⟨S4x1x256, .f32⟩
  | .local _ .vmem, ⟨28, _⟩ => ⟨S4x80x256, .f32⟩
  | .local _ .vmem, ⟨29, _⟩ => ⟨S256x256, .f32⟩
  | .local _ .vmem, ⟨30, _⟩ => ⟨S4x256x256, .f32⟩
  | .local _ .vmem, ⟨31, _⟩ => ⟨S4x256x256, .bf16⟩
  | .local _ .vmem, ⟨32, _⟩ => ⟨S256x256, .f32⟩
  | .local _ .vmem, ⟨33, _⟩ => ⟨S2x4x256x256, .f32⟩
  | .local _ .vmem, ⟨34, _⟩ => ⟨S4x256x256, .bf16⟩
  | .local _ .vmem, ⟨35, _⟩ => ⟨S4x1x256, .f32⟩
  | .local _ .vmem, ⟨36, _⟩ => ⟨S4x1x256, .f32⟩
  | .local _ .vmem, ⟨37, _⟩ => ⟨S4x80x256, .f32⟩
  | .local _ .vmem, ⟨38, _⟩ => ⟨S3x4x256x256, .f32⟩
  | .local _ .vmem, ⟨39, _⟩ => ⟨S4x256x256, .bf16⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_scratch11 : Ref sig .tc := ⟨.vmem, 34, rfl⟩
abbrev cc0_scratch12 : Ref sig .tc := ⟨.vmem, 35, rfl⟩
abbrev cc0_scratch13 : Ref sig .tc := ⟨.vmem, 36, rfl⟩
abbrev cc0_scratch14 : Ref sig .tc := ⟨.vmem, 37, rfl⟩
abbrev cc0_scratch15 : Ref sig .tc := ⟨.vmem, 38, rfl⟩
abbrev cc0_scratch16 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 4, 16], ![false, false, false]⟩

def k0_off1 (i : grid0.Coords) (c0_i32_192 : BitVec 32) (c0_i32_193 : BitVec 32) : Fin 2 → Nat :=
  let arg1 : BitVec 32 := BitVec.ofNat 32 (i 1).val
  let c4_i32 : BitVec 32 := 4#32
  let v341 : BitVec 32 := Scalar.muli arg1 c4_i32
  let v342 : BitVec 32 := Scalar.addi c0_i32_192 v341
  let v343 : BitVec 32 := Scalar.addi v342 c0_i32_193
  let v344 : Index := Scalar.indexCast v343
  let c0_194 : Index := 0#32
  ![v344.toNat, 0]
@[reducible] def k0_t1_loop (i : grid0.Coords) : Scf.Loop 32 :=
  let c0_i32_1637 : BitVec 32 := 0#32
  let arg2 : BitVec 32 := BitVec.ofNat 32 (i 2).val
  let c0_i32_1628 : BitVec 32 := 0#32
  let v3739 : BitVec 1 := Scalar.cmpi .sgt arg2 c0_i32_1628
  let v3740 : BitVec 32 := Scalar.extui v3739
  let c0_i32_1629 : BitVec 32 := 0#32
  let v3741 : BitVec 1 := Scalar.cmpi .slt arg2 c0_i32_1629
  let v3742 : BitVec 32 := Scalar.extui v3741
  let v3743 : BitVec 32 := Scalar.subi v3740 v3742
  let c4_i32_1627 : BitVec 32 := 4#32
  let c0_i32_1630 : BitVec 32 := 0#32
  let v3744 : BitVec 1 := Scalar.cmpi .sgt c4_i32_1627 c0_i32_1630
  let v3745 : BitVec 32 := Scalar.extui v3744
  let c0_i32_1631 : BitVec 32 := 0#32
  let v3746 : BitVec 1 := Scalar.cmpi .slt c4_i32_1627 c0_i32_1631
  let v3747 : BitVec 32 := Scalar.extui v3746
  let v3748 : BitVec 32 := Scalar.subi v3745 v3747
  let v3749 : BitVec 1 := Scalar.cmpi .ne v3743 v3748
  let v3750 : BitVec 32 := Scalar.remsi arg2 c4_i32_1627
  let c0_i32_1632 : BitVec 32 := 0#32
  let v3751 : BitVec 1 := Scalar.cmpi .ne v3750 c0_i32_1632
  let v3752 : BitVec 1 := Scalar.andi v3749 v3751
  let v3738 : BitVec 32 := Scalar.divsi arg2 c4_i32_1627
  let c1_i32_1633 : BitVec 32 := 1#32
  let v3753 : BitVec 32 := Scalar.subi v3738 c1_i32_1633
  let v3754 : BitVec 32 := Scalar.select v3752 v3753 v3738
  let v3755 : BitVec 32 := Scalar.subi v3754 c0_i32_1637
  let c1_i32_1638 : BitVec 32 := 1#32
  let v3757 : BitVec 32 := Scalar.divsi v3755 c1_i32_1638
  let v3758 : BitVec 32 := Scalar.muli v3757 c1_i32_1638
  let v3759 : BitVec 32 := Scalar.addi c0_i32_1637 v3758
  let c1_i32_1639 : BitVec 32 := 1#32
  ⟨c0_i32_1637, v3759, c1_i32_1639⟩
def k0_off2 (i : grid0.Coords) (k0_t1 : Fin (k0_t1_loop i).trips) (c0_i32_2658 : BitVec 32) : Fin 5 → Nat :=
  let c0_2660 : Index := 0#32
  let c0_2661 : Index := 0#32
  let c0_i32_1637 : BitVec 32 := 0#32
  let c1_i32_1639 : BitVec 32 := 1#32
  let arg32 : BitVec 32 := Scf.iv c0_i32_1637 c1_i32_1639 k0_t1
  let c4_i32_2657 : BitVec 32 := 4#32
  let v4938 : BitVec 32 := Scalar.muli arg32 c4_i32_2657
  let v4939 : BitVec 32 := Scalar.addi v4938 c0_i32_2658
  let c1_i32_2659 : BitVec 32 := 1#32
  let v4940 : BitVec 32 := Scalar.addi v4939 c1_i32_2659
  let v4941 : Index := Scalar.indexCast v4940
  let c0_2662 : Index := 0#32
  let c0_2663 : Index := 0#32
  ![0, 0, v4941.toNat, 0, 0]
def k0_off3 (i : grid0.Coords) (k0_t1 : Fin (k0_t1_loop i).trips) (c0_i32_2704 : BitVec 32) : Fin 5 → Nat :=
  let c0_2705 : Index := 0#32
  let c0_2706 : Index := 0#32
  let c0_i32_1637 : BitVec 32 := 0#32
  let c1_i32_1639 : BitVec 32 := 1#32
  let arg32 : BitVec 32 := Scf.iv c0_i32_1637 c1_i32_1639 k0_t1
  let c4_i32_2657 : BitVec 32 := 4#32
  let v4938 : BitVec 32 := Scalar.muli arg32 c4_i32_2657
  let v4976 : BitVec 32 := Scalar.addi v4938 c0_i32_2704
  let v4977 : Index := Scalar.indexCast v4976
  let c0_2707 : Index := 0#32
  let c0_2708 : Index := 0#32
  ![0, 0, v4977.toNat, 0, 0]
@[reducible] def k0_t2_loop (i : grid0.Coords) : Scf.Loop 32 :=
  let c0_i32_1637 : BitVec 32 := 0#32
  let arg2 : BitVec 32 := BitVec.ofNat 32 (i 2).val
  let c0_i32_1628 : BitVec 32 := 0#32
  let v3739 : BitVec 1 := Scalar.cmpi .sgt arg2 c0_i32_1628
  let v3740 : BitVec 32 := Scalar.extui v3739
  let c0_i32_1629 : BitVec 32 := 0#32
  let v3741 : BitVec 1 := Scalar.cmpi .slt arg2 c0_i32_1629
  let v3742 : BitVec 32 := Scalar.extui v3741
  let v3743 : BitVec 32 := Scalar.subi v3740 v3742
  let c4_i32_1627 : BitVec 32 := 4#32
  let c0_i32_1630 : BitVec 32 := 0#32
  let v3744 : BitVec 1 := Scalar.cmpi .sgt c4_i32_1627 c0_i32_1630
  let v3745 : BitVec 32 := Scalar.extui v3744
  let c0_i32_1631 : BitVec 32 := 0#32
  let v3746 : BitVec 1 := Scalar.cmpi .slt c4_i32_1627 c0_i32_1631
  let v3747 : BitVec 32 := Scalar.extui v3746
  let v3748 : BitVec 32 := Scalar.subi v3745 v3747
  let v3749 : BitVec 1 := Scalar.cmpi .ne v3743 v3748
  let v3750 : BitVec 32 := Scalar.remsi arg2 c4_i32_1627
  let c0_i32_1632 : BitVec 32 := 0#32
  let v3751 : BitVec 1 := Scalar.cmpi .ne v3750 c0_i32_1632
  let v3752 : BitVec 1 := Scalar.andi v3749 v3751
  let v3738 : BitVec 32 := Scalar.divsi arg2 c4_i32_1627
  let c1_i32_1633 : BitVec 32 := 1#32
  let v3753 : BitVec 32 := Scalar.subi v3738 c1_i32_1633
  let v3754 : BitVec 32 := Scalar.select v3752 v3753 v3738
  let v3755 : BitVec 32 := Scalar.subi v3754 c0_i32_1637
  let c1_i32_1638 : BitVec 32 := 1#32
  let v3757 : BitVec 32 := Scalar.divsi v3755 c1_i32_1638
  let v3758 : BitVec 32 := Scalar.muli v3757 c1_i32_1638
  let v3759 : BitVec 32 := Scalar.addi c0_i32_1637 v3758
  let v3756 : BitVec 32 := Scalar.addi c0_i32_1637 v3755
  let c1_i32_1640 : BitVec 32 := 1#32
  ⟨v3759, v3756, c1_i32_1640⟩
def k0_off4 (i : grid0.Coords) (k0_t2 : Fin (k0_t2_loop i).trips) (c0_i32_2658 : BitVec 32) : Fin 5 → Nat :=
  let c0_2660 : Index := 0#32
  let c0_2661 : Index := 0#32
  let c0_i32_1637 : BitVec 32 := 0#32
  let arg2 : BitVec 32 := BitVec.ofNat 32 (i 2).val
  let c0_i32_1628 : BitVec 32 := 0#32
  let v3739 : BitVec 1 := Scalar.cmpi .sgt arg2 c0_i32_1628
  let v3740 : BitVec 32 := Scalar.extui v3739
  let c0_i32_1629 : BitVec 32 := 0#32
  let v3741 : BitVec 1 := Scalar.cmpi .slt arg2 c0_i32_1629
  let v3742 : BitVec 32 := Scalar.extui v3741
  let v3743 : BitVec 32 := Scalar.subi v3740 v3742
  let c4_i32_1627 : BitVec 32 := 4#32
  let c0_i32_1630 : BitVec 32 := 0#32
  let v3744 : BitVec 1 := Scalar.cmpi .sgt c4_i32_1627 c0_i32_1630
  let v3745 : BitVec 32 := Scalar.extui v3744
  let c0_i32_1631 : BitVec 32 := 0#32
  let v3746 : BitVec 1 := Scalar.cmpi .slt c4_i32_1627 c0_i32_1631
  let v3747 : BitVec 32 := Scalar.extui v3746
  let v3748 : BitVec 32 := Scalar.subi v3745 v3747
  let v3749 : BitVec 1 := Scalar.cmpi .ne v3743 v3748
  let v3750 : BitVec 32 := Scalar.remsi arg2 c4_i32_1627
  let c0_i32_1632 : BitVec 32 := 0#32
  let v3751 : BitVec 1 := Scalar.cmpi .ne v3750 c0_i32_1632
  let v3752 : BitVec 1 := Scalar.andi v3749 v3751
  let v3738 : BitVec 32 := Scalar.divsi arg2 c4_i32_1627
  let c1_i32_1633 : BitVec 32 := 1#32
  let v3753 : BitVec 32 := Scalar.subi v3738 c1_i32_1633
  let v3754 : BitVec 32 := Scalar.select v3752 v3753 v3738
  let v3755 : BitVec 32 := Scalar.subi v3754 c0_i32_1637
  let c1_i32_1638 : BitVec 32 := 1#32
  let v3757 : BitVec 32 := Scalar.divsi v3755 c1_i32_1638
  let v3758 : BitVec 32 := Scalar.muli v3757 c1_i32_1638
  let v3759 : BitVec 32 := Scalar.addi c0_i32_1637 v3758
  let c1_i32_1640 : BitVec 32 := 1#32
  let arg32 : BitVec 32 := Scf.iv v3759 c1_i32_1640 k0_t2
  let c4_i32_2657 : BitVec 32 := 4#32
  let v4938 : BitVec 32 := Scalar.muli arg32 c4_i32_2657
  let v4939 : BitVec 32 := Scalar.addi v4938 c0_i32_2658
  let c1_i32_2659 : BitVec 32 := 1#32
  let v4940 : BitVec 32 := Scalar.addi v4939 c1_i32_2659
  let v4941 : Index := Scalar.indexCast v4940
  let c0_2662 : Index := 0#32
  let c0_2663 : Index := 0#32
  ![0, 0, v4941.toNat, 0, 0]
def k0_off5 (i : grid0.Coords) (k0_t2 : Fin (k0_t2_loop i).trips) (c0_i32_2704 : BitVec 32) : Fin 5 → Nat :=
  let c0_2705 : Index := 0#32
  let c0_2706 : Index := 0#32
  let c0_i32_1637 : BitVec 32 := 0#32
  let arg2 : BitVec 32 := BitVec.ofNat 32 (i 2).val
  let c0_i32_1628 : BitVec 32 := 0#32
  let v3739 : BitVec 1 := Scalar.cmpi .sgt arg2 c0_i32_1628
  let v3740 : BitVec 32 := Scalar.extui v3739
  let c0_i32_1629 : BitVec 32 := 0#32
  let v3741 : BitVec 1 := Scalar.cmpi .slt arg2 c0_i32_1629
  let v3742 : BitVec 32 := Scalar.extui v3741
  let v3743 : BitVec 32 := Scalar.subi v3740 v3742
  let c4_i32_1627 : BitVec 32 := 4#32
  let c0_i32_1630 : BitVec 32 := 0#32
  let v3744 : BitVec 1 := Scalar.cmpi .sgt c4_i32_1627 c0_i32_1630
  let v3745 : BitVec 32 := Scalar.extui v3744
  let c0_i32_1631 : BitVec 32 := 0#32
  let v3746 : BitVec 1 := Scalar.cmpi .slt c4_i32_1627 c0_i32_1631
  let v3747 : BitVec 32 := Scalar.extui v3746
  let v3748 : BitVec 32 := Scalar.subi v3745 v3747
  let v3749 : BitVec 1 := Scalar.cmpi .ne v3743 v3748
  let v3750 : BitVec 32 := Scalar.remsi arg2 c4_i32_1627
  let c0_i32_1632 : BitVec 32 := 0#32
  let v3751 : BitVec 1 := Scalar.cmpi .ne v3750 c0_i32_1632
  let v3752 : BitVec 1 := Scalar.andi v3749 v3751
  let v3738 : BitVec 32 := Scalar.divsi arg2 c4_i32_1627
  let c1_i32_1633 : BitVec 32 := 1#32
  let v3753 : BitVec 32 := Scalar.subi v3738 c1_i32_1633
  let v3754 : BitVec 32 := Scalar.select v3752 v3753 v3738
  let v3755 : BitVec 32 := Scalar.subi v3754 c0_i32_1637
  let c1_i32_1638 : BitVec 32 := 1#32
  let v3757 : BitVec 32 := Scalar.divsi v3755 c1_i32_1638
  let v3758 : BitVec 32 := Scalar.muli v3757 c1_i32_1638
  let v3759 : BitVec 32 := Scalar.addi c0_i32_1637 v3758
  let c1_i32_1640 : BitVec 32 := 1#32
  let arg32 : BitVec 32 := Scf.iv v3759 c1_i32_1640 k0_t2
  let c4_i32_2657 : BitVec 32 := 4#32
  let v4938 : BitVec 32 := Scalar.muli arg32 c4_i32_2657
  let v4976 : BitVec 32 := Scalar.addi v4938 c0_i32_2704
  let v4977 : Index := Scalar.indexCast v4976
  let c0_2707 : Index := 0#32
  let c0_2708 : Index := 0#32
  ![0, 0, v4977.toNat, 0, 0]
def k0_cond1 (i : grid0.Coords) : BitVec 1 :=
  let arg2 : BitVec 32 := BitVec.ofNat 32 (i 2).val
  let c4_i32_1641 : BitVec 32 := 4#32
  let c0_i32_1642 : BitVec 32 := 0#32
  let v3760 : BitVec 1 := Scalar.cmpi .eq c4_i32_1641 c0_i32_1642
  let c1_i32_1643 : BitVec 32 := 1#32
  let v3761 : BitVec 32 := Scalar.select v3760 c1_i32_1643 c4_i32_1641
  let v3762 : BitVec 32 := Scalar.remsi arg2 v3761
  let c0_i32_1645 : BitVec 32 := 0#32
  let v3764 : BitVec 1 := Scalar.cmpi .slt v3762 c0_i32_1645
  let c0_i32_1646 : BitVec 32 := 0#32
  let v3765 : BitVec 1 := Scalar.cmpi .slt v3761 c0_i32_1646
  let v3766 : BitVec 1 := Scalar.xori v3764 v3765
  let c0_i32_1644 : BitVec 32 := 0#32
  let v3763 : BitVec 1 := Scalar.cmpi .ne v3762 c0_i32_1644
  let v3767 : BitVec 1 := Scalar.andi v3766 v3763
  let v3768 : BitVec 32 := Scalar.addi v3762 v3761
  let v3769 : BitVec 32 := Scalar.select v3767 v3768 v3762
  let c0_i32_1647 : BitVec 32 := 0#32
  let v3770 : BitVec 1 := Scalar.cmpi .eq v3769 c0_i32_1647
  let v3771 : BitVec 32 := Scalar.extui v3770
  let c0_i32_1649 : BitVec 32 := 0#32
  let v3772 : BitVec 1 := Scalar.cmpi .ne v3771 c0_i32_1649
  v3772

def k0_off6 (i : grid0.Coords) : Fin 5 → Nat :=
  let c0_2659 : Index := 0#32
  let c0_2660 : Index := 0#32
  let arg2 : BitVec 32 := BitVec.ofNat 32 (i 2).val
  let c0_i32_2657 : BitVec 32 := 0#32
  let v4938 : BitVec 32 := Scalar.subi arg2 c0_i32_2657
  let c0_i32_2658 : BitVec 32 := 0#32
  let v4939 : BitVec 32 := Scalar.addi v4938 c0_i32_2658
  let v4940 : Index := Scalar.indexCast v4939
  let c0_2661 : Index := 0#32
  let c0_2662 : Index := 0#32
  ![0, 0, v4940.toNat, 0, 0]
def k0_cond2 (i : grid0.Coords) : BitVec 1 :=
  let arg2 : BitVec 32 := BitVec.ofNat 32 (i 2).val
  let c4_i32_1650 : BitVec 32 := 4#32
  let c0_i32_1651 : BitVec 32 := 0#32
  let v3773 : BitVec 1 := Scalar.cmpi .eq c4_i32_1650 c0_i32_1651
  let c1_i32_1652 : BitVec 32 := 1#32
  let v3774 : BitVec 32 := Scalar.select v3773 c1_i32_1652 c4_i32_1650
  let v3775 : BitVec 32 := Scalar.remsi arg2 v3774
  let c0_i32_1654 : BitVec 32 := 0#32
  let v3777 : BitVec 1 := Scalar.cmpi .slt v3775 c0_i32_1654
  let c0_i32_1655 : BitVec 32 := 0#32
  let v3778 : BitVec 1 := Scalar.cmpi .slt v3774 c0_i32_1655
  let v3779 : BitVec 1 := Scalar.xori v3777 v3778
  let c0_i32_1653 : BitVec 32 := 0#32
  let v3776 : BitVec 1 := Scalar.cmpi .ne v3775 c0_i32_1653
  let v3780 : BitVec 1 := Scalar.andi v3779 v3776
  let v3781 : BitVec 32 := Scalar.addi v3775 v3774
  let v3782 : BitVec 32 := Scalar.select v3780 v3781 v3775
  let c1_i32_1656 : BitVec 32 := 1#32
  let v3783 : BitVec 1 := Scalar.cmpi .eq v3782 c1_i32_1656
  let v3784 : BitVec 32 := Scalar.extui v3783
  let c0_i32_1659 : BitVec 32 := 0#32
  let v3785 : BitVec 1 := Scalar.cmpi .ne v3784 c0_i32_1659
  v3785

def k0_off7 (i : grid0.Coords) : Fin 5 → Nat :=
  let c0_2660 : Index := 0#32
  let c0_2661 : Index := 0#32
  let arg2 : BitVec 32 := BitVec.ofNat 32 (i 2).val
  let c1_i32_2657 : BitVec 32 := 1#32
  let v4938 : BitVec 32 := Scalar.subi arg2 c1_i32_2657
  let c0_i32_2658 : BitVec 32 := 0#32
  let v4939 : BitVec 32 := Scalar.addi v4938 c0_i32_2658
  let c1_i32_2659 : BitVec 32 := 1#32
  let v4940 : BitVec 32 := Scalar.addi v4939 c1_i32_2659
  let v4941 : Index := Scalar.indexCast v4940
  let c0_2662 : Index := 0#32
  let c0_2663 : Index := 0#32
  ![0, 0, v4941.toNat, 0, 0]
def k0_off8 (i : grid0.Coords) (c0_i32_2704 : BitVec 32) : Fin 5 → Nat :=
  let c0_2705 : Index := 0#32
  let c0_2706 : Index := 0#32
  let arg2 : BitVec 32 := BitVec.ofNat 32 (i 2).val
  let c1_i32_2657 : BitVec 32 := 1#32
  let v4938 : BitVec 32 := Scalar.subi arg2 c1_i32_2657
  let v4976 : BitVec 32 := Scalar.addi v4938 c0_i32_2704
  let v4977 : Index := Scalar.indexCast v4976
  let c0_2707 : Index := 0#32
  let c0_2708 : Index := 0#32
  ![0, 0, v4977.toNat, 0, 0]
def k0_cond3 (i : grid0.Coords) : BitVec 1 :=
  let arg2 : BitVec 32 := BitVec.ofNat 32 (i 2).val
  let c4_i32_1660 : BitVec 32 := 4#32
  let c0_i32_1661 : BitVec 32 := 0#32
  let v3786 : BitVec 1 := Scalar.cmpi .eq c4_i32_1660 c0_i32_1661
  let c1_i32_1662 : BitVec 32 := 1#32
  let v3787 : BitVec 32 := Scalar.select v3786 c1_i32_1662 c4_i32_1660
  let v3788 : BitVec 32 := Scalar.remsi arg2 v3787
  let c0_i32_1664 : BitVec 32 := 0#32
  let v3790 : BitVec 1 := Scalar.cmpi .slt v3788 c0_i32_1664
  let c0_i32_1665 : BitVec 32 := 0#32
  let v3791 : BitVec 1 := Scalar.cmpi .slt v3787 c0_i32_1665
  let v3792 : BitVec 1 := Scalar.xori v3790 v3791
  let c0_i32_1663 : BitVec 32 := 0#32
  let v3789 : BitVec 1 := Scalar.cmpi .ne v3788 c0_i32_1663
  let v3793 : BitVec 1 := Scalar.andi v3792 v3789
  let v3794 : BitVec 32 := Scalar.addi v3788 v3787
  let v3795 : BitVec 32 := Scalar.select v3793 v3794 v3788
  let c2_i32_1666 : BitVec 32 := 2#32
  let v3796 : BitVec 1 := Scalar.cmpi .eq v3795 c2_i32_1666
  let v3797 : BitVec 32 := Scalar.extui v3796
  let c0_i32_1669 : BitVec 32 := 0#32
  let v3798 : BitVec 1 := Scalar.cmpi .ne v3797 c0_i32_1669
  v3798

def k0_off9 (i : grid0.Coords) (c0_i32_2658 : BitVec 32) : Fin 5 → Nat :=
  let c0_2660 : Index := 0#32
  let c0_2661 : Index := 0#32
  let arg2 : BitVec 32 := BitVec.ofNat 32 (i 2).val
  let c2_i32_2657 : BitVec 32 := 2#32
  let v4938 : BitVec 32 := Scalar.subi arg2 c2_i32_2657
  let v4939 : BitVec 32 := Scalar.addi v4938 c0_i32_2658
  let c1_i32_2659 : BitVec 32 := 1#32
  let v4940 : BitVec 32 := Scalar.addi v4939 c1_i32_2659
  let v4941 : Index := Scalar.indexCast v4940
  let c0_2662 : Index := 0#32
  let c0_2663 : Index := 0#32
  ![0, 0, v4941.toNat, 0, 0]
def k0_off10 (i : grid0.Coords) (c0_i32_2704 : BitVec 32) : Fin 5 → Nat :=
  let c0_2705 : Index := 0#32
  let c0_2706 : Index := 0#32
  let arg2 : BitVec 32 := BitVec.ofNat 32 (i 2).val
  let c2_i32_2657 : BitVec 32 := 2#32
  let v4938 : BitVec 32 := Scalar.subi arg2 c2_i32_2657
  let v4976 : BitVec 32 := Scalar.addi v4938 c0_i32_2704
  let v4977 : Index := Scalar.indexCast v4976
  let c0_2707 : Index := 0#32
  let c0_2708 : Index := 0#32
  ![0, 0, v4977.toNat, 0, 0]
def k0_cond4 (i : grid0.Coords) : BitVec 1 :=
  let arg2 : BitVec 32 := BitVec.ofNat 32 (i 2).val
  let c4_i32_1670 : BitVec 32 := 4#32
  let c0_i32_1671 : BitVec 32 := 0#32
  let v3799 : BitVec 1 := Scalar.cmpi .eq c4_i32_1670 c0_i32_1671
  let c1_i32_1672 : BitVec 32 := 1#32
  let v3800 : BitVec 32 := Scalar.select v3799 c1_i32_1672 c4_i32_1670
  let v3801 : BitVec 32 := Scalar.remsi arg2 v3800
  let c0_i32_1674 : BitVec 32 := 0#32
  let v3803 : BitVec 1 := Scalar.cmpi .slt v3801 c0_i32_1674
  let c0_i32_1675 : BitVec 32 := 0#32
  let v3804 : BitVec 1 := Scalar.cmpi .slt v3800 c0_i32_1675
  let v3805 : BitVec 1 := Scalar.xori v3803 v3804
  let c0_i32_1673 : BitVec 32 := 0#32
  let v3802 : BitVec 1 := Scalar.cmpi .ne v3801 c0_i32_1673
  let v3806 : BitVec 1 := Scalar.andi v3805 v3802
  let v3807 : BitVec 32 := Scalar.addi v3801 v3800
  let v3808 : BitVec 32 := Scalar.select v3806 v3807 v3801
  let c3_i32_1676 : BitVec 32 := 3#32
  let v3809 : BitVec 1 := Scalar.cmpi .eq v3808 c3_i32_1676
  let v3810 : BitVec 32 := Scalar.extui v3809
  let c0_i32_1679 : BitVec 32 := 0#32
  let v3811 : BitVec 1 := Scalar.cmpi .ne v3810 c0_i32_1679
  v3811

def k0_off11 (i : grid0.Coords) (c0_i32_2658 : BitVec 32) : Fin 5 → Nat :=
  let c0_2660 : Index := 0#32
  let c0_2661 : Index := 0#32
  let arg2 : BitVec 32 := BitVec.ofNat 32 (i 2).val
  let c3_i32_2657 : BitVec 32 := 3#32
  let v4938 : BitVec 32 := Scalar.subi arg2 c3_i32_2657
  let v4939 : BitVec 32 := Scalar.addi v4938 c0_i32_2658
  let c1_i32_2659 : BitVec 32 := 1#32
  let v4940 : BitVec 32 := Scalar.addi v4939 c1_i32_2659
  let v4941 : Index := Scalar.indexCast v4940
  let c0_2662 : Index := 0#32
  let c0_2663 : Index := 0#32
  ![0, 0, v4941.toNat, 0, 0]
def k0_off12 (i : grid0.Coords) (c0_i32_2704 : BitVec 32) : Fin 5 → Nat :=
  let c0_2705 : Index := 0#32
  let c0_2706 : Index := 0#32
  let arg2 : BitVec 32 := BitVec.ofNat 32 (i 2).val
  let c3_i32_2657 : BitVec 32 := 3#32
  let v4938 : BitVec 32 := Scalar.subi arg2 c3_i32_2657
  let v4976 : BitVec 32 := Scalar.addi v4938 c0_i32_2704
  let v4977 : Index := Scalar.indexCast v4976
  let c0_2707 : Index := 0#32
  let c0_2708 : Index := 0#32
  ![0, 0, v4977.toNat, 0, 0]
def k0_off13 (i : grid0.Coords) (c2_i32_1756 : BitVec 32) : Fin 5 → Nat :=
  let c0_1760 : Index := 0#32
  let c0_1761 : Index := 0#32
  let arg2 : BitVec 32 := BitVec.ofNat 32 (i 2).val
  let v3916 : BitVec 32 := Scalar.subi arg2 c2_i32_1756
  let c0_i32_1757 : BitVec 32 := 0#32
  let v3917 : BitVec 32 := Scalar.maxsi v3916 c0_i32_1757
  let v3920 : Index := Scalar.indexCast v3917
  let c0_1762 : Index := 0#32
  let c0_1763 : Index := 0#32
  ![0, 0, v3920.toNat, 0, 0]
def k0_off14 (i : grid0.Coords) : Fin 5 → Nat :=
  let c0_1856 : Index := 0#32
  let c0_1857 : Index := 0#32
  let arg2 : BitVec 32 := BitVec.ofNat 32 (i 2).val
  let v3990 : Index := Scalar.indexCast arg2
  let c0_1858 : Index := 0#32
  let c0_1859 : Index := 0#32
  ![0, 0, v3990.toNat, 0, 0]
def k0_off15 (i : grid0.Coords) (c2_i32_1756 : BitVec 32) : Fin 5 → Nat :=
  let c0_1904 : Index := 0#32
  let c0_1905 : Index := 0#32
  let arg2 : BitVec 32 := BitVec.ofNat 32 (i 2).val
  let v3916 : BitVec 32 := Scalar.subi arg2 c2_i32_1756
  let c0_i32_1757 : BitVec 32 := 0#32
  let v3917 : BitVec 32 := Scalar.maxsi v3916 c0_i32_1757
  let v4025 : Index := Scalar.indexCast v3917
  let c0_1906 : Index := 0#32
  let c0_1907 : Index := 0#32
  ![0, 0, v4025.toNat, 0, 0]
def k0_off16 (i : grid0.Coords) : Fin 5 → Nat :=
  let c0_2360 : Index := 0#32
  let c0_2361 : Index := 0#32
  let arg2 : BitVec 32 := BitVec.ofNat 32 (i 2).val
  let v4569 : Index := Scalar.indexCast arg2
  let c0_2362 : Index := 0#32
  let c0_2363 : Index := 0#32
  ![0, 0, v4569.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c28_i32 : BitVec 32 := 28#32
  let c0_i32 : BitVec 32 := 0#32
  ![v1.toNat, c28_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x16x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x16x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x16x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S64x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== AttentionIdeal.lean ====
variable {F : FTy → Type} [FloatOps F] [Named F]
def κ : String → Option EReal := fun
  | "mask" => some ⊥
  | _ => none
-- ==== Pool.lean ====
abbrev S16384x3840 : Shape := ⟨2, ![16384, 3840]⟩
abbrev S4x256x256 : Shape := ⟨3, ![4, 256, 256]⟩
abbrev S1x1024 : Shape := ⟨2, ![1, 1024]⟩
abbrev S16384x1024 : Shape := ⟨2, ![16384, 1024]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 4
  | .vmem => 9
  | .smem => 0
  | _ => 0

abbrev bufTy : (tb : Table) → Fin (tcTables nBuf tb) → BufTy
  | .hbm, ⟨0, _⟩ => ⟨S16384x3840, .f32⟩
  | .hbm, ⟨1, _⟩ => ⟨S4x256x256, .bf16⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S528x1024, .f32⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S16384x3840 : Shape := ⟨2, ![16384, 3840]⟩
abbrev S4x256x256 : Shape := ⟨3, ![4, 256, 256]⟩
abbrev S1x1024 : Shape := ⟨2, ![1, 1024]⟩
abbrev S16384x1024 : Shape := ⟨2, ![16384, 1024]⟩
abbrev S4x4096x4x256 : Shape := ⟨4, ![4, 4096, 4, 256]⟩
abbrev S_ : Shape := ⟨0, ![]⟩
abbrev S4x4111x4x256 : Shape := ⟨4, ![4, 4111, 4, 256]⟩
abbrev S4096 : Shape := ⟨1, ![4096]⟩
abbrev S4x4096x1x256 : Shape := ⟨4, ![4, 4096, 1, 256]⟩
abbrev S4096x1x1 : Shape := ⟨3, ![4096, 1, 1]⟩
abbrev S1x4096x1x1 : Shape := ⟨4, ![1, 4096, 1, 1]⟩
abbrev S4x256x4x4096 : Shape := ⟨4, ![4, 256, 4, 4096]⟩

abbrev nBuf : Space → Nat
  | .hbm => 87
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S4x256x256, .bf16⟩
  | .hbm, ⟨2, _⟩ => ⟨S1x1024, .f32⟩
  | .hbm, ⟨3, _⟩ => ⟨S16384x1024, .f32⟩
  | .hbm, ⟨4, _⟩ => ⟨S4x4096x4x256, .f32⟩
  | .hbm, ⟨5, _⟩ => ⟨S_, .f32⟩
  | .hbm, ⟨6, _⟩ => ⟨S_, .f32⟩
  | .hbm, ⟨7, _⟩ => ⟨S4x4111x4x256, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4x4096x4x256, .f32⟩
  | .hbm, ⟨13, _⟩ => ⟨S4x4096x4x256, .f32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S4x4096x1x256, .f32⟩
  | .hbm, ⟨19, _⟩ => ⟨S4096x1x1, .f32⟩
  | .hbm, ⟨20, _⟩ => ⟨S1x4096x1x1, .f32⟩
  | .hbm, ⟨21, _⟩ => ⟨S4x4096x1x256, .f32⟩
  | .hbm, ⟨22, _⟩ => ⟨S4x4096x1x256, .f32⟩
  | .hbm, ⟨23, _⟩ => ⟨S4x4096x4x256, .f32⟩
  | .hbm, ⟨24, _⟩ => ⟨S4x4096x4x256, .f32⟩
  | .hbm, ⟨25, _⟩ => ⟨S4x4096x4x256, .f32⟩
  | .hbm, ⟨26, _⟩ => ⟨S4x4096x4x256, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S4x4096x1x256, .f32⟩
  | .hbm, ⟨32, _⟩ => ⟨S4096x1x1, .f32⟩
  | .hbm, ⟨33, _⟩ => ⟨S1x4096x1x1, .f32⟩
  | .hbm, ⟨34, _⟩ => ⟨S4x4096x1x256, .f32⟩
  | .hbm, ⟨35, _⟩ => ⟨S4x4096x1x256, .f32⟩
  | .hbm, ⟨36, _⟩ => ⟨S4x4096x4x256, .f32⟩
  | .hbm, ⟨37, _⟩ => ⟨S4x4096x4x256, .f32⟩
  | .hbm, ⟨38, _⟩ => ⟨S4x4096x4x256, .f32⟩
  | .hbm, ⟨39, _⟩ => ⟨S4x4096x4x256, .f32⟩
  | .hbm, ⟨40, _⟩ => ⟨S4x4096x4x256, .f32⟩
  | .hbm, ⟨41, _⟩ => ⟨S4x4096x4x256, .f32⟩
  | .hbm, ⟨42, _⟩ => ⟨S4x4096x4x256, .f32⟩
  | .hbm, ⟨43, _⟩ => ⟨S4x4096x4x256, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S4x4096x1x256, .f32⟩
  | .hbm, ⟨49, _⟩ => ⟨S4096x1x1, .f32⟩
  | .hbm, ⟨50, _⟩ => ⟨S1x4096x1x1, .f32⟩
  | .hbm, ⟨51, _⟩ => ⟨S4x4096x1x256, .f32⟩
  | .hbm, ⟨52, _⟩ => ⟨S4x4096x1x256, .f32⟩
  | .hbm, ⟨53, _⟩ => ⟨S4x4096x4x256, .f32⟩
  | .hbm, ⟨54, _⟩ => ⟨S4x4096x4x256, .f32⟩
  | .hbm, ⟨55, _⟩ => ⟨S4x4096x4x256, .f32⟩
  | .hbm, ⟨56, _⟩ => ⟨S4x4096x4x256, .f32⟩
  | .hbm, ⟨57, _⟩ => ⟨S4x4096x4x256, .f32⟩
  | .hbm, ⟨58, _⟩ => ⟨S4x4096x4x256, .f32⟩
  | .hbm, ⟨59, _⟩ => ⟨S4x4096x4x256, .f32⟩
  | .hbm, ⟨60, _⟩ => ⟨S4x4096x4x256, .f32⟩
  | .hbm, ⟨61, _⟩ => ⟨S4x4096x4x256, .f32⟩
  | .hbm, ⟨62, _⟩ => ⟨S4x4096x4x256, .f32⟩
  | .hbm, ⟨63, _⟩ => ⟨S4x4096x4x256, .f32⟩
  | .hbm, ⟨64, _⟩ => ⟨S4x4096x4x256, .f32⟩
  | .hbm, ⟨65, _⟩ => ⟨S4x4096x4x256, .f32⟩
  | .hbm, ⟨66, _⟩ => ⟨S4x4096x4x256, .f32⟩
  | .hbm, ⟨67, _⟩ => ⟨S4x4096x4x256, .f32⟩
  | .hbm, ⟨68, _⟩ => ⟨S4x4096x4x256, .f32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .f32⟩
  | .hbm, ⟨73, _⟩ => ⟨S4x4096x1x256, .f32⟩
  | .hbm, ⟨74, _⟩ => ⟨S4096x1x1, .f32⟩
  | .hbm, ⟨75, _⟩ => ⟨S1x4096x1x1, .f32⟩
  | .hbm, ⟨76, _⟩ => ⟨S4x4096x1x256, .f32⟩
  | .hbm, ⟨77, _⟩ => ⟨S4x4096x1x256, .f32⟩
  | .hbm, ⟨78, _⟩ => ⟨S4x4096x4x256, .f32⟩
  | .hbm, ⟨79, _⟩ => ⟨S4x4096x4x256, .f32⟩
  | .hbm, ⟨80, _⟩ => ⟨S4x256x256, .f32⟩
  | .hbm, ⟨81, _⟩ => ⟨S4x256x4x4096, .f32⟩
  | .hbm, ⟨82, _⟩ => ⟨S4x4096x4x256, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .bf16⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c_3 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩

abbrev nD : Nat := 1
abbrev τ : Topo := Topo.v7x

variable {F : FTy → Type} [FloatOps F]
-- ==== Prep.lean ====
abbrev S16384x3840 : Shape := ⟨2, ![16384, 3840]⟩
abbrev S4096x64 : Shape := ⟨2, ![4096, 64]⟩
abbrev S4x4x16x256x128 : Shape := ⟨5, ![4, 4, 16, 256, 128]⟩
abbrev S4x4x16x80x256 : Shape := ⟨5, ![4, 4, 16, 80, 256]⟩
abbrev S4x4x16x256x64 : Shape := ⟨5, ![4, 4, 16, 256, 64]⟩
abbrev S256x256 : Shape := ⟨2, ![256, 256]⟩
abbrev S256x64 : Shape := ⟨2, ![256, 64]⟩
abbrev S1x4x1x256x128 : Shape := ⟨5, ![1, 4, 1, 256, 128]⟩
abbrev S1x4x1x80x256 : Shape := ⟨5, ![1, 4, 1, 80, 256]⟩
abbrev S1x4x1x256x64 : Shape := ⟨5, ![1, 4, 1, 256, 64]⟩
abbrev S256x32 : Shape := ⟨2, ![256, 32]⟩
abbrev S1x1x1x256x64 : Shape := ⟨5, ![1, 1, 1, 256, 64]⟩
abbrev S16x256 : Shape := ⟨2, ![16, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩

abbrev nBuf : Space → Nat
  | .hbm => 7
  | .vmem => 20
  | .smem => 0
  | _ => 0

abbrev bufTy : (tb : Table) → Fin (tcTables nBuf tb) → BufTy
  | .hbm, ⟨0, _⟩ => ⟨S16384x3840, .f32⟩
  | .hbm, ⟨1, _⟩ => ⟨S4096x64, .f32⟩
  | .hbm, ⟨2, _⟩ => ⟨S4096x64, .f32⟩
  | .hbm, ⟨3, _⟩ => ⟨S4x4x16x256x128, .bf16⟩
  | .hbm, ⟨4, _⟩ => ⟨S4x4x16x80x256, .bf16⟩
  | .hbm, ⟨5, _⟩ => ⟨S4x4x16x256x64, .bf16⟩
  | .hbm, ⟨6, _⟩ => ⟨S4x4x16x80x256, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S1x4x1x256x128, .bf16⟩
  | .local _ .vmem, ⟨13, _⟩ => ⟨S1x4x1x256x128, .bf16⟩
  | .local _ .vmem, ⟨14, _⟩ => ⟨S1x4x1x80x256, .bf16⟩
  | .local _ .vmem, ⟨15, _⟩ => ⟨S1x4x1x80x256, .bf16⟩
  | .local _ .vmem, ⟨16, _⟩ => ⟨S1x4x1x256x64, .bf16⟩
  | .local _ .vmem, ⟨17, _⟩ => ⟨S1x4x1x256x64, .bf16⟩
  | .local _ .vmem, ⟨18, _⟩ => ⟨S1x4x1x80x256, .bf16⟩
  | .local _ .vmem, ⟨19, _⟩ => ⟨S1x4x1x80x256, .bf16⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c13_i32 : BitVec 32 := 13#32
  let c0_i32 : BitVec 32 := 0#32
  ![v1.toNat, c13_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepRefIdeal.lean ====
abbrev S16384x3840 : Shape := ⟨2, ![16384, 3840]⟩
abbrev S4096x64 : Shape := ⟨2, ![4096, 64]⟩
abbrev S64x64 : Shape := ⟨2, ![64, 64]⟩
abbrev S_ : Shape := ⟨0, ![]⟩
abbrev S64x1x64 : Shape := ⟨3, ![64, 1, 64]⟩
abbrev S64x64x64 : Shape := ⟨3, ![64, 64, 64]⟩
abbrev S16384x256 : Shape := ⟨2, ![16384, 256]⟩
abbrev S4x4096x4x64 : Shape := ⟨4, ![4, 4096, 4, 64]⟩
abbrev S4x4x4096x64 : Shape := ⟨4, ![4, 4, 4096, 64]⟩
abbrev S4x4x4096x32 : Shape := ⟨4, ![4, 4, 4096, 32]⟩
abbrev S4096x32 : Shape := ⟨2, ![4096, 32]⟩
abbrev S1x1x4096x32 : Shape := ⟨4, ![1, 1, 4096, 32]⟩
abbrev S4x4x4096x128 : Shape := ⟨4, ![4, 4, 4096, 128]⟩
abbrev S4x4x16x256x128 : Shape := ⟨5, ![4, 4, 16, 256, 128]⟩
abbrev S4x4x4096x16 : Shape := ⟨4, ![4, 4, 4096, 16]⟩
abbrev S4x4x4096x80 : Shape := ⟨4, ![4, 4, 4096, 80]⟩
abbrev S4x4x16x256x80 : Shape := ⟨5, ![4, 4, 16, 256, 80]⟩
abbrev S4x4x16x80x256 : Shape := ⟨5, ![4, 4, 16, 80, 256]⟩
abbrev S4x4x16x256x64 : Shape := ⟨5, ![4, 4, 16, 256, 64]⟩

abbrev nBuf : Space → Nat
  | .hbm => 85
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S4096x64, .f32⟩
  | .hbm, ⟨2, _⟩ => ⟨S4096x64, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .bf16⟩
  | .hbm, ⟨10, _⟩ => ⟨S64x1x64, .bf16⟩
  | .hbm, ⟨11, _⟩ => ⟨S64x64x64, .bf16⟩
  | .hbm, ⟨12, _⟩ => ⟨S4096x64, .bf16⟩
  | .hbm, ⟨13, _⟩ => ⟨S16384x256, .f32⟩
  | .hbm, ⟨14, _⟩ => ⟨S4x4096x4x64, .f32⟩
  | .hbm, ⟨15, _⟩ => ⟨S4x4x4096x64, .f32⟩
  | .hbm, ⟨16, _⟩ => ⟨S4x4x4096x32, .f32⟩
  | .hbm, ⟨17, _⟩ => ⟨S4x4x4096x32, .f32⟩
  | .hbm, ⟨18, _⟩ => ⟨S4096x32, .f32⟩
  | .hbm, ⟨19, _⟩ => ⟨S1x1x4096x32, .f32⟩
  | .hbm, ⟨20, _⟩ => ⟨S4x4x4096x32, .f32⟩
  | .hbm, ⟨21, _⟩ => ⟨S4x4x4096x32, .f32⟩
  | .hbm, ⟨22, _⟩ => ⟨S4096x32, .f32⟩
  | .hbm, ⟨23, _⟩ => ⟨S1x1x4096x32, .f32⟩
  | .hbm, ⟨24, _⟩ => ⟨S4x4x4096x32, .f32⟩
  | .hbm, ⟨25, _⟩ => ⟨S4x4x4096x32, .f32⟩
  | .hbm, ⟨26, _⟩ => ⟨S4x4x4096x32, .f32⟩
  | .hbm, ⟨27, _⟩ => ⟨S4096x32, .f32⟩
  | .hbm, ⟨28, _⟩ => ⟨S1x1x4096x32, .f32⟩
  | .hbm, ⟨29, _⟩ => ⟨S4x4x4096x32, .f32⟩
  | .hbm, ⟨30, _⟩ => ⟨S4x4x4096x32, .f32⟩
  | .hbm, ⟨31, _⟩ => ⟨S4096x32, .f32⟩
  | .hbm, ⟨32, _⟩ => ⟨S1x1x4096x32, .f32⟩
  | .hbm, ⟨33, _⟩ => ⟨S4x4x4096x32, .f32⟩
  | .hbm, ⟨34, _⟩ => ⟨S4x4x4096x32, .f32⟩
  | .hbm, ⟨35, _⟩ => ⟨S4x4x4096x32, .f32⟩
  | .hbm, ⟨36, _⟩ => ⟨S4x4x4096x64, .f32⟩
  | .hbm, ⟨37, _⟩ => ⟨S4x4x4096x64, .bf16⟩
  | .hbm, ⟨38, _⟩ => ⟨S4x4x4096x64, .bf16⟩
  | .hbm, ⟨39, _⟩ => ⟨S4x4x4096x128, .bf16⟩
  | .hbm, ⟨40, _⟩ => ⟨S4x4x16x256x128, .bf16⟩
  | .hbm, ⟨41, _⟩ => ⟨S16384x256, .f32⟩
  | .hbm, ⟨42, _⟩ => ⟨S4x4096x4x64, .f32⟩
  | .hbm, ⟨43, _⟩ => ⟨S4x4x4096x64, .f32⟩
  | .hbm, ⟨44, _⟩ => ⟨S4x4x4096x64, .bf16⟩
  | .hbm, ⟨45, _⟩ => ⟨S_, .bf16⟩
  | .hbm, ⟨46, _⟩ => ⟨S4x4x4096x16, .bf16⟩
  | .hbm, ⟨47, _⟩ => ⟨S4x4x4096x80, .bf16⟩
  | .hbm, ⟨48, _⟩ => ⟨S4x4x16x256x80, .bf16⟩
  | .hbm, ⟨49, _⟩ => ⟨S4x4x16x80x256, .bf16⟩
  | .hbm, ⟨50, _⟩ => ⟨S16384x256, .f32⟩
  | .hbm, ⟨51, _⟩ => ⟨S4x4096x4x64, .f32⟩
  | .hbm, ⟨52, _⟩ => ⟨S4x4x4096x64, .f32⟩
  | .hbm, ⟨53, _⟩ => ⟨S4x4x4096x32, .f32⟩
  | .hbm, ⟨54, _⟩ => ⟨S4x4x4096x32, .f32⟩
  | .hbm, ⟨55, _⟩ => ⟨S4096x32, .f32⟩
  | .hbm, ⟨56, _⟩ => ⟨S1x1x4096x32, .f32⟩
  | .hbm, ⟨57, _⟩ => ⟨S4x4x4096x32, .f32⟩
  | .hbm, ⟨58, _⟩ => ⟨S4x4x4096x32, .f32⟩
  | .hbm, ⟨59, _⟩ => ⟨S4096x32, .f32⟩
  | .hbm, ⟨60, _⟩ => ⟨S1x1x4096x32, .f32⟩
  | .hbm, ⟨61, _⟩ => ⟨S4x4x4096x32, .f32⟩
  | .hbm, ⟨62, _⟩ => ⟨S4x4x4096x32, .f32⟩
  | .hbm, ⟨63, _⟩ => ⟨S4x4x4096x32, .f32⟩
  | .hbm, ⟨64, _⟩ => ⟨S4096x32, .f32⟩
  | .hbm, ⟨65, _⟩ => ⟨S1x1x4096x32, .f32⟩
  | .hbm, ⟨66, _⟩ => ⟨S4x4x4096x32, .f32⟩
  | .hbm, ⟨67, _⟩ => ⟨S4x4x4096x32, .f32⟩
  | .hbm, ⟨68, _⟩ => ⟨S4096x32, .f32⟩
  | .hbm, ⟨69, _⟩ => ⟨S1x1x4096x32, .f32⟩
  | .hbm, ⟨70, _⟩ => ⟨S4x4x4096x32, .f32⟩
  | .hbm, ⟨71, _⟩ => ⟨S4x4x4096x32, .f32⟩
  | .hbm, ⟨72, _⟩ => ⟨S4x4x4096x32, .f32⟩
  | .hbm, ⟨73, _⟩ => ⟨S4x4x4096x64, .f32⟩
  | .hbm, ⟨74, _⟩ => ⟨S4x4x4096x64, .bf16⟩
  | .hbm, ⟨75, _⟩ => ⟨S4x4x16x256x64, .bf16⟩
  | .hbm, ⟨76, _⟩ => ⟨S16384x256, .f32⟩
  | .hbm, ⟨77, _⟩ => ⟨S4x4096x4x64, .f32⟩
  | .hbm, ⟨78, _⟩ => ⟨S4x4x4096x64, .f32⟩
  | .hbm, ⟨79, _⟩ => ⟨S4x4x4096x64, .bf16⟩
  | .hbm, ⟨80, _⟩ => ⟨S_, .bf16⟩
  | .hbm, ⟨81, _⟩ => ⟨S4x4x4096x16, .bf16⟩
  | .hbm, ⟨82, _⟩ => ⟨S4x4x4096x80, .bf16⟩
  | .hbm, ⟨83, _⟩ => ⟨S4x4x16x256x80, .bf16⟩
  | .hbm, ⟨84, _⟩ => ⟨S4x4x16x80x256, .bf16⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_cst_0 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩

abbrev nD : Nat := 1
abbrev τ : Topo := Topo.v7x

variable {F : FTy → Type} [FloatOps F]
-- ==== Proof.AttnIdealKeeps.lean ====
module

public import proofs.«01_k».proof.Proof.Gen.AttentionIdeal.Skeleton
public import Idealize.ShloMosaic.Lib.Pipeline.FrameBody
public import Idealize.ShloMosaic.Lib.Tactic

/-! # Programs that keep a resource

A body that only loads and stores within buffers it holds gives every one of them back. This module states that
property of a program, `Keeps`, and proves it of loads, stores, sequencing, branching and counted loops. -/

@[expose] public section

namespace Cert.AttentionIdeal.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Holding `I` gives the buffer behind `m` at some contents, and `I` back once it is returned as it was. -/
class Reads (c : Dev nD) (I : sProp 𝕄) {cs : CoreSpace} {s : Shape} {e : EltTy} (m : Memref sig .tc cs s e) : Prop where
  out : I ⊢ iprop(∃ f, (m.view.loc (c : Thread nD τ) ↦{fullShare} f) ∗ ((m.view.loc (c : Thread nD τ) ↦{fullShare} f) -∗ I))

/-- Holding `I` gives the buffer behind `m` at some contents, and `I` back once it is returned at any contents. -/
class Writes (c : Dev nD) (I : sProp 𝕄) {cs : CoreSpace} {s : Shape} {e : EltTy} (m : Memref sig .tc cs s e) : Prop where
  out : I ⊢ iprop(∃ f, (m.view.loc (c : Thread nD τ) ↦{fullShare} f) ∗ (∀ g, (m.view.loc (c : Thread nD τ) ↦{fullShare} g) -∗ I))

/-- Running `p` from `I` ends holding `I`, whatever it returns. -/
class Keeps (c : Dev nD) (I : sProp 𝕄) {α : Type} (p : Prog (TpuEff nD τ sig (Elt F) Λ₀ .tc) α) : Prop where
  run : I ⊢ wp frame (wpE (defs₀ (F := F)) Variants.none (c : Thread nD τ) none) Set.univ p (fun _ => I)

variable {c : Dev nD} {I : sProp (MT nD τ sig Unit (Elt F) ℕ (UR sig nD τ) ℕ)}

/-- A buffer that may be written may be read. -/
instance reads_of_writes {cs : CoreSpace} {s : Shape} {e : EltTy} {m : Memref sig .tc cs s e} [h : Writes c I m] : Reads c I m where
  out := by
    refine h.out.trans ?_
    iintro ⟨%f, H, Hk⟩
    iexists f
    isplitl [H]; · iexact H
    iapply Hk

/-- Returning a value keeps everything. -/
instance keeps_pure {α : Type} (a : α) : Keeps c I (pure a : Prog (TpuEff nD τ sig (Elt F) Λ₀ .tc) α) where
  run := by rw [wp_pure]; exact fupd_intro

/-- One program after another. -/
theorem keeps_bind {α β : Type} {p : Prog (TpuEff nD τ sig (Elt F) Λ₀ .tc) α} {k : α → Prog (TpuEff nD τ sig (Elt F) Λ₀ .tc) β}
    (hp : Keeps c I p) (hk : ∀ a, Keeps c I (k a)) : Keeps c I (p >>= k) where
  run := by rw [wp_bind]; exact hp.run.trans (wp_mono _ _ _ fun a => (hk a).run)

/-- A load from a buffer held. -/
instance keeps_load {cs : CoreSpace} {s : Shape} {e : EltTy} {m : Memref sig .tc cs s e} [h : Reads c I m] {r : LoadRect s}
    {hl : m.view.LoadsAt r} :
    Keeps c I (Prog.lift (.load m r hl) : Prog (TpuEff nD τ sig (Elt F) Λ₀ .tc) _) where
  run := by
    refine h.out.trans ?_
    iintro ⟨%f, H, Hk⟩
    iapply (wp_load Variants.none (c : Thread nD τ) none Set.univ (Finset.subset_univ _)) $$ H
    iintro H
    rw [wp_ret]
    imodintro
    iapply Hk; iexact H

/-- A store to a buffer held. -/
instance keeps_store {cs : CoreSpace} {s : Shape} {e : EltTy} {m : Memref sig .tc cs s e} [h : Writes c I m] {r : Rect s}
    {w : r.shape.Idx → Elt F e} {Mk : Finset r.shape.Idx} {hx : (m.access r).Stores Mk}
    {hm : Mk = Finset.univ ∨ ∀ a, r.stride a = 1} :
    Keeps c I (Prog.lift (.store m r w Mk hx hm) : Prog (TpuEff nD τ sig (Elt F) Λ₀ .tc) _) where
  run := by
    refine h.out.trans ?_
    iintro ⟨%f, H, Hk⟩
    iapply (wp_store (m := m) (r := r) (w := w) (Mk := Mk) (hx := hx) (hm := hm) (f := f) (S := Finset.univ) Variants.none
      (c : Thread nD τ) none Set.univ (Finset.subset_univ _)) $$ H
    iintro H
    rw [wp_ret]
    imodintro
    iapply Hk; iexact H

/-- A counted loop whose every trip keeps what is held. -/
theorem keeps_for {w : Nat} {σ : Type} {lb ub st : BitVec w} {hok : Scf.OK lb ub st} {init : σ}
    {body : Fin (Scf.trips lb ub st) → σ → Prog (TpuEff nD τ sig (Elt F) Λ₀ .tc) σ}
    (hb : ∀ k acc, Keeps c I (body k acc)) : Keeps c I (Scf.for lb ub st hok init body) where
  run := by
    iintro HI
    iapply (Scf.wp_for _ _ _ lb ub st hok init body (fun _ _ => I) (fun k acc => (hb k acc).run))
    isplitl [HI]; · iexact HI
    iintro %acc H; iexact H

/-- A part of a buffer held is held. -/
instance reads_slice {cs : CoreSpace} {s : Shape} {e : EltTy} {m : Memref sig .tc cs s e} [h : Reads c I m] {r : Rect s} {hr} :
    Reads c I (m.slice r hr) where
  out := h.out

instance writes_slice {cs : CoreSpace} {s : Shape} {e : EltTy} {m : Memref sig .tc cs s e} [h : Writes c I m] {r : Rect s} {hr} :
    Writes c I (m.slice r hr) where
  out := h.out

/-- So is a buffer seen without its unit axes. -/
instance reads_squeeze {cs : CoreSpace} {s s' : Shape} {e : EltTy} {m : Memref sig .tc cs s e} [h : Reads c I m] {hs} :
    Reads c I (m.squeeze s' hs) where
  out := h.out

instance writes_squeeze {cs : CoreSpace} {s s' : Shape} {e : EltTy} {m : Memref sig .tc cs s e} [h : Writes c I m] {hs} :
    Writes c I (m.squeeze s' hs) where
  out := h.out

/-- A load from a part, seen without its unit axes, of a buffer held. -/
theorem load_part {cs : CoreSpace} {s s' : Shape} {e : EltTy} {m : Memref sig .tc cs s e} [Reads c I m] {r₀ : Rect s} {hr hs}
    {r : LoadRect s'} {hl : ((m.slice r₀ hr).squeeze s' hs).view.LoadsAt r} :
    Keeps c I (Prog.lift (.load ((m.slice r₀ hr).squeeze s' hs) r hl) : Prog (TpuEff nD τ sig (Elt F) Λ₀ .tc) _) :=
  keeps_load (h := reads_squeeze (h := reads_slice))

/-- A store to such a part. -/
theorem store_part {cs : CoreSpace} {s s' : Shape} {e : EltTy} {m : Memref sig .tc cs s e} [Writes c I m] {r₀ : Rect s} {hr hs}
    {r : Rect s'} {w : r.shape.Idx → Elt F e} {Mk : Finset r.shape.Idx} {hx : (((m.slice r₀ hr).squeeze s' hs).access r).Stores Mk}
    {hm : Mk = Finset.univ ∨ ∀ a, r.stride a = 1} :
    Keeps c I (Prog.lift (.store ((m.slice r₀ hr).squeeze s' hs) r w Mk hx hm) : Prog (TpuEff nD τ sig (Elt F) Λ₀ .tc) _) :=
  keeps_store (h := writes_squeeze (h := writes_slice))

/-- What the left of two resources gives, both give. -/
instance writes_left {A B : sProp 𝕄} {cs : CoreSpace} {s : Shape} {e : EltTy} {m : Memref sig .tc cs s e} [h : Writes c A m] :
    Writes c iprop(A ∗ B) m where
  out := by
    iintro ⟨HA, HB⟩
    ihave H := h.out $$ HA
    icases H with ⟨%f, H, Hk⟩
    iexists f
    isplitl [H]; · iexact H
    iintro %g Hg
    isplitl [Hk Hg]
    · iapply Hk; iexact Hg
    iexact HB

/-- What the right of two resources gives, both give. -/
instance writes_right {A B : sProp 𝕄} {cs : CoreSpace} {s : Shape} {e : EltTy} {m : Memref sig .tc cs s e} [h : Writes c B m] :
    Writes c iprop(A ∗ B) m where
  out := by
    iintro ⟨HA, HB⟩
    ihave H := h.out $$ HB
    icases H with ⟨%f, H, Hk⟩
    iexists f
    isplitl [H]; · iexact H
    iintro %g Hg
    isplitl [HA]; · iexact HA
    iapply Hk; iexact Hg

instance reads_left {A B : sProp 𝕄} {cs : CoreSpace} {s : Shape} {e : EltTy} {m : Memref sig .tc cs s e} [h : Reads c A m] :
    Reads c iprop(A ∗ B) m where
  out := by
    iintro ⟨HA, HB⟩
    ihave H := h.out $$ HA
    icases H with ⟨%f, H, Hk⟩
    iexists f
    isplitl [H]; · iexact H
    iintro Hg
    isplitl [Hk Hg]
    · iapply Hk; iexact Hg
    iexact HB

instance reads_right {A B : sProp 𝕄} {cs : CoreSpace} {s : Shape} {e : EltTy} {m : Memref sig .tc cs s e} [h : Reads c B m] :
    Reads c iprop(A ∗ B) m where
  out := by
    iintro ⟨HA, HB⟩
    ihave H := h.out $$ HB
    icases H with ⟨%f, H, Hk⟩
    iexists f
    isplitl [H]; · iexact H
    iintro Hg
    isplitl [HA]; · iexact HA
    iapply Hk; iexact Hg

/-- A buffer at stated contents may be read. -/
instance reads_at {cs : CoreSpace} {s : Shape} {e : EltTy} {m : Memref sig .tc cs s e} {f : Buf (Elt F) (m.view.loc (c : Thread nD τ))} :
    Reads c iprop(m.view.loc (c : Thread nD τ) ↦{fullShare} f) m where
  out := by
    iintro H
    iexists f
    isplitl [H]; · iexact H
    iintro H; iexact H

/-- A buffer at some contents may be written. -/
instance writes_some {cs : CoreSpace} {s : Shape} {e : EltTy} {m : Memref sig .tc cs s e} :
    Writes c iprop(∃ f : Buf (Elt F) (m.view.loc (c : Thread nD τ)), m.view.loc (c : Thread nD τ) ↦{fullShare} f) m where
  out := by
    iintro ⟨%f, H⟩
    iexists f
    isplitl [H]; · iexact H
    iintro %g H; iexists g; iexact H

/-- A whole buffer owned at stated contents may be read. -/
theorem reads_owns {sh : Shape} {e : EltTy} {m : Memref sig .tc .vmem sh e} (hm : m.IsWhole) {X : sh.Idx → Elt F e} :
    Reads c (owns (c : Thread nD τ) m fullShare X) m where
  out := by
    unfold owns
    rw [hm.set_eq_univ]
    iintro ⟨%f, %hf, H⟩
    iexists f
    isplitl [H]; · iexact H
    iintro H
    iexists f
    isplitr; · ipureintro; exact hf
    iexact H

/-- A whole buffer owned at some contents may be written. -/
theorem writes_owns {sh : Shape} {e : EltTy} {m : Memref sig .tc .vmem sh e} (hm : m.IsWhole) :
    Writes c iprop(∃ X : sh.Idx → Elt F e, owns (c : Thread nD τ) m fullShare X) m where
  out := by
    unfold owns
    rw [hm.set_eq_univ]
    iintro ⟨%X, %f, %hf, H⟩
    iexists f
    isplitl [H]; · iexact H
    iintro %g H
    iexists _, g
    isplitr; · ipureintro; rfl
    iexact H

end Cert.AttentionIdeal.Held
end
-- ==== Proof.AttnIdealPartsA.lean ====
module

public import proofs.«01_k».proof.Proof.AttnIdealKeeps

/-! # The parts of the attention body keep what they hold: the first half -/

@[expose] public section

namespace Cert.AttentionIdeal.Held

open Idealize.ShloMosaic Idealize.ShloMosaic.TcCoe
open Idealize.SL Idealize.SL.RA Idealize.SL.BI
open Cert.AttentionIdeal.Gen

variable {F : FTy → Type} [FloatOps F] [Named F]
variable {c : Dev nD} {I : sProp (MT nD τ sig Unit (Elt F) ℕ (UR sig nD τ) ℕ)} {i : grid0.Coords}
variable {a3 : Memref sig .tc .vmem S256x256 .f32} {h3 : a3.IsWhole}
variable {a4 : Memref sig .tc .vmem S32x256 .f32} {h4 : a4.IsWhole}
variable {a5 : Memref sig .tc .vmem S32x256 .f32} {h5 : a5.IsWhole}
variable {a6 : Memref sig .tc .vmem S256x128 .f32} {h6 : a6.IsWhole}
variable {a7 : Memref sig .tc .vmem S1x1x256x64 .bf16} {h7 : a7.IsWhole}
variable {a8 : Memref sig .tc .vmem S1x1x64x256 .bf16} {h8 : a8.IsWhole}
variable {a9 : Memref sig .tc .vmem S1x1x16x256x128 .bf16} {h9 : a9.IsWhole}
variable {a10 : Memref sig .tc .vmem S1x1x16x80x256 .bf16} {h10 : a10.IsWhole}
variable {a11 : Memref sig .tc .vmem S1x1x16x256x64 .bf16} {h11 : a11.IsWhole}
variable {a12 : Memref sig .tc .vmem S1x1x16x80x256 .bf16} {h12 : a12.IsWhole}
variable {a13 : Memref sig .tc .vmem S64x256 .bf16} {h13 : a13.IsWhole}
variable {a14 : Memref sig .tc .vmem S256x256 .bf16} {h14 : a14.IsWhole}
variable {a15 : Memref sig .tc .vmem S4x128x256 .bf16} {h15 : a15.IsWhole}
variable {a16 : Memref sig .tc .vmem S128x256 .f32} {h16 : a16.IsWhole}
variable {a17 : Memref sig .tc .vmem S64x256 .f32} {h17 : a17.IsWhole}
variable {a18 : Memref sig .tc .vmem S4x1x256 .f32} {h18 : a18.IsWhole}
variable {a19 : Memref sig .tc .vmem S4x1x256 .f32} {h19 : a19.IsWhole}
variable {a20 : Memref sig .tc .vmem S4x80x256 .f32} {h20 : a20.IsWhole}
variable {a21 : Memref sig .tc .vmem S256x256 .f32} {h21 : a21.IsWhole}
variable {a22 : Memref sig .tc .vmem S4x256x256 .f32} {h22 : a22.IsWhole}
variable {a23 : Memref sig .tc .vmem S4x256x256 .bf16} {h23 : a23.IsWhole}
variable {a24 : Memref sig .tc .vmem S256x256 .f32} {h24 : a24.IsWhole}
variable {a25 : Memref sig .tc .vmem S2x4x256x256 .f32} {h25 : a25.IsWhole}
variable {a26 : Memref sig .tc .vmem S4x256x256 .bf16} {h26 : a26.IsWhole}
variable {a27 : Memref sig .tc .vmem S4x1x256 .f32} {h27 : a27.IsWhole}
variable {a28 : Memref sig .tc .vmem S4x1x256 .f32} {h28 : a28.IsWhole}
variable {a29 : Memref sig .tc .vmem S4x80x256 .f32} {h29 : a29.IsWhole}
variable {a30 : Memref sig .tc .vmem S3x4x256x256 .f32} {h30 : a30.IsWhole}
variable {a31 : Memref sig .tc .vmem S4x256x256 .bf16} {h31 : a31.IsWhole}
variable [Reads c I a3] [Reads c I a4] [Reads c I a5] [Reads c I a6] [Reads c I a7] [Reads c I a8] [Reads c I a9] [Reads c I a10] [Reads c I a11] [Reads c I a12] [Reads c I a13]
variable [Writes c I a14] [Writes c I a15] [Writes c I a16] [Writes c I a17] [Writes c I a18] [Writes c I a19] [Writes c I a20] [Writes c I a21] [Writes c I a22] [Writes c I a23] [Writes c I a24] [Writes c I a25] [Writes c I a26] [Writes c I a27] [Writes c I a28] [Writes c I a29] [Writes c I a30] [Writes c I a31]

instance part1 {y0} {y1} {y2} : Keeps c I (k0_part1 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part1_eq_skeleton]; unfold k0_part1_skel
  repeat' first | with_reducible refine keeps_bind ?_ fun _ => ?_ | with_reducible infer_instance | exact keeps_load | exact keeps_store | exact load_part | exact store_part | split | refine keeps_for fun _ _ => ?_

instance part2 {y0} {y1} {y2} {y3} {y4} : Keeps c I (k0_part2 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part2_eq_skeleton]; unfold k0_part2_skel
  repeat' first | with_reducible refine keeps_bind ?_ fun _ => ?_ | with_reducible infer_instance | exact keeps_load | exact keeps_store | exact load_part | exact store_part | split | refine keeps_for fun _ _ => ?_

instance part3 {y0} {y1} {y2} : Keeps c I (k0_part3 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part3_eq_skeleton]; unfold k0_part3_skel
  repeat' first | with_reducible refine keeps_bind ?_ fun _ => ?_ | with_reducible infer_instance | exact keeps_load | exact keeps_store | exact load_part | exact store_part | split | refine keeps_for fun _ _ => ?_

instance part4 {y0} {y1} {y2} {y3} : Keeps c I (k0_part4 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part4_eq_skeleton]; unfold k0_part4_skel
  repeat' first | with_reducible refine keeps_bind ?_ fun _ => ?_ | with_reducible infer_instance | exact keeps_load | exact keeps_store | exact load_part | exact store_part | split | refine keeps_for fun _ _ => ?_

instance part5 {y0} : Keeps c I (k0_part5 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part5_eq_skeleton]; unfold k0_part5_skel
  repeat' first | with_reducible refine keeps_bind ?_ fun _ => ?_ | with_reducible infer_instance | exact keeps_load | exact keeps_store | exact load_part | exact store_part | split | refine keeps_for fun _ _ => ?_

instance part6 {y0} : Keeps c I (k0_part6 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part6_eq_skeleton]; unfold k0_part6_skel
  repeat' first | with_reducible refine keeps_bind ?_ fun _ => ?_ | with_reducible infer_instance | exact keeps_load | exact keeps_store | exact load_part | exact store_part | split | refine keeps_for fun _ _ => ?_

instance part7 {y0} {y1} {y2} {y3} : Keeps c I (k0_part7 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part7_eq_skeleton]; unfold k0_part7_skel
  repeat' first | with_reducible refine keeps_bind ?_ fun _ => ?_ | with_reducible infer_instance | exact keeps_load | exact keeps_store | exact load_part | exact store_part | split | refine keeps_for fun _ _ => ?_

instance part8 {y0} : Keeps c I (k0_part8 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part8_eq_skeleton]; unfold k0_part8_skel
  repeat' first | with_reducible refine keeps_bind ?_ fun _ => ?_ | with_reducible infer_instance | exact keeps_load | exact keeps_store | exact load_part | exact store_part | split | refine keeps_for fun _ _ => ?_

instance part9 {y0} {y1} : Keeps c I (k0_part9 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part9_eq_skeleton]; unfold k0_part9_skel
  repeat' first | with_reducible refine keeps_bind ?_ fun _ => ?_ | with_reducible infer_instance | exact keeps_load | exact keeps_store | exact load_part | exact store_part | split | refine keeps_for fun _ _ => ?_

instance part10 {y0} {y1} {y2} {y3} : Keeps c I (k0_part10 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part10_eq_skeleton]; unfold k0_part10_skel
  repeat' first | with_reducible refine keeps_bind ?_ fun _ => ?_ | with_reducible infer_instance | exact keeps_load | exact keeps_store | exact load_part | exact store_part | split | refine keeps_for fun _ _ => ?_

instance part11 {y0} {y1} : Keeps c I (k0_part11 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part11_eq_skeleton]; unfold k0_part11_skel
  repeat' first | with_reducible refine keeps_bind ?_ fun _ => ?_ | with_reducible infer_instance | exact keeps_load | exact keeps_store | exact load_part | exact store_part | split | refine keeps_for fun _ _ => ?_

instance part12 {y0} {y1} {y2} {y3} : Keeps c I (k0_part12 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part12_eq_skeleton]; unfold k0_part12_skel
  repeat' first | with_reducible refine keeps_bind ?_ fun _ => ?_ | with_reducible infer_instance | exact keeps_load | exact keeps_store | exact load_part | exact store_part | split | refine keeps_for fun _ _ => ?_

instance part13 {y0} : Keeps c I (k0_part13 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part13_eq_skeleton]; unfold k0_part13_skel
  repeat' first | with_reducible refine keeps_bind ?_ fun _ => ?_ | with_reducible infer_instance | exact keeps_load | exact keeps_store | exact load_part | exact store_part | split | refine keeps_for fun _ _ => ?_

instance part14 : Keeps c I (k0_part14 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part14_eq_skeleton]; unfold k0_part14_skel
  repeat' first | with_reducible refine keeps_bind ?_ fun _ => ?_ | with_reducible infer_instance | exact keeps_load | exact keeps_store | exact load_part | exact store_part | split | refine keeps_for fun _ _ => ?_

instance part15 {y0} {y1} {y2} {y3} : Keeps c I (k0_part15 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part15_eq_skeleton]; unfold k0_part15_skel
  repeat' first | with_reducible refine keeps_bind ?_ fun _ => ?_ | with_reducible infer_instance | exact keeps_load | exact keeps_store | exact load_part | exact store_part | split | refine keeps_for fun _ _ => ?_

instance part16 {y0} {y1} {y2} : Keeps c I (k0_part16 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part16_eq_skeleton]; unfold k0_part16_skel
  repeat' first | with_reducible refine keeps_bind ?_ fun _ => ?_ | with_reducible infer_instance | exact keeps_load | exact keeps_store | exact load_part | exact store_part | split | refine keeps_for fun _ _ => ?_

instance part17 : Keeps c I (k0_part17 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part17_eq_skeleton]; unfold k0_part17_skel
  repeat' first | with_reducible refine keeps_bind ?_ fun _ => ?_ | with_reducible infer_instance | exact keeps_load | exact keeps_store | exact load_part | exact store_part | split | refine keeps_for fun _ _ => ?_

instance part18 {y0} {y1} {y2} : Keeps c I (k0_part18 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part18_eq_skeleton]; unfold k0_part18_skel
  repeat' first | with_reducible refine keeps_bind ?_ fun _ => ?_ | with_reducible infer_instance | exact keeps_load | exact keeps_store | exact load_part | exact store_part | split | refine keeps_for fun _ _ => ?_

instance part19 {y0} : Keeps c I (k0_part19 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part19_eq_skeleton]; unfold k0_part19_skel
  repeat' first | with_reducible refine keeps_bind ?_ fun _ => ?_ | with_reducible infer_instance | exact keeps_load | exact keeps_store | exact load_part | exact store_part | split | refine keeps_for fun _ _ => ?_

instance part20 {y0} {y1} {y2} {y3} : Keeps c I (k0_part20 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part20_eq_skeleton]; unfold k0_part20_skel
  repeat' first | with_reducible refine keeps_bind ?_ fun _ => ?_ | with_reducible infer_instance | exact keeps_load | exact keeps_store | exact load_part | exact store_part | split | refine keeps_for fun _ _ => ?_

instance part21 {y0} {y1} {y2} {y3} {y4} : Keeps c I (k0_part21 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part21_eq_skeleton]; unfold k0_part21_skel
  repeat' first | with_reducible refine keeps_bind ?_ fun _ => ?_ | with_reducible infer_instance | exact keeps_load | exact keeps_store | exact load_part | exact store_part | split | refine keeps_for fun _ _ => ?_

instance part22 : Keeps c I (k0_part22 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part22_eq_skeleton]; unfold k0_part22_skel
  repeat' first | with_reducible refine keeps_bind ?_ fun _ => ?_ | with_reducible infer_instance | exact keeps_load | exact keeps_store | exact load_part | exact store_part | split | refine keeps_for fun _ _ => ?_

instance part23 {y0} {y1} : Keeps c I (k0_part23 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part23_eq_skeleton]; unfold k0_part23_skel
  repeat' first | with_reducible refine keeps_bind ?_ fun _ => ?_ | with_reducible infer_instance | exact keeps_load | exact keeps_store | exact load_part | exact store_part | split | refine keeps_for fun _ _ => ?_

instance part24 {y0} {y1} {y2} : Keeps c I (k0_part24 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part24_eq_skeleton]; unfold k0_part24_skel
  repeat' first | with_reducible refine keeps_bind ?_ fun _ => ?_ | with_reducible infer_instance | exact keeps_load | exact keeps_store | exact load_part | exact store_part | split | refine keeps_for fun _ _ => ?_

instance part25 {y0} {y1} : Keeps c I (k0_part25 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part25_eq_skeleton]; unfold k0_part25_skel
  repeat' first | with_reducible refine keeps_bind ?_ fun _ => ?_ | with_reducible infer_instance | exact keeps_load | exact keeps_store | exact load_part | exact store_part | split | refine keeps_for fun _ _ => ?_

instance part26 {y0} : Keeps c I (k0_part26 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part26_eq_skeleton]; unfold k0_part26_skel
  repeat' first | with_reducible refine keeps_bind ?_ fun _ => ?_ | with_reducible infer_instance | exact keeps_load | exact keeps_store | exact load_part | exact store_part | split | refine keeps_for fun _ _ => ?_

instance part27 {y0} {y1} {y2} {y3} : Keeps c I (k0_part27 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part27_eq_skeleton]; unfold k0_part27_skel
  repeat' first | with_reducible refine keeps_bind ?_ fun _ => ?_ | with_reducible infer_instance | exact keeps_load | exact keeps_store | exact load_part | exact store_part | split | refine keeps_for fun _ _ => ?_

instance part28 {y0} {y1} : Keeps c I (k0_part28 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part28_eq_skeleton]; unfold k0_part28_skel
  repeat' first | with_reducible refine keeps_bind ?_ fun _ => ?_ | with_reducible infer_instance | exact keeps_load | exact keeps_store | exact load_part | exact store_part | split | refine keeps_for fun _ _ => ?_

instance part29 {y0} {y1} {y2} {y3} : Keeps c I (k0_part29 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part29_eq_skeleton]; unfold k0_part29_skel
  repeat' first | with_reducible refine keeps_bind ?_ fun _ => ?_ | with_reducible infer_instance | exact keeps_load | exact keeps_store | exact load_part | exact store_part | split | refine keeps_for fun _ _ => ?_

instance part30 {y0} {y1} {y2} : Keeps c I (k0_part30 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part30_eq_skeleton]; unfold k0_part30_skel
  repeat' first | with_reducible refine keeps_bind ?_ fun _ => ?_ | with_reducible infer_instance | exact keeps_load | exact keeps_store | exact load_part | exact store_part | split | refine keeps_for fun _ _ => ?_

instance part31 {y0} {y1} {y2} {y3} {y4} : Keeps c I (k0_part31 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part31_eq_skeleton]; unfold k0_part31_skel
  repeat' first | with_reducible refine keeps_bind ?_ fun _ => ?_ | with_reducible infer_instance | exact keeps_load | exact keeps_store | exact load_part | exact store_part | split | refine keeps_for fun _ _ => ?_

instance part32 {y0} {y1} {y2} : Keeps c I (k0_part32 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part32_eq_skeleton]; unfold k0_part32_skel
  repeat' first | with_reducible refine keeps_bind ?_ fun _ => ?_ | with_reducible infer_instance | exact keeps_load | exact keeps_store | exact load_part | exact store_part | split | refine keeps_for fun _ _ => ?_

instance part33 {y0} : Keeps c I (k0_part33 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part33_eq_skeleton]; unfold k0_part33_skel
  repeat' first | with_reducible refine keeps_bind ?_ fun _ => ?_ | with_reducible infer_instance | exact keeps_load | exact keeps_store | exact load_part | exact store_part | split | refine keeps_for fun _ _ => ?_

instance part34 {y0} : Keeps c I (k0_part34 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part34_eq_skeleton]; unfold k0_part34_skel
  repeat' first | with_reducible refine keeps_bind ?_ fun _ => ?_ | with_reducible infer_instance | exact keeps_load | exact keeps_store | exact load_part | exact store_part | split | refine keeps_for fun _ _ => ?_

instance part35 {y0} {y1} {y2} : Keeps c I (k0_part35 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part35_eq_skeleton]; unfold k0_part35_skel
  repeat' first | with_reducible refine keeps_bind ?_ fun _ => ?_ | with_reducible infer_instance | exact keeps_load | exact keeps_store | exact load_part | exact store_part | split | refine keeps_for fun _ _ => ?_

instance part36 {y0} {y1} {y2} : Keeps c I (k0_part36 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part36_eq_skeleton]; unfold k0_part36_skel
  repeat' first | with_reducible refine keeps_bind ?_ fun _ => ?_ | with_reducible infer_instance | exact keeps_load | exact keeps_store | exact load_part | exact store_part | split | refine keeps_for fun _ _ => ?_

instance part37 {y0} : Keeps c I (k0_part37 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part37_eq_skeleton]; unfold k0_part37_skel
  repeat' first | with_reducible refine keeps_bind ?_ fun _ => ?_ | with_reducible infer_instance | exact keeps_load | exact keeps_store | exact load_part | exact store_part | split | refine keeps_for fun _ _ => ?_

instance part38 {y0} {y1} : Keeps c I (k0_part38 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part38_eq_skeleton]; unfold k0_part38_skel
  repeat' first | with_reducible refine keeps_bind ?_ fun _ => ?_ | with_reducible infer_instance | exact keeps_load | exact keeps_store | exact load_part | exact store_part | split | refine keeps_for fun _ _ => ?_

instance part39 {y0} {y1} {y2} {y3} : Keeps c I (k0_part39 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part39_eq_skeleton]; unfold k0_part39_skel
  repeat' first | with_reducible refine keeps_bind ?_ fun _ => ?_ | with_reducible infer_instance | exact keeps_load | exact keeps_store | exact load_part | exact store_part | split | refine keeps_for fun _ _ => ?_

instance part40 {y0} {y1} {y2} : Keeps c I (k0_part40 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part40_eq_skeleton]; unfold k0_part40_skel
  repeat' first | with_reducible refine keeps_bind ?_ fun _ => ?_ | with_reducible infer_instance | exact keeps_load | exact keeps_store | exact load_part | exact store_part | split | refine keeps_for fun _ _ => ?_

instance part41 {y0} {y1} {y2} {y3} {y4} : Keeps c I (k0_part41 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part41_eq_skeleton]; unfold k0_part41_skel
  repeat' first | with_reducible refine keeps_bind ?_ fun _ => ?_ | with_reducible infer_instance | exact keeps_load | exact keeps_store | exact load_part | exact store_part | split | refine keeps_for fun _ _ => ?_

instance part42 {y0} {y1} {y2} : Keeps c I (k0_part42 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part42_eq_skeleton]; unfold k0_part42_skel
  repeat' first | with_reducible refine keeps_bind ?_ fun _ => ?_ | with_reducible infer_instance | exact keeps_load | exact keeps_store | exact load_part | exact store_part | split | refine keeps_for fun _ _ => ?_

instance part43 {y0} {y1} {y2} {y3} : Keeps c I (k0_part43 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part43_eq_skeleton]; unfold k0_part43_skel
  repeat' first | with_reducible refine keeps_bind ?_ fun _ => ?_ | with_reducible infer_instance | exact keeps_load | exact keeps_store | exact load_part | exact store_part | split | refine keeps_for fun _ _ => ?_

instance part44 {y0} : Keeps c I (k0_part44 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part44_eq_skeleton]; unfold k0_part44_skel
  repeat' first | with_reducible refine keeps_bind ?_ fun _ => ?_ | with_reducible infer_instance | exact keeps_load | exact keeps_store | exact load_part | exact store_part | split | refine keeps_for fun _ _ => ?_

instance part45 {y0} : Keeps c I (k0_part45 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part45_eq_skeleton]; unfold k0_part45_skel
  repeat' first | with_reducible refine keeps_bind ?_ fun _ => ?_ | with_reducible infer_instance | exact keeps_load | exact keeps_store | exact load_part | exact store_part | split | refine keeps_for fun _ _ => ?_

instance part46 {y0} {y1} {y2} {y3} : Keeps c I (k0_part46 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part46_eq_skeleton]; unfold k0_part46_skel
  repeat' first | with_reducible refine keeps_bind ?_ fun _ => ?_ | with_reducible infer_instance | exact keeps_load | exact keeps_store | exact load_part | exact store_part | split | refine keeps_for fun _ _ => ?_

instance part47 {y0} : Keeps c I (k0_part47 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part47_eq_skeleton]; unfold k0_part47_skel
  repeat' first | with_reducible refine keeps_bind ?_ fun _ => ?_ | with_reducible infer_instance | exact keeps_load | exact keeps_store | exact load_part | exact store_part | split | refine keeps_for fun _ _ => ?_

instance part48 {y0} {y1} : Keeps c I (k0_part48 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part48_eq_skeleton]; unfold k0_part48_skel
  repeat' first | with_reducible refine keeps_bind ?_ fun _ => ?_ | with_reducible infer_instance | exact keeps_load | exact keeps_store | exact load_part | exact store_part | split | refine keeps_for fun _ _ => ?_

instance part49 {y0} {y1} {y2} {y3} : Keeps c I (k0_part49 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part49_eq_skeleton]; unfold k0_part49_skel
  repeat' first | with_reducible refine keeps_bind ?_ fun _ => ?_ | with_reducible infer_instance | exact keeps_load | exact keeps_store | exact load_part | exact store_part | split | refine keeps_for fun _ _ => ?_

instance part50 {y0} {y1} : Keeps c I (k0_part50 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part50_eq_skeleton]; unfold k0_part50_skel
  repeat' first | with_reducible refine keeps_bind ?_ fun _ => ?_ | with_reducible infer_instance | exact keeps_load | exact keeps_store | exact load_part | exact store_part | split | refine keeps_for fun _ _ => ?_

instance part51 {y0} {y1} {y2} {y3} : Keeps c I (k0_part51 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part51_eq_skeleton]; unfold k0_part51_skel
  repeat' first | with_reducible refine keeps_bind ?_ fun _ => ?_ | with_reducible infer_instance | exact keeps_load | exact keeps_store | exact load_part | exact store_part | split | refine keeps_for fun _ _ => ?_

instance part52 {y0} : Keeps c I (k0_part52 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part52_eq_skeleton]; unfold k0_part52_skel
  repeat' first | with_reducible refine keeps_bind ?_ fun _ => ?_ | with_reducible infer_instance | exact keeps_load | exact keeps_store | exact load_part | exact store_part | split | refine keeps_for fun _ _ => ?_

instance part53 : Keeps c I (k0_part53 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part53_eq_skeleton]; unfold k0_part53_skel
  repeat' first | with_reducible refine keeps_bind ?_ fun _ => ?_ | with_reducible infer_instance | exact keeps_load | exact keeps_store | exact load_part | exact store_part | split | refine keeps_for fun _ _ => ?_

instance part54 {y0} {y1} {y2} {y3} : Keeps c I (k0_part54 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part54_eq_skeleton]; unfold k0_part54_skel
  repeat' first | with_reducible refine keeps_bind ?_ fun _ => ?_ | with_reducible infer_instance | exact keeps_load | exact keeps_store | exact load_part | exact store_part | split | refine keeps_for fun _ _ => ?_

instance part55 {y0} {y1} {y2} : Keeps c I (k0_part55 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part55_eq_skeleton]; unfold k0_part55_skel
  repeat' first | with_reducible refine keeps_bind ?_ fun _ => ?_ | with_reducible infer_instance | exact keeps_load | exact keeps_store | exact load_part | exact store_part | split | refine keeps_for fun _ _ => ?_

instance part56 : Keeps c I (k0_part56 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part56_eq_skeleton]; unfold k0_part56_skel
  repeat' first | with_reducible refine keeps_bind ?_ fun _ => ?_ | with_reducible infer_instance | exact keeps_load | exact keeps_store | exact load_part | exact store_part | split | refine keeps_for fun _ _ => ?_

instance part57 {y0} {y1} {y2} : Keeps c I (k0_part57 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part57_eq_skeleton]; unfold k0_part57_skel
  repeat' first | with_reducible refine keeps_bind ?_ fun _ => ?_ | with_reducible infer_instance | exact keeps_load | exact keeps_store | exact load_part | exact store_part | split | refine keeps_for fun _ _ => ?_

instance part58 {y0} : Keeps c I (k0_part58 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part58_eq_skeleton]; unfold k0_part58_skel
  repeat' first | with_reducible refine keeps_bind ?_ fun _ => ?_ | with_reducible infer_instance | exact keeps_load | exact keeps_store | exact load_part | exact store_part | split | refine keeps_for fun _ _ => ?_

instance part59 {y0} {y1} {y2} {y3} : Keeps c I (k0_part59 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part59_eq_skeleton]; unfold k0_part59_skel
  repeat' first | with_reducible refine keeps_bind ?_ fun _ => ?_ | with_reducible infer_instance | exact keeps_load | exact keeps_store | exact load_part | exact store_part | split | refine keeps_for fun _ _ => ?_

instance part60 {y0} {y1} {y2} {y3} {y4} : Keeps c I (k0_part60 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part60_eq_skeleton]; unfold k0_part60_skel
  repeat' first | with_reducible refine keeps_bind ?_ fun _ => ?_ | with_reducible infer_instance | exact keeps_load | exact keeps_store | exact load_part | exact store_part | split | refine keeps_for fun _ _ => ?_

instance part61 : Keeps c I (k0_part61 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part61_eq_skeleton]; unfold k0_part61_skel
  repeat' first | with_reducible refine keeps_bind ?_ fun _ => ?_ | with_reducible infer_instance | exact keeps_load | exact keeps_store | exact load_part | exact store_part | split | refine keeps_for fun _ _ => ?_

instance part62 {y0} {y1} : Keeps c I (k0_part62 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part62_eq_skeleton]; unfold k0_part62_skel
  repeat' first | with_reducible refine keeps_bind ?_ fun _ => ?_ | with_reducible infer_instance | exact keeps_load | exact keeps_store | exact load_part | exact store_part | split | refine keeps_for fun _ _ => ?_

instance part63 {y0} {y1} {y2} : Keeps c I (k0_part63 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part63_eq_skeleton]; unfold k0_part63_skel
  repeat' first | with_reducible refine keeps_bind ?_ fun _ => ?_ | with_reducible infer_instance | exact keeps_load | exact keeps_store | exact load_part | exact store_part | split | refine keeps_for fun _ _ => ?_

instance part64 {y0} {y1} : Keeps c I (k0_part64 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part64_eq_skeleton]; unfold k0_part64_skel
  repeat' first | with_reducible refine keeps_bind ?_ fun _ => ?_ | with_reducible infer_instance | exact keeps_load | exact keeps_store | exact load_part | exact store_part | split | refine keeps_for fun _ _ => ?_

instance part65 {y0} : Keeps c I (k0_part65 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part65_eq_skeleton]; unfold k0_part65_skel
  repeat' first | with_reducible refine keeps_bind ?_ fun _ => ?_ | with_reducible infer_instance | exact keeps_load | exact keeps_store | exact load_part | exact store_part | split | refine keeps_for fun _ _ => ?_

instance part66 {y0} {y1} {y2} {y3} : Keeps c I (k0_part66 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part66_eq_skeleton]; unfold k0_part66_skel
  repeat' first | with_reducible refine keeps_bind ?_ fun _ => ?_ | with_reducible infer_instance | exact keeps_load | exact keeps_store | exact load_part | exact store_part | split | refine keeps_for fun _ _ => ?_

instance part67 {y0} {y1} : Keeps c I (k0_part67 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part67_eq_skeleton]; unfold k0_part67_skel
  repeat' first | with_reducible refine keeps_bind ?_ fun _ => ?_ | with_reducible infer_instance | exact keeps_load | exact keeps_store | exact load_part | exact store_part | split | refine keeps_for fun _ _ => ?_

instance part68 {y0} {y1} {y2} {y3} : Keeps c I (k0_part68 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part68_eq_skeleton]; unfold k0_part68_skel
  repeat' first | with_reducible refine keeps_bind ?_ fun _ => ?_ | with_reducible infer_instance | exact keeps_load | exact keeps_store | exact load_part | exact store_part | split | refine keeps_for fun _ _ => ?_

instance part69 {y0} {y1} {y2} : Keeps c I (k0_part69 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part69_eq_skeleton]; unfold k0_part69_skel
  repeat' first | with_reducible refine keeps_bind ?_ fun _ => ?_ | with_reducible infer_instance | exact keeps_load | exact keeps_store | exact load_part | exact store_part | split | refine keeps_for fun _ _ => ?_

instance part70 {y0} {y1} {y2} {y3} {y4} : Keeps c I (k0_part70 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part70_eq_skeleton]; unfold k0_part70_skel
  repeat' first | with_reducible refine keeps_bind ?_ fun _ => ?_ | with_reducible infer_instance | exact keeps_load | exact keeps_store | exact load_part | exact store_part | split | refine keeps_for fun _ _ => ?_

instance part71 {y0} {y1} {y2} : Keeps c I (k0_part71 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part71_eq_skeleton]; unfold k0_part71_skel
  repeat' first | with_reducible refine keeps_bind ?_ fun _ => ?_ | with_reducible infer_instance | exact keeps_load | exact keeps_store | exact load_part | exact store_part | split | refine keeps_for fun _ _ => ?_

instance part72 {y0} : Keeps c I (k0_part72 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part72_eq_skeleton]; unfold k0_part72_skel
  repeat' first | with_reducible refine keeps_bind ?_ fun _ => ?_ | with_reducible infer_instance | exact keeps_load | exact keeps_store | exact load_part | exact store_part | split | refine keeps_for fun _ _ => ?_

instance part73 {y0} : Keeps c I (k0_part73 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part73_eq_skeleton]; unfold k0_part73_skel
  repeat' first | with_reducible refine keeps_bind ?_ fun _ => ?_ | with_reducible infer_instance | exact keeps_load | exact keeps_store | exact load_part | exact store_part | split | refine keeps_for fun _ _ => ?_

instance part74 {y0} {y1} {y2} : Keeps c I (k0_part74 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part74_eq_skeleton]; unfold k0_part74_skel
  repeat' first | with_reducible refine keeps_bind ?_ fun _ => ?_ | with_reducible infer_instance | exact keeps_load | exact keeps_store | exact load_part | exact store_part | split | refine keeps_for fun _ _ => ?_

instance part75 {y0} {y1} {y2} : Keeps c I (k0_part75 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part75_eq_skeleton]; unfold k0_part75_skel
  repeat' first | with_reducible refine keeps_bind ?_ fun _ => ?_ | with_reducible infer_instance | exact keeps_load | exact keeps_store | exact load_part | exact store_part | split | refine keeps_for fun _ _ => ?_

instance part76 {y0} : Keeps c I (k0_part76 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part76_eq_skeleton]; unfold k0_part76_skel
  repeat' first | with_reducible refine keeps_bind ?_ fun _ => ?_ | with_reducible infer_instance | exact keeps_load | exact keeps_store | exact load_part | exact store_part | split | refine keeps_for fun _ _ => ?_

instance part77 {y0} {y1} : Keeps c I (k0_part77 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part77_eq_skeleton]; unfold k0_part77_skel
  repeat' first | with_reducible refine keeps_bind ?_ fun _ => ?_ | with_reducible infer_instance | exact keeps_load | exact keeps_store | exact load_part | exact store_part | split | refine keeps_for fun _ _ => ?_

instance part78 {y0} {y1} {y2} {y3} : Keeps c I (k0_part78 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part78_eq_skeleton]; unfold k0_part78_skel
  repeat' first | with_reducible refine keeps_bind ?_ fun _ => ?_ | with_reducible infer_instance | exact keeps_load | exact keeps_store | exact load_part | exact store_part | split | refine keeps_for fun _ _ => ?_

instance part79 {y0} {y1} {y2} {y3} : Keeps c I (k0_part79 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part79_eq_skeleton]; unfold k0_part79_skel
  repeat' first | with_reducible refine keeps_bind ?_ fun _ => ?_ | with_reducible infer_instance | exact keeps_load | exact keeps_store | exact load_part | exact store_part | split | refine keeps_for fun _ _ => ?_

instance part80 {y0} {y1} : Keeps c I (k0_part80 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part80_eq_skeleton]; unfold k0_part80_skel
  repeat' first | with_reducible refine keeps_bind ?_ fun _ => ?_ | with_reducible infer_instance | exact keeps_load | exact keeps_store | exact load_part | exact store_part | split | refine keeps_for fun _ _ => ?_

instance part81 {y0} : Keeps c I (k0_part81 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part81_eq_skeleton]; unfold k0_part81_skel
  repeat' first | with_reducible refine keeps_bind ?_ fun _ => ?_ | with_reducible infer_instance | exact keeps_load | exact keeps_store | exact load_part | exact store_part | split | refine keeps_for fun _ _ => ?_

instance part82 {y0} {y1} {y2} {y3} : Keeps c I (k0_part82 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part82_eq_skeleton]; unfold k0_part82_skel
  repeat' first | with_reducible refine keeps_bind ?_ fun _ => ?_ | with_reducible infer_instance | exact keeps_load | exact keeps_store | exact load_part | exact store_part | split | refine keeps_for fun _ _ => ?_

instance part83 {y0} {y1} {y2} {y3} : Keeps c I (k0_part83 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part83_eq_skeleton]; unfold k0_part83_skel
  repeat' first | with_reducible refine keeps_bind ?_ fun _ => ?_ | with_reducible infer_instance | exact keeps_load | exact keeps_store | exact load_part | exact store_part | split | refine keeps_for fun _ _ => ?_

instance part84 {y0} {y1} {y2} {y3} : Keeps c I (k0_part84 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part84_eq_skeleton]; unfold k0_part84_skel
  repeat' first | with_reducible refine keeps_bind ?_ fun _ => ?_ | with_reducible infer_instance | exact keeps_load | exact keeps_store | exact load_part | exact store_part | split | refine keeps_for fun _ _ => ?_

instance part85 {y0} {y1} : Keeps c I (k0_part85 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part85_eq_skeleton]; unfold k0_part85_skel
  repeat' first | with_reducible refine keeps_bind ?_ fun _ => ?_ | with_reducible infer_instance | exact keeps_load | exact keeps_store | exact load_part | exact store_part | split | refine keeps_for fun _ _ => ?_

instance part86 {y0} {y1} {y2} : Keeps c I (k0_part86 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part86_eq_skeleton]; unfold k0_part86_skel
  repeat' first | with_reducible refine keeps_bind ?_ fun _ => ?_ | with_reducible infer_instance | exact keeps_load | exact keeps_store | exact load_part | exact store_part | split | refine keeps_for fun _ _ => ?_

instance part87 {y0} {y1} : Keeps c I (k0_part87 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part87_eq_skeleton]; unfold k0_part87_skel
  repeat' first | with_reducible refine keeps_bind ?_ fun _ => ?_ | with_reducible infer_instance | exact keeps_load | exact keeps_store | exact load_part | exact store_part | split | refine keeps_for fun _ _ => ?_

instance part88 {y0} {y1} {y2} {y3} : Keeps c I (k0_part88 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part88_eq_skeleton]; unfold k0_part88_skel
  repeat' first | with_reducible refine keeps_bind ?_ fun _ => ?_ | with_reducible infer_instance | exact keeps_load | exact keeps_store | exact load_part | exact store_part | split | refine keeps_for fun _ _ => ?_

instance part89 {y0} {y1} {y2} : Keeps c I (k0_part89 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part89_eq_skeleton]; unfold k0_part89_skel
  repeat' first | with_reducible refine keeps_bind ?_ fun _ => ?_ | with_reducible infer_instance | exact keeps_load | exact keeps_store | exact load_part | exact store_part | split | refine keeps_for fun _ _ => ?_

instance part90 {y0} {y1} : Keeps c I (k0_part90 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part90_eq_skeleton]; unfold k0_part90_skel
  repeat' first | with_reducible refine keeps_bind ?_ fun _ => ?_ | with_reducible infer_instance | exact keeps_load | exact keeps_store | exact load_part | exact store_part | split | refine keeps_for fun _ _ => ?_

instance part91 : Keeps c I (k0_part91 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part91_eq_skeleton]; unfold k0_part91_skel
  repeat' first | with_reducible refine keeps_bind ?_ fun _ => ?_ | with_reducible infer_instance | exact keeps_load | exact keeps_store | exact load_part | exact store_part | split | refine keeps_for fun _ _ => ?_

instance part92 {y0} {y1} {y2} : Keeps c I (k0_part92 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part92_eq_skeleton]; unfold k0_part92_skel
  repeat' first | with_reducible refine keeps_bind ?_ fun _ => ?_ | with_reducible infer_instance | exact keeps_load | exact keeps_store | exact load_part | exact store_part | split | refine keeps_for fun _ _ => ?_

instance part93 {y0} {y1} {y2} {y3} : Keeps c I (k0_part93 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part93_eq_skeleton]; unfold k0_part93_skel
  repeat' first | with_reducible refine keeps_bind ?_ fun _ => ?_ | with_reducible infer_instance | exact keeps_load | exact keeps_store | exact load_part | exact store_part | split | refine keeps_for fun _ _ => ?_

instance part94 : Keeps c I (k0_part94 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part94_eq_skeleton]; unfold k0_part94_skel
  repeat' first | with_reducible refine keeps_bind ?_ fun _ => ?_ | with_reducible infer_instance | exact keeps_load | exact keeps_store | exact load_part | exact store_part | split | refine keeps_for fun _ _ => ?_

instance part95 {y0} {y1} : Keeps c I (k0_part95 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part95_eq_skeleton]; unfold k0_part95_skel
  repeat' first | with_reducible refine keeps_bind ?_ fun _ => ?_ | with_reducible infer_instance | exact keeps_load | exact keeps_store | exact load_part | exact store_part | split | refine keeps_for fun _ _ => ?_

instance part96 {y0} {y1} {y2} {y3} {y4} {y5} : Keeps c I (k0_part96 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5) := by
  rw [k0_part96_eq_skeleton]; unfold k0_part96_skel
  repeat' first | with_reducible refine keeps_bind ?_ fun _ => ?_ | with_reducible infer_instance | exact keeps_load | exact keeps_store | exact load_part | exact store_part | split | refine keeps_for fun _ _ => ?_

instance part97 {y0} {y1} : Keeps c I (k0_part97 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part97_eq_skeleton]; unfold k0_part97_skel
  repeat' first | with_reducible refine keeps_bind ?_ fun _ => ?_ | with_reducible infer_instance | exact keeps_load | exact keeps_store | exact load_part | exact store_part | split | refine keeps_for fun _ _ => ?_

instance part98 {y0} {y1} {y2} {y3} : Keeps c I (k0_part98 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part98_eq_skeleton]; unfold k0_part98_skel
  repeat' first | with_reducible refine keeps_bind ?_ fun _ => ?_ | with_reducible infer_instance | exact keeps_load | exact keeps_store | exact load_part | exact store_part | split | refine keeps_for fun _ _ => ?_

instance part99 {y0} {y1} {y2} {y3} {y4} : Keeps c I (k0_part99 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part99_eq_skeleton]; unfold k0_part99_skel
  repeat' first | with_reducible refine keeps_bind ?_ fun _ => ?_ | with_reducible infer_instance | exact keeps_load | exact keeps_store | exact load_part | exact store_part | split | refine keeps_for fun _ _ => ?_

instance part100 {y0} {y1} {y2} {y3} : Keeps c I (k0_part100 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part100_eq_skeleton]; unfold k0_part100_skel
  repeat' first | with_reducible refine keeps_bind ?_ fun _ => ?_ | with_reducible infer_instance | exact keeps_load | exact keeps_store | exact load_part | exact store_part | split | refine keeps_for fun _ _ => ?_

instance part101 {y0} : Keeps c I (k0_part101 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part101_eq_skeleton]; unfold k0_part101_skel
  repeat' first | with_reducible refine keeps_bind ?_ fun _ => ?_ | with_reducible infer_instance | exact keeps_load | exact keeps_store | exact load_part | exact store_part | split | refine keeps_for fun _ _ => ?_

instance part102 {y0} {y1} : Keeps c I (k0_part102 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part102_eq_skeleton]; unfold k0_part102_skel
  repeat' first | with_reducible refine keeps_bind ?_ fun _ => ?_ | with_reducible infer_instance | exact keeps_load | exact keeps_store | exact load_part | exact store_part | split | refine keeps_for fun _ _ => ?_

instance part103 {y0} {y1} {y2} {y3} {y4} : Keeps c I (k0_part103 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part103_eq_skeleton]; unfold k0_part103_skel
  repeat' first | with_reducible refine keeps_bind ?_ fun _ => ?_ | with_reducible infer_instance | exact keeps_load | exact keeps_store | exact load_part | exact store_part | split | refine keeps_for fun _ _ => ?_

instance part104 {y0} {y1} {y2} : Keeps c I (k0_part104 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part104_eq_skeleton]; unfold k0_part104_skel
  repeat' first | with_reducible refine keeps_bind ?_ fun _ => ?_ | with_reducible infer_instance | exact keeps_load | exact keeps_store | exact load_part | exact store_part | split | refine keeps_for fun _ _ => ?_

instance part105 {y0} {y1} : Keeps c I (k0_part105 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part105_eq_skeleton]; unfold k0_part105_skel
  repeat' first | with_reducible refine keeps_bind ?_ fun _ => ?_ | with_reducible infer_instance | exact keeps_load | exact keeps_store | exact load_part | exact store_part | split | refine keeps_for fun _ _ => ?_

instance part106 {y0} {y1} {y2} {y3} : Keeps c I (k0_part106 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part106_eq_skeleton]; unfold k0_part106_skel
  repeat' first | with_reducible refine keeps_bind ?_ fun _ => ?_ | with_reducible infer_instance | exact keeps_load | exact keeps_store | exact load_part | exact store_part | split | refine keeps_for fun _ _ => ?_

instance part107 {y0} {y1} {y2} : Keeps c I (k0_part107 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part107_eq_skeleton]; unfold k0_part107_skel
  repeat' first | with_reducible refine keeps_bind ?_ fun _ => ?_ | with_reducible infer_instance | exact keeps_load | exact keeps_store | exact load_part | exact store_part | split | refine keeps_for fun _ _ => ?_

instance part108 {y0} {y1} : Keeps c I (k0_part108 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part108_eq_skeleton]; unfold k0_part108_skel
  repeat' first | with_reducible refine keeps_bind ?_ fun _ => ?_ | with_reducible infer_instance | exact keeps_load | exact keeps_store | exact load_part | exact store_part | split | refine keeps_for fun _ _ => ?_

instance part109 : Keeps c I (k0_part109 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part109_eq_skeleton]; unfold k0_part109_skel
  repeat' first | with_reducible refine keeps_bind ?_ fun _ => ?_ | with_reducible infer_instance | exact keeps_load | exact keeps_store | exact load_part | exact store_part | split | refine keeps_for fun _ _ => ?_

instance part110 {y0} {y1} {y2} : Keeps c I (k0_part110 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part110_eq_skeleton]; unfold k0_part110_skel
  repeat' first | with_reducible refine keeps_bind ?_ fun _ => ?_ | with_reducible infer_instance | exact keeps_load | exact keeps_store | exact load_part | exact store_part | split | refine keeps_for fun _ _ => ?_

instance part111 {y0} {y1} {y2} {y3} : Keeps c I (k0_part111 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part111_eq_skeleton]; unfold k0_part111_skel
  repeat' first | with_reducible refine keeps_bind ?_ fun _ => ?_ | with_reducible infer_instance | exact keeps_load | exact keeps_store | exact load_part | exact store_part | split | refine keeps_for fun _ _ => ?_

instance part112 : Keeps c I (k0_part112 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part112_eq_skeleton]; unfold k0_part112_skel
  repeat' first | with_reducible refine keeps_bind ?_ fun _ => ?_ | with_reducible infer_instance | exact keeps_load | exact keeps_store | exact load_part | exact store_part | split | refine keeps_for fun _ _ => ?_

instance part113 {y0} {y1} : Keeps c I (k0_part113 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part113_eq_skeleton]; unfold k0_part113_skel
  repeat' first | with_reducible refine keeps_bind ?_ fun _ => ?_ | with_reducible infer_instance | exact keeps_load | exact keeps_store | exact load_part | exact store_part | split | refine keeps_for fun _ _ => ?_

instance part114 {y0} {y1} {y2} {y3} : Keeps c I (k0_part114 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part114_eq_skeleton]; unfold k0_part114_skel
  repeat' first | with_reducible refine keeps_bind ?_ fun _ => ?_ | with_reducible infer_instance | exact keeps_load | exact keeps_store | exact load_part | exact store_part | split | refine keeps_for fun _ _ => ?_

instance part115 {y0} {y1} : Keeps c I (k0_part115 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part115_eq_skeleton]; unfold k0_part115_skel
  repeat' first | with_reducible refine keeps_bind ?_ fun _ => ?_ | with_reducible infer_instance | exact keeps_load | exact keeps_store | exact load_part | exact store_part | split | refine keeps_for fun _ _ => ?_

instance part116 {y0} {y1} {y2} : Keeps c I (k0_part116 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part116_eq_skeleton]; unfold k0_part116_skel
  repeat' first | with_reducible refine keeps_bind ?_ fun _ => ?_ | with_reducible infer_instance | exact keeps_load | exact keeps_store | exact load_part | exact store_part | split | refine keeps_for fun _ _ => ?_

instance part117 : Keeps c I (k0_part117 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part117_eq_skeleton]; unfold k0_part117_skel
  repeat' first | with_reducible refine keeps_bind ?_ fun _ => ?_ | with_reducible infer_instance | exact keeps_load | exact keeps_store | exact load_part | exact store_part | split | refine keeps_for fun _ _ => ?_

instance part118 {y0} {y1} {y2} : Keeps c I (k0_part118 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part118_eq_skeleton]; unfold k0_part118_skel
  repeat' first | with_reducible refine keeps_bind ?_ fun _ => ?_ | with_reducible infer_instance | exact keeps_load | exact keeps_store | exact load_part | exact store_part | split | refine keeps_for fun _ _ => ?_

instance part119 {y0} {y1} {y2} {y3} : Keeps c I (k0_part119 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part119_eq_skeleton]; unfold k0_part119_skel
  repeat' first | with_reducible refine keeps_bind ?_ fun _ => ?_ | with_reducible infer_instance | exact keeps_load | exact keeps_store | exact load_part | exact store_part | split | refine keeps_for fun _ _ => ?_

instance part120 : Keeps c I (k0_part120 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part120_eq_skeleton]; unfold k0_part120_skel
  repeat' first | with_reducible refine keeps_bind ?_ fun _ => ?_ | with_reducible infer_instance | exact keeps_load | exact keeps_store | exact load_part | exact store_part | split | refine keeps_for fun _ _ => ?_

instance part121 {y0} {y1} : Keeps c I (k0_part121 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part121_eq_skeleton]; unfold k0_part121_skel
  repeat' first | with_reducible refine keeps_bind ?_ fun _ => ?_ | with_reducible infer_instance | exact keeps_load | exact keeps_store | exact load_part | exact store_part | split | refine keeps_for fun _ _ => ?_

instance part122 {y0} {y1} {y2} {y3} : Keeps c I (k0_part122 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part122_eq_skeleton]; unfold k0_part122_skel
  repeat' first | with_reducible refine keeps_bind ?_ fun _ => ?_ | with_reducible infer_instance | exact keeps_load | exact keeps_store | exact load_part | exact store_part | split | refine keeps_for fun _ _ => ?_

instance part123 {y0} {y1} : Keeps c I (k0_part123 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part123_eq_skeleton]; unfold k0_part123_skel
  repeat' first | with_reducible refine keeps_bind ?_ fun _ => ?_ | with_reducible infer_instance | exact keeps_load | exact keeps_store | exact load_part | exact store_part | split | refine keeps_for fun _ _ => ?_

instance part124 {y0} {y1} {y2} {y3} {y4} : Keeps c I (k0_part124 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part124_eq_skeleton]; unfold k0_part124_skel
  repeat' first | with_reducible refine keeps_bind ?_ fun _ => ?_ | with_reducible infer_instance | exact keeps_load | exact keeps_store | exact load_part | exact store_part | split | refine keeps_for fun _ _ => ?_

instance part125 {y0} {y1} : Keeps c I (k0_part125 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part125_eq_skeleton]; unfold k0_part125_skel
  repeat' first | with_reducible refine keeps_bind ?_ fun _ => ?_ | with_reducible infer_instance | exact keeps_load | exact keeps_store | exact load_part | exact store_part | split | refine keeps_for fun _ _ => ?_

instance part126 {y0} : Keeps c I (k0_part126 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part126_eq_skeleton]; unfold k0_part126_skel
  repeat' first | with_reducible refine keeps_bind ?_ fun _ => ?_ | with_reducible infer_instance | exact keeps_load | exact keeps_store | exact load_part | exact store_part | split | refine keeps_for fun _ _ => ?_

instance part127 {y0} {y1} {y2} : Keeps c I (k0_part127 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part127_eq_skeleton]; unfold k0_part127_skel
  repeat' first | with_reducible refine keeps_bind ?_ fun _ => ?_ | with_reducible infer_instance | exact keeps_load | exact keeps_store | exact load_part | exact store_part | split | refine keeps_for fun _ _ => ?_

instance part128 {y0} {y1} {y2} {y3} : Keeps c I (k0_part128 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part128_eq_skeleton]; unfold k0_part128_skel
  repeat' first | with_reducible refine keeps_bind ?_ fun _ => ?_ | with_reducible infer_instance | exact keeps_load | exact keeps_store | exact load_part | exact store_part | split | refine keeps_for fun _ _ => ?_

instance part129 {y0} {y1} {y2} {y3} : Keeps c I (k0_part129 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part129_eq_skeleton]; unfold k0_part129_skel
  repeat' first | with_reducible refine keeps_bind ?_ fun _ => ?_ | with_reducible infer_instance | exact keeps_load | exact keeps_store | exact load_part | exact store_part | split | refine keeps_for fun _ _ => ?_

instance part130 {y0} {y1} : Keeps c I (k0_part130 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part130_eq_skeleton]; unfold k0_part130_skel
  repeat' first | with_reducible refine keeps_bind ?_ fun _ => ?_ | with_reducible infer_instance | exact keeps_load | exact keeps_store | exact load_part | exact store_part | split | refine keeps_for fun _ _ => ?_

instance part131 {y0} {y1} : Keeps c I (k0_part131 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part131_eq_skeleton]; unfold k0_part131_skel
  repeat' first | with_reducible refine keeps_bind ?_ fun _ => ?_ | with_reducible infer_instance | exact keeps_load | exact keeps_store | exact load_part | exact store_part | split | refine keeps_for fun _ _ => ?_

instance part132 {y0} {y1} {y2} {y3} : Keeps c I (k0_part132 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part132_eq_skeleton]; unfold k0_part132_skel
  repeat' first | with_reducible refine keeps_bind ?_ fun _ => ?_ | with_reducible infer_instance | exact keeps_load | exact keeps_store | exact load_part | exact store_part | split | refine keeps_for fun _ _ => ?_

instance part133 {y0} {y1} : Keeps c I (k0_part133 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part133_eq_skeleton]; unfold k0_part133_skel
  repeat' first | with_reducible refine keeps_bind ?_ fun _ => ?_ | with_reducible infer_instance | exact keeps_load | exact keeps_store | exact load_part | exact store_part | split | refine keeps_for fun _ _ => ?_

instance part134 {y0} {y1} {y2} {y3} : Keeps c I (k0_part134 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part134_eq_skeleton]; unfold k0_part134_skel
  repeat' first | with_reducible refine keeps_bind ?_ fun _ => ?_ | with_reducible infer_instance | exact keeps_load | exact keeps_store | exact load_part | exact store_part | split | refine keeps_for fun _ _ => ?_

instance part135 {y0} {y1} {y2} : Keeps c I (k0_part135 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part135_eq_skeleton]; unfold k0_part135_skel
  repeat' first | with_reducible refine keeps_bind ?_ fun _ => ?_ | with_reducible infer_instance | exact keeps_load | exact keeps_store | exact load_part | exact store_part | split | refine keeps_for fun _ _ => ?_

instance part136 {y0} {y1} : Keeps c I (k0_part136 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part136_eq_skeleton]; unfold k0_part136_skel
  repeat' first | with_reducible refine keeps_bind ?_ fun _ => ?_ | with_reducible infer_instance | exact keeps_load | exact keeps_store | exact load_part | exact store_part | split | refine keeps_for fun _ _ => ?_

instance part137 : Keeps c I (k0_part137 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part137_eq_skeleton]; unfold k0_part137_skel
  repeat' first | with_reducible refine keeps_bind ?_ fun _ => ?_ | with_reducible infer_instance | exact keeps_load | exact keeps_store | exact load_part | exact store_part | split | refine keeps_for fun _ _ => ?_

instance part138 {y0} {y1} {y2} : Keeps c I (k0_part138 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part138_eq_skeleton]; unfold k0_part138_skel
  repeat' first | with_reducible refine keeps_bind ?_ fun _ => ?_ | with_reducible infer_instance | exact keeps_load | exact keeps_store | exact load_part | exact store_part | split | refine keeps_for fun _ _ => ?_

instance part139 {y0} {y1} {y2} {y3} : Keeps c I (k0_part139 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part139_eq_skeleton]; unfold k0_part139_skel
  repeat' first | with_reducible refine keeps_bind ?_ fun _ => ?_ | with_reducible infer_instance | exact keeps_load | exact keeps_store | exact load_part | exact store_part | split | refine keeps_for fun _ _ => ?_

instance part140 : Keeps c I (k0_part140 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part140_eq_skeleton]; unfold k0_part140_skel
  repeat' first | with_reducible refine keeps_bind ?_ fun _ => ?_ | with_reducible infer_instance | exact keeps_load | exact keeps_store | exact load_part | exact store_part | split | refine keeps_for fun _ _ => ?_

instance part141 {y0} {y1} : Keeps c I (k0_part141 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part141_eq_skeleton]; unfold k0_part141_skel
  repeat' first | with_reducible refine keeps_bind ?_ fun _ => ?_ | with_reducible infer_instance | exact keeps_load | exact keeps_store | exact load_part | exact store_part | split | refine keeps_for fun _ _ => ?_

instance part142 {y0} {y1} {y2} {y3} : Keeps c I (k0_part142 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part142_eq_skeleton]; unfold k0_part142_skel
  repeat' first | with_reducible refine keeps_bind ?_ fun _ => ?_ | with_reducible infer_instance | exact keeps_load | exact keeps_store | exact load_part | exact store_part | split | refine keeps_for fun _ _ => ?_

instance part143 {y0} {y1} : Keeps c I (k0_part143 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part143_eq_skeleton]; unfold k0_part143_skel
  repeat' first | with_reducible refine keeps_bind ?_ fun _ => ?_ | with_reducible infer_instance | exact keeps_load | exact keeps_store | exact load_part | exact store_part | split | refine keeps_for fun _ _ => ?_

instance part144 {y0} {y1} {y2} : Keeps c I (k0_part144 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part144_eq_skeleton]; unfold k0_part144_skel
  repeat' first | with_reducible refine keeps_bind ?_ fun _ => ?_ | with_reducible infer_instance | exact keeps_load | exact keeps_store | exact load_part | exact store_part | split | refine keeps_for fun _ _ => ?_

instance part145 : Keeps c I (k0_part145 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part145_eq_skeleton]; unfold k0_part145_skel
  repeat' first | with_reducible refine keeps_bind ?_ fun _ => ?_ | with_reducible infer_instance | exact keeps_load | exact keeps_store | exact load_part | exact store_part | split | refine keeps_for fun _ _ => ?_

instance part146 {y0} {y1} {y2} : Keeps c I (k0_part146 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part146_eq_skeleton]; unfold k0_part146_skel
  repeat' first | with_reducible refine keeps_bind ?_ fun _ => ?_ | with_reducible infer_instance | exact keeps_load | exact keeps_store | exact load_part | exact store_part | split | refine keeps_for fun _ _ => ?_

instance part147 {y0} {y1} {y2} {y3} : Keeps c I (k0_part147 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part147_eq_skeleton]; unfold k0_part147_skel
  repeat' first | with_reducible refine keeps_bind ?_ fun _ => ?_ | with_reducible infer_instance | exact keeps_load | exact keeps_store | exact load_part | exact store_part | split | refine keeps_for fun _ _ => ?_

instance part148 : Keeps c I (k0_part148 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part148_eq_skeleton]; unfold k0_part148_skel
  repeat' first | with_reducible refine keeps_bind ?_ fun _ => ?_ | with_reducible infer_instance | exact keeps_load | exact keeps_store | exact load_part | exact store_part | split | refine keeps_for fun _ _ => ?_

instance part149 {y0} {y1} : Keeps c I (k0_part149 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part149_eq_skeleton]; unfold k0_part149_skel
  repeat' first | with_reducible refine keeps_bind ?_ fun _ => ?_ | with_reducible infer_instance | exact keeps_load | exact keeps_store | exact load_part | exact store_part | split | refine keeps_for fun _ _ => ?_

instance part150 {y0} {y1} {y2} {y3} : Keeps c I (k0_part150 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part150_eq_skeleton]; unfold k0_part150_skel
  repeat' first | with_reducible refine keeps_bind ?_ fun _ => ?_ | with_reducible infer_instance | exact keeps_load | exact keeps_store | exact load_part | exact store_part | split | refine keeps_for fun _ _ => ?_

instance part151 {y0} {y1} : Keeps c I (k0_part151 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part151_eq_skeleton]; unfold k0_part151_skel
  repeat' first | with_reducible refine keeps_bind ?_ fun _ => ?_ | with_reducible infer_instance | exact keeps_load | exact keeps_store | exact load_part | exact store_part | split | refine keeps_for fun _ _ => ?_

instance part152 {y0} {y1} {y2} : Keeps c I (k0_part152 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part152_eq_skeleton]; unfold k0_part152_skel
  repeat' first | with_reducible refine keeps_bind ?_ fun _ => ?_ | with_reducible infer_instance | exact keeps_load | exact keeps_store | exact load_part | exact store_part | split | refine keeps_for fun _ _ => ?_

instance part153 {y0} {y1} {y2} {y3} : Keeps c I (k0_part153 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part153_eq_skeleton]; unfold k0_part153_skel
  repeat' first | with_reducible refine keeps_bind ?_ fun _ => ?_ | with_reducible infer_instance | exact keeps_load | exact keeps_store | exact load_part | exact store_part | split | refine keeps_for fun _ _ => ?_

instance part154 {y0} {y1} {y2} : Keeps c I (k0_part154 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part154_eq_skeleton]; unfold k0_part154_skel
  repeat' first | with_reducible refine keeps_bind ?_ fun _ => ?_ | with_reducible infer_instance | exact keeps_load | exact keeps_store | exact load_part | exact store_part | split | refine keeps_for fun _ _ => ?_

instance part155 {y0} {y1} {y2} {y3} : Keeps c I (k0_part155 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part155_eq_skeleton]; unfold k0_part155_skel
  repeat' first | with_reducible refine keeps_bind ?_ fun _ => ?_ | with_reducible infer_instance | exact keeps_load | exact keeps_store | exact load_part | exact store_part | split | refine keeps_for fun _ _ => ?_

instance part156 : Keeps c I (k0_part156 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part156_eq_skeleton]; unfold k0_part156_skel
  repeat' first | with_reducible refine keeps_bind ?_ fun _ => ?_ | with_reducible infer_instance | exact keeps_load | exact keeps_store | exact load_part | exact store_part | split | refine keeps_for fun _ _ => ?_

instance part157 {y0} {y1} : Keeps c I (k0_part157 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part157_eq_skeleton]; unfold k0_part157_skel
  repeat' first | with_reducible refine keeps_bind ?_ fun _ => ?_ | with_reducible infer_instance | exact keeps_load | exact keeps_store | exact load_part | exact store_part | split | refine keeps_for fun _ _ => ?_

instance part158 {y0} {y1} {y2} : Keeps c I (k0_part158 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part158_eq_skeleton]; unfold k0_part158_skel
  repeat' first | with_reducible refine keeps_bind ?_ fun _ => ?_ | with_reducible infer_instance | exact keeps_load | exact keeps_store | exact load_part | exact store_part | split | refine keeps_for fun _ _ => ?_

instance part159 {y0} : Keeps c I (k0_part159 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part159_eq_skeleton]; unfold k0_part159_skel
  repeat' first | with_reducible refine keeps_bind ?_ fun _ => ?_ | with_reducible infer_instance | exact keeps_load | exact keeps_store | exact load_part | exact store_part | split | refine keeps_for fun _ _ => ?_

instance part160 {y0} {y1} {y2} : Keeps c I (k0_part160 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part160_eq_skeleton]; unfold k0_part160_skel
  repeat' first | with_reducible refine keeps_bind ?_ fun _ => ?_ | with_reducible infer_instance | exact keeps_load | exact keeps_store | exact load_part | exact store_part | split | refine keeps_for fun _ _ => ?_

instance part161 {y0} {y1} {y2} {y3} {y4} {y5} {y6} : Keeps c I (k0_part161 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6) := by
  rw [k0_part161_eq_skeleton]; unfold k0_part161_skel
  repeat' first | with_reducible refine keeps_bind ?_ fun _ => ?_ | with_reducible infer_instance | exact keeps_load | exact keeps_store | exact load_part | exact store_part | split | refine keeps_for fun _ _ => ?_

end Cert.AttentionIdeal.Held
end
-- ==== Proof.AttnIdealPartsB.lean ====
module

public import proofs.«01_k».proof.Proof.AttnIdealPartsA

/-! # The parts of the attention body keep what they hold: the second half, the two loops and the whole body -/

@[expose] public section

namespace Cert.AttentionIdeal.Held

open Idealize.ShloMosaic Idealize.ShloMosaic.TcCoe
open Idealize.SL Idealize.SL.RA Idealize.SL.BI
open Cert.AttentionIdeal.Gen

variable {F : FTy → Type} [FloatOps F] [Named F]
variable {c : Dev nD} {I : sProp (MT nD τ sig Unit (Elt F) ℕ (UR sig nD τ) ℕ)} {i : grid0.Coords}
variable {a3 : Memref sig .tc .vmem S256x256 .f32} {h3 : a3.IsWhole}
variable {a4 : Memref sig .tc .vmem S32x256 .f32} {h4 : a4.IsWhole}
variable {a5 : Memref sig .tc .vmem S32x256 .f32} {h5 : a5.IsWhole}
variable {a6 : Memref sig .tc .vmem S256x128 .f32} {h6 : a6.IsWhole}
variable {a7 : Memref sig .tc .vmem S1x1x256x64 .bf16} {h7 : a7.IsWhole}
variable {a8 : Memref sig .tc .vmem S1x1x64x256 .bf16} {h8 : a8.IsWhole}
variable {a9 : Memref sig .tc .vmem S1x1x16x256x128 .bf16} {h9 : a9.IsWhole}
variable {a10 : Memref sig .tc .vmem S1x1x16x80x256 .bf16} {h10 : a10.IsWhole}
variable {a11 : Memref sig .tc .vmem S1x1x16x256x64 .bf16} {h11 : a11.IsWhole}
variable {a12 : Memref sig .tc .vmem S1x1x16x80x256 .bf16} {h12 : a12.IsWhole}
variable {a13 : Memref sig .tc .vmem S64x256 .bf16} {h13 : a13.IsWhole}
variable {a14 : Memref sig .tc .vmem S256x256 .bf16} {h14 : a14.IsWhole}
variable {a15 : Memref sig .tc .vmem S4x128x256 .bf16} {h15 : a15.IsWhole}
variable {a16 : Memref sig .tc .vmem S128x256 .f32} {h16 : a16.IsWhole}
variable {a17 : Memref sig .tc .vmem S64x256 .f32} {h17 : a17.IsWhole}
variable {a18 : Memref sig .tc .vmem S4x1x256 .f32} {h18 : a18.IsWhole}
variable {a19 : Memref sig .tc .vmem S4x1x256 .f32} {h19 : a19.IsWhole}
variable {a20 : Memref sig .tc .vmem S4x80x256 .f32} {h20 : a20.IsWhole}
variable {a21 : Memref sig .tc .vmem S256x256 .f32} {h21 : a21.IsWhole}
variable {a22 : Memref sig .tc .vmem S4x256x256 .f32} {h22 : a22.IsWhole}
variable {a23 : Memref sig .tc .vmem S4x256x256 .bf16} {h23 : a23.IsWhole}
variable {a24 : Memref sig .tc .vmem S256x256 .f32} {h24 : a24.IsWhole}
variable {a25 : Memref sig .tc .vmem S2x4x256x256 .f32} {h25 : a25.IsWhole}
variable {a26 : Memref sig .tc .vmem S4x256x256 .bf16} {h26 : a26.IsWhole}
variable {a27 : Memref sig .tc .vmem S4x1x256 .f32} {h27 : a27.IsWhole}
variable {a28 : Memref sig .tc .vmem S4x1x256 .f32} {h28 : a28.IsWhole}
variable {a29 : Memref sig .tc .vmem S4x80x256 .f32} {h29 : a29.IsWhole}
variable {a30 : Memref sig .tc .vmem S3x4x256x256 .f32} {h30 : a30.IsWhole}
variable {a31 : Memref sig .tc .vmem S4x256x256 .bf16} {h31 : a31.IsWhole}
variable [Reads c I a3] [Reads c I a4] [Reads c I a5] [Reads c I a6] [Reads c I a7] [Reads c I a8] [Reads c I a9] [Reads c I a10] [Reads c I a11] [Reads c I a12] [Reads c I a13]
variable [Writes c I a14] [Writes c I a15] [Writes c I a16] [Writes c I a17] [Writes c I a18] [Writes c I a19] [Writes c I a20] [Writes c I a21] [Writes c I a22] [Writes c I a23] [Writes c I a24] [Writes c I a25] [Writes c I a26] [Writes c I a27] [Writes c I a28] [Writes c I a29] [Writes c I a30] [Writes c I a31]

instance part162 {y0} {y1} : Keeps c I (k0_part162 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part162_eq_skeleton]; unfold k0_part162_skel
  repeat' first | with_reducible refine keeps_bind ?_ fun _ => ?_ | with_reducible infer_instance | exact keeps_load | exact keeps_store | exact load_part | exact store_part | split | refine keeps_for fun _ _ => ?_

instance part163 {y0} {y1} {y2} {y3} : Keeps c I (k0_part163 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part163_eq_skeleton]; unfold k0_part163_skel
  repeat' first | with_reducible refine keeps_bind ?_ fun _ => ?_ | with_reducible infer_instance | exact keeps_load | exact keeps_store | exact load_part | exact store_part | split | refine keeps_for fun _ _ => ?_

instance part164 {y0} {y1} {y2} {y3} : Keeps c I (k0_part164 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part164_eq_skeleton]; unfold k0_part164_skel
  repeat' first | with_reducible refine keeps_bind ?_ fun _ => ?_ | with_reducible infer_instance | exact keeps_load | exact keeps_store | exact load_part | exact store_part | split | refine keeps_for fun _ _ => ?_

instance part165 {y0} {y1} {y2} : Keeps c I (k0_part165 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part165_eq_skeleton]; unfold k0_part165_skel
  repeat' first | with_reducible refine keeps_bind ?_ fun _ => ?_ | with_reducible infer_instance | exact keeps_load | exact keeps_store | exact load_part | exact store_part | split | refine keeps_for fun _ _ => ?_

instance part166 {y0} : Keeps c I (k0_part166 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part166_eq_skeleton]; unfold k0_part166_skel
  repeat' first | with_reducible refine keeps_bind ?_ fun _ => ?_ | with_reducible infer_instance | exact keeps_load | exact keeps_store | exact load_part | exact store_part | split | refine keeps_for fun _ _ => ?_

instance part167 {y0} {y1} {y2} : Keeps c I (k0_part167 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part167_eq_skeleton]; unfold k0_part167_skel
  repeat' first | with_reducible refine keeps_bind ?_ fun _ => ?_ | with_reducible infer_instance | exact keeps_load | exact keeps_store | exact load_part | exact store_part | split | refine keeps_for fun _ _ => ?_

instance part168 {y0} {y1} {y2} {y3} : Keeps c I (k0_part168 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part168_eq_skeleton]; unfold k0_part168_skel
  repeat' first | with_reducible refine keeps_bind ?_ fun _ => ?_ | with_reducible infer_instance | exact keeps_load | exact keeps_store | exact load_part | exact store_part | split | refine keeps_for fun _ _ => ?_

instance part169 {y0} {y1} : Keeps c I (k0_part169 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part169_eq_skeleton]; unfold k0_part169_skel
  repeat' first | with_reducible refine keeps_bind ?_ fun _ => ?_ | with_reducible infer_instance | exact keeps_load | exact keeps_store | exact load_part | exact store_part | split | refine keeps_for fun _ _ => ?_

instance part170 : Keeps c I (k0_part170 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part170_eq_skeleton]; unfold k0_part170_skel
  repeat' first | with_reducible refine keeps_bind ?_ fun _ => ?_ | with_reducible infer_instance | exact keeps_load | exact keeps_store | exact load_part | exact store_part | split | refine keeps_for fun _ _ => ?_

instance part171 {y0} {y1} {y2} {y3} {y4} : Keeps c I (k0_part171 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part171_eq_skeleton]; unfold k0_part171_skel
  repeat' first | with_reducible refine keeps_bind ?_ fun _ => ?_ | with_reducible infer_instance | exact keeps_load | exact keeps_store | exact load_part | exact store_part | split | refine keeps_for fun _ _ => ?_

instance part172 {y0} {y1} {y2} : Keeps c I (k0_part172 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part172_eq_skeleton]; unfold k0_part172_skel
  repeat' first | with_reducible refine keeps_bind ?_ fun _ => ?_ | with_reducible infer_instance | exact keeps_load | exact keeps_store | exact load_part | exact store_part | split | refine keeps_for fun _ _ => ?_

instance part173 {y0} {y1} : Keeps c I (k0_part173 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part173_eq_skeleton]; unfold k0_part173_skel
  repeat' first | with_reducible refine keeps_bind ?_ fun _ => ?_ | with_reducible infer_instance | exact keeps_load | exact keeps_store | exact load_part | exact store_part | split | refine keeps_for fun _ _ => ?_

instance part174 {y0} {y1} {y2} : Keeps c I (k0_part174 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part174_eq_skeleton]; unfold k0_part174_skel
  repeat' first | with_reducible refine keeps_bind ?_ fun _ => ?_ | with_reducible infer_instance | exact keeps_load | exact keeps_store | exact load_part | exact store_part | split | refine keeps_for fun _ _ => ?_

instance part175 {y0} {y1} : Keeps c I (k0_part175 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part175_eq_skeleton]; unfold k0_part175_skel
  repeat' first | with_reducible refine keeps_bind ?_ fun _ => ?_ | with_reducible infer_instance | exact keeps_load | exact keeps_store | exact load_part | exact store_part | split | refine keeps_for fun _ _ => ?_

instance part176 {y0} {y1} {y2} {y3} {y4} : Keeps c I (k0_part176 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part176_eq_skeleton]; unfold k0_part176_skel
  repeat' first | with_reducible refine keeps_bind ?_ fun _ => ?_ | with_reducible infer_instance | exact keeps_load | exact keeps_store | exact load_part | exact store_part | split | refine keeps_for fun _ _ => ?_

instance part177 {y0} {y1} {y2} : Keeps c I (k0_part177 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part177_eq_skeleton]; unfold k0_part177_skel
  repeat' first | with_reducible refine keeps_bind ?_ fun _ => ?_ | with_reducible infer_instance | exact keeps_load | exact keeps_store | exact load_part | exact store_part | split | refine keeps_for fun _ _ => ?_

instance part178 {y0} : Keeps c I (k0_part178 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part178_eq_skeleton]; unfold k0_part178_skel
  repeat' first | with_reducible refine keeps_bind ?_ fun _ => ?_ | with_reducible infer_instance | exact keeps_load | exact keeps_store | exact load_part | exact store_part | split | refine keeps_for fun _ _ => ?_

instance part179 {y0} {y1} {y2} : Keeps c I (k0_part179 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part179_eq_skeleton]; unfold k0_part179_skel
  repeat' first | with_reducible refine keeps_bind ?_ fun _ => ?_ | with_reducible infer_instance | exact keeps_load | exact keeps_store | exact load_part | exact store_part | split | refine keeps_for fun _ _ => ?_

instance part180 {y0} {y1} : Keeps c I (k0_part180 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part180_eq_skeleton]; unfold k0_part180_skel
  repeat' first | with_reducible refine keeps_bind ?_ fun _ => ?_ | with_reducible infer_instance | exact keeps_load | exact keeps_store | exact load_part | exact store_part | split | refine keeps_for fun _ _ => ?_

instance part181 {y0} {y1} {y2} {y3} : Keeps c I (k0_part181 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part181_eq_skeleton]; unfold k0_part181_skel
  repeat' first | with_reducible refine keeps_bind ?_ fun _ => ?_ | with_reducible infer_instance | exact keeps_load | exact keeps_store | exact load_part | exact store_part | split | refine keeps_for fun _ _ => ?_

instance part182 {y0} {y1} : Keeps c I (k0_part182 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part182_eq_skeleton]; unfold k0_part182_skel
  repeat' first | with_reducible refine keeps_bind ?_ fun _ => ?_ | with_reducible infer_instance | exact keeps_load | exact keeps_store | exact load_part | exact store_part | split | refine keeps_for fun _ _ => ?_

instance part183 {y0} {y1} {y2} {y3} {y4} : Keeps c I (k0_part183 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part183_eq_skeleton]; unfold k0_part183_skel
  repeat' first | with_reducible refine keeps_bind ?_ fun _ => ?_ | with_reducible infer_instance | exact keeps_load | exact keeps_store | exact load_part | exact store_part | split | refine keeps_for fun _ _ => ?_

instance part184 {y0} {y1} {y2} {y3} {y4} {y5} {y6} {y7} {y8} {y9} {y10} {y11} {y12} {y13} {y14} {y15} {y16} {y17} {y18} {y19} : Keeps c I (k0_part184 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part184_eq_skeleton]; unfold k0_part184_skel
  repeat' first | with_reducible refine keeps_bind ?_ fun _ => ?_ | with_reducible infer_instance | exact keeps_load | exact keeps_store | exact load_part | exact store_part | split | refine keeps_for fun _ _ => ?_

instance part185 {y0} {y1} {y2} {y3} {y4} {y5} {y6} {y7} {y8} {y9} {y10} {y11} {y12} {y13} : Keeps c I (k0_part185 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13) := by
  rw [k0_part185_eq_skeleton]; unfold k0_part185_skel
  repeat' first | with_reducible refine keeps_bind ?_ fun _ => ?_ | with_reducible infer_instance | exact keeps_load | exact keeps_store | exact load_part | exact store_part | split | refine keeps_for fun _ _ => ?_

instance part186 {y0} {y1} {y2} {y3} {y4} {y5} {y6} {y7} {y8} {y9} {y10} {y11} {y12} {y13} {y14} {y15} {y16} : Keeps c I (k0_part186 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part186_eq_skeleton]; unfold k0_part186_skel
  repeat' first | with_reducible refine keeps_bind ?_ fun _ => ?_ | with_reducible infer_instance | exact keeps_load | exact keeps_store | exact load_part | exact store_part | split | refine keeps_for fun _ _ => ?_

instance part187 {y0} {y1} {y2} {y3} {y4} {y5} {y6} {y7} {y8} {y9} {y10} {y11} {y12} {y13} {y14} {y15} {y16} : Keeps c I (k0_part187 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part187_eq_skeleton]; unfold k0_part187_skel
  repeat' first | with_reducible refine keeps_bind ?_ fun _ => ?_ | with_reducible infer_instance | exact keeps_load | exact keeps_store | exact load_part | exact store_part | split | refine keeps_for fun _ _ => ?_

instance part188 {y0} {y1} {y2} {y3} {y4} {y5} {y6} {y7} {y8} {y9} {y10} {y11} {y12} {y13} {y14} {y15} : Keeps c I (k0_part188 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part188_eq_skeleton]; unfold k0_part188_skel
  repeat' first | with_reducible refine keeps_bind ?_ fun _ => ?_ | with_reducible infer_instance | exact keeps_load | exact keeps_store | exact load_part | exact store_part | split | refine keeps_for fun _ _ => ?_

instance part189 {y0} {y1} {y2} {y3} {y4} {y5} {y6} {y7} {y8} {y9} {y10} {y11} {y12} {y13} {y14} {y15} {y16} {y17} {y18} : Keeps c I (k0_part189 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part189_eq_skeleton]; unfold k0_part189_skel
  repeat' first | with_reducible refine keeps_bind ?_ fun _ => ?_ | with_reducible infer_instance | exact keeps_load | exact keeps_store | exact load_part | exact store_part | split | refine keeps_for fun _ _ => ?_

instance part190 {y0} {y1} {y2} {y3} {y4} {y5} {y6} {y7} {y8} {y9} {y10} {y11} {y12} {y13} {y14} {y15} {y16} {y17} {y18} {y19} : Keeps c I (k0_part190 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part190_eq_skeleton]; unfold k0_part190_skel
  repeat' first | with_reducible refine keeps_bind ?_ fun _ => ?_ | with_reducible infer_instance | exact keeps_load | exact keeps_store | exact load_part | exact store_part | split | refine keeps_for fun _ _ => ?_

instance part191 {y0} {y1} {y2} {y3} {y4} {y5} {y6} {y7} {y8} {y9} {y10} {y11} {y12} {y13} {y14} {y15} {y16} : Keeps c I (k0_part191 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part191_eq_skeleton]; unfold k0_part191_skel
  repeat' first | with_reducible refine keeps_bind ?_ fun _ => ?_ | with_reducible infer_instance | exact keeps_load | exact keeps_store | exact load_part | exact store_part | split | refine keeps_for fun _ _ => ?_

instance part192 {y0} {y1} {y2} {y3} {y4} {y5} {y6} {y7} {y8} {y9} {y10} {y11} {y12} {y13} {y14} {y15} : Keeps c I (k0_part192 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part192_eq_skeleton]; unfold k0_part192_skel
  repeat' first | with_reducible refine keeps_bind ?_ fun _ => ?_ | with_reducible infer_instance | exact keeps_load | exact keeps_store | exact load_part | exact store_part | split | refine keeps_for fun _ _ => ?_

instance part193 {y0} {y1} {y2} {y3} {y4} {y5} {y6} {y7} {y8} {y9} {y10} {y11} {y12} {y13} {y14} : Keeps c I (k0_part193 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part193_eq_skeleton]; unfold k0_part193_skel
  repeat' first | with_reducible refine keeps_bind ?_ fun _ => ?_ | with_reducible infer_instance | exact keeps_load | exact keeps_store | exact load_part | exact store_part | split | refine keeps_for fun _ _ => ?_

instance part194 {y0} {y1} {y2} {y3} {y4} {y5} {y6} {y7} {y8} {y9} {y10} {y11} {y12} {y13} {y14} {y15} {y16} : Keeps c I (k0_part194 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part194_eq_skeleton]; unfold k0_part194_skel
  repeat' first | with_reducible refine keeps_bind ?_ fun _ => ?_ | with_reducible infer_instance | exact keeps_load | exact keeps_store | exact load_part | exact store_part | split | refine keeps_for fun _ _ => ?_

instance part195 {y0} {y1} {y2} {y3} {y4} {y5} {y6} {y7} {y8} {y9} {y10} {y11} {y12} {y13} {y14} {y15} {y16} : Keeps c I (k0_part195 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part195_eq_skeleton]; unfold k0_part195_skel
  repeat' first | with_reducible refine keeps_bind ?_ fun _ => ?_ | with_reducible infer_instance | exact keeps_load | exact keeps_store | exact load_part | exact store_part | split | refine keeps_for fun _ _ => ?_

instance part196 {y0} {y1} {y2} {y3} {y4} {y5} {y6} {y7} {y8} {y9} {y10} {y11} {y12} {y13} {y14} {y15} {y16} : Keeps c I (k0_part196 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part196_eq_skeleton]; unfold k0_part196_skel
  repeat' first | with_reducible refine keeps_bind ?_ fun _ => ?_ | with_reducible infer_instance | exact keeps_load | exact keeps_store | exact load_part | exact store_part | split | refine keeps_for fun _ _ => ?_

instance part197 {y0} {y1} {y2} {y3} {y4} {y5} {y6} {y7} {y8} {y9} {y10} {y11} {y12} {y13} {y14} {y15} {y16} : Keeps c I (k0_part197 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part197_eq_skeleton]; unfold k0_part197_skel
  repeat' first | with_reducible refine keeps_bind ?_ fun _ => ?_ | with_reducible infer_instance | exact keeps_load | exact keeps_store | exact load_part | exact store_part | split | refine keeps_for fun _ _ => ?_

instance part198 {y0} {y1} {y2} {y3} {y4} {y5} {y6} {y7} {y8} {y9} {y10} {y11} {y12} {y13} {y14} {y15} {y16} {y17} {y18} : Keeps c I (k0_part198 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part198_eq_skeleton]; unfold k0_part198_skel
  repeat' first | with_reducible refine keeps_bind ?_ fun _ => ?_ | with_reducible infer_instance | exact keeps_load | exact keeps_store | exact load_part | exact store_part | split | refine keeps_for fun _ _ => ?_

instance part199 {y0} {y1} {y2} {y3} {y4} {y5} {y6} {y7} {y8} {y9} {y10} {y11} {y12} {y13} {y14} {y15} {y16} {y17} : Keeps c I (k0_part199 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part199_eq_skeleton]; unfold k0_part199_skel
  repeat' first | with_reducible refine keeps_bind ?_ fun _ => ?_ | with_reducible infer_instance | exact keeps_load | exact keeps_store | exact load_part | exact store_part | split | refine keeps_for fun _ _ => ?_

instance part200 {y0} {y1} {y2} {y3} {y4} {y5} {y6} {y7} {y8} {y9} {y10} {y11} {y12} {y13} {y14} : Keeps c I (k0_part200 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part200_eq_skeleton]; unfold k0_part200_skel
  repeat' first | with_reducible refine keeps_bind ?_ fun _ => ?_ | with_reducible infer_instance | exact keeps_load | exact keeps_store | exact load_part | exact store_part | split | refine keeps_for fun _ _ => ?_

instance part201 {y0} {y1} {y2} {y3} {y4} {y5} {y6} {y7} {y8} {y9} {y10} {y11} {y12} {y13} {y14} {y15} {y16} {y17} {y18} {y19} : Keeps c I (k0_part201 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part201_eq_skeleton]; unfold k0_part201_skel
  repeat' first | with_reducible refine keeps_bind ?_ fun _ => ?_ | with_reducible infer_instance | exact keeps_load | exact keeps_store | exact load_part | exact store_part | split | refine keeps_for fun _ _ => ?_

instance part202 {y0} {y1} {y2} {y3} {y4} {y5} {y6} {y7} {y8} {y9} {y10} {y11} {y12} {y13} {y14} {y15} {y16} : Keeps c I (k0_part202 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part202_eq_skeleton]; unfold k0_part202_skel
  repeat' first | with_reducible refine keeps_bind ?_ fun _ => ?_ | with_reducible infer_instance | exact keeps_load | exact keeps_store | exact load_part | exact store_part | split | refine keeps_for fun _ _ => ?_

instance part203 {y0} {y1} {y2} {y3} {y4} {y5} {y6} {y7} {y8} {y9} {y10} {y11} {y12} {y13} {y14} {y15} {y16} {y17} : Keeps c I (k0_part203 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part203_eq_skeleton]; unfold k0_part203_skel
  repeat' first | with_reducible refine keeps_bind ?_ fun _ => ?_ | with_reducible infer_instance | exact keeps_load | exact keeps_store | exact load_part | exact store_part | split | refine keeps_for fun _ _ => ?_

instance part204 {y0} {y1} {y2} {y3} {y4} {y5} {y6} {y7} {y8} {y9} {y10} {y11} {y12} {y13} {y14} {y15} {y16} {y17} {y18} : Keeps c I (k0_part204 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part204_eq_skeleton]; unfold k0_part204_skel
  repeat' first | with_reducible refine keeps_bind ?_ fun _ => ?_ | with_reducible infer_instance | exact keeps_load | exact keeps_store | exact load_part | exact store_part | split | refine keeps_for fun _ _ => ?_

instance part205 {y0} {y1} {y2} {y3} {y4} {y5} {y6} {y7} {y8} {y9} {y10} {y11} {y12} {y13} {y14} {y15} : Keeps c I (k0_part205 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part205_eq_skeleton]; unfold k0_part205_skel
  repeat' first | with_reducible refine keeps_bind ?_ fun _ => ?_ | with_reducible infer_instance | exact keeps_load | exact keeps_store | exact load_part | exact store_part | split | refine keeps_for fun _ _ => ?_

instance part206 {y0} {y1} {y2} {y3} {y4} {y5} {y6} {y7} {y8} {y9} {y10} {y11} {y12} {y13} : Keeps c I (k0_part206 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13) := by
  rw [k0_part206_eq_skeleton]; unfold k0_part206_skel
  repeat' first | with_reducible refine keeps_bind ?_ fun _ => ?_ | with_reducible infer_instance | exact keeps_load | exact keeps_store | exact load_part | exact store_part | split | refine keeps_for fun _ _ => ?_

instance part207 {y0} {y1} {y2} {y3} {y4} {y5} {y6} {y7} {y8} {y9} {y10} {y11} {y12} {y13} {y14} {y15} {y16} {y17} {y18} : Keeps c I (k0_part207 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part207_eq_skeleton]; unfold k0_part207_skel
  repeat' first | with_reducible refine keeps_bind ?_ fun _ => ?_ | with_reducible infer_instance | exact keeps_load | exact keeps_store | exact load_part | exact store_part | split | refine keeps_for fun _ _ => ?_

instance part208 {y0} {y1} {y2} {y3} {y4} {y5} {y6} {y7} {y8} {y9} {y10} {y11} {y12} {y13} {y14} : Keeps c I (k0_part208 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part208_eq_skeleton]; unfold k0_part208_skel
  repeat' first | with_reducible refine keeps_bind ?_ fun _ => ?_ | with_reducible infer_instance | exact keeps_load | exact keeps_store | exact load_part | exact store_part | split | refine keeps_for fun _ _ => ?_

instance part209 {y0} {y1} {y2} {y3} {y4} {y5} {y6} {y7} {y8} {y9} {y10} {y11} {y12} {y13} {y14} {y15} {y16} {y17} {y18} : Keeps c I (k0_part209 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part209_eq_skeleton]; unfold k0_part209_skel
  repeat' first | with_reducible refine keeps_bind ?_ fun _ => ?_ | with_reducible infer_instance | exact keeps_load | exact keeps_store | exact load_part | exact store_part | split | refine keeps_for fun _ _ => ?_

instance part210 {y0} {y1} {y2} {y3} {y4} {y5} {y6} {y7} {y8} {y9} {y10} {y11} {y12} {y13} {y14} {y15} {y16} {y17} : Keeps c I (k0_part210 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part210_eq_skeleton]; unfold k0_part210_skel
  repeat' first | with_reducible refine keeps_bind ?_ fun _ => ?_ | with_reducible infer_instance | exact keeps_load | exact keeps_store | exact load_part | exact store_part | split | refine keeps_for fun _ _ => ?_

instance part211 {y0} {y1} {y2} {y3} {y4} {y5} {y6} {y7} {y8} {y9} {y10} {y11} {y12} {y13} {y14} {y15} {y16} {y17} : Keeps c I (k0_part211 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part211_eq_skeleton]; unfold k0_part211_skel
  repeat' first | with_reducible refine keeps_bind ?_ fun _ => ?_ | with_reducible infer_instance | exact keeps_load | exact keeps_store | exact load_part | exact store_part | split | refine keeps_for fun _ _ => ?_

instance part212 {y0} {y1} {y2} {y3} {y4} {y5} {y6} {y7} {y8} {y9} {y10} {y11} {y12} {y13} {y14} {y15} {y16} {y17} {y18} : Keeps c I (k0_part212 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part212_eq_skeleton]; unfold k0_part212_skel
  repeat' first | with_reducible refine keeps_bind ?_ fun _ => ?_ | with_reducible infer_instance | exact keeps_load | exact keeps_store | exact load_part | exact store_part | split | refine keeps_for fun _ _ => ?_

instance part213 {y0} {y1} {y2} {y3} {y4} {y5} {y6} {y7} {y8} {y9} {y10} {y11} {y12} {y13} {y14} {y15} {y16} : Keeps c I (k0_part213 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part213_eq_skeleton]; unfold k0_part213_skel
  repeat' first | with_reducible refine keeps_bind ?_ fun _ => ?_ | with_reducible infer_instance | exact keeps_load | exact keeps_store | exact load_part | exact store_part | split | refine keeps_for fun _ _ => ?_

instance part214 {y0} {y1} {y2} {y3} {y4} {y5} {y6} {y7} {y8} {y9} {y10} {y11} {y12} {y13} {y14} : Keeps c I (k0_part214 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part214_eq_skeleton]; unfold k0_part214_skel
  repeat' first | with_reducible refine keeps_bind ?_ fun _ => ?_ | with_reducible infer_instance | exact keeps_load | exact keeps_store | exact load_part | exact store_part | split | refine keeps_for fun _ _ => ?_

instance part215 {y0} {y1} {y2} {y3} {y4} {y5} {y6} {y7} {y8} {y9} {y10} {y11} {y12} {y13} {y14} {y15} {y16} {y17} {y18} : Keeps c I (k0_part215 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part215_eq_skeleton]; unfold k0_part215_skel
  repeat' first | with_reducible refine keeps_bind ?_ fun _ => ?_ | with_reducible infer_instance | exact keeps_load | exact keeps_store | exact load_part | exact store_part | split | refine keeps_for fun _ _ => ?_

instance part216 {y0} {y1} {y2} {y3} {y4} {y5} {y6} {y7} {y8} {y9} {y10} {y11} {y12} {y13} {y14} {y15} : Keeps c I (k0_part216 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part216_eq_skeleton]; unfold k0_part216_skel
  repeat' first | with_reducible refine keeps_bind ?_ fun _ => ?_ | with_reducible infer_instance | exact keeps_load | exact keeps_store | exact load_part | exact store_part | split | refine keeps_for fun _ _ => ?_

instance part217 {y0} {y1} {y2} {y3} {y4} {y5} {y6} {y7} {y8} {y9} {y10} {y11} {y12} {y13} {y14} {y15} {y16} {y17} {y18} : Keeps c I (k0_part217 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part217_eq_skeleton]; unfold k0_part217_skel
  repeat' first | with_reducible refine keeps_bind ?_ fun _ => ?_ | with_reducible infer_instance | exact keeps_load | exact keeps_store | exact load_part | exact store_part | split | refine keeps_for fun _ _ => ?_

instance part218 {y0} {y1} {y2} {y3} {y4} {y5} {y6} {y7} {y8} {y9} {y10} {y11} {y12} {y13} {y14} {y15} {y16} : Keeps c I (k0_part218 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part218_eq_skeleton]; unfold k0_part218_skel
  repeat' first | with_reducible refine keeps_bind ?_ fun _ => ?_ | with_reducible infer_instance | exact keeps_load | exact keeps_store | exact load_part | exact store_part | split | refine keeps_for fun _ _ => ?_

instance part219 {y0} {y1} {y2} {y3} {y4} {y5} {y6} {y7} {y8} {y9} {y10} {y11} {y12} {y13} {y14} {y15} {y16} {y17} : Keeps c I (k0_part219 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part219_eq_skeleton]; unfold k0_part219_skel
  repeat' first | with_reducible refine keeps_bind ?_ fun _ => ?_ | with_reducible infer_instance | exact keeps_load | exact keeps_store | exact load_part | exact store_part | split | refine keeps_for fun _ _ => ?_

instance part220 {y0} {y1} {y2} {y3} {y4} {y5} {y6} {y7} {y8} {y9} {y10} {y11} {y12} {y13} {y14} : Keeps c I (k0_part220 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part220_eq_skeleton]; unfold k0_part220_skel
  repeat' first | with_reducible refine keeps_bind ?_ fun _ => ?_ | with_reducible infer_instance | exact keeps_load | exact keeps_store | exact load_part | exact store_part | split | refine keeps_for fun _ _ => ?_

instance part221 {y0} {y1} {y2} {y3} {y4} {y5} {y6} {y7} {y8} {y9} {y10} {y11} {y12} {y13} {y14} {y15} : Keeps c I (k0_part221 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part221_eq_skeleton]; unfold k0_part221_skel
  repeat' first | with_reducible refine keeps_bind ?_ fun _ => ?_ | with_reducible infer_instance | exact keeps_load | exact keeps_store | exact load_part | exact store_part | split | refine keeps_for fun _ _ => ?_

instance part222 {y0} {y1} {y2} {y3} {y4} {y5} {y6} {y7} {y8} {y9} {y10} {y11} {y12} {y13} {y14} {y15} : Keeps c I (k0_part222 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part222_eq_skeleton]; unfold k0_part222_skel
  repeat' first | with_reducible refine keeps_bind ?_ fun _ => ?_ | with_reducible infer_instance | exact keeps_load | exact keeps_store | exact load_part | exact store_part | split | refine keeps_for fun _ _ => ?_

instance part223 {y0} {y1} {y2} {y3} {y4} {y5} {y6} {y7} {y8} {y9} {y10} {y11} {y12} {y13} {y14} {y15} {y16} {y17} {y18} {y19} : Keeps c I (k0_part223 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part223_eq_skeleton]; unfold k0_part223_skel
  repeat' first | with_reducible refine keeps_bind ?_ fun _ => ?_ | with_reducible infer_instance | exact keeps_load | exact keeps_store | exact load_part | exact store_part | split | refine keeps_for fun _ _ => ?_

instance part224 {y0} {y1} {y2} {y3} {y4} {y5} {y6} {y7} {y8} {y9} {y10} {y11} {y12} {y13} {y14} {y15} {y16} : Keeps c I (k0_part224 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part224_eq_skeleton]; unfold k0_part224_skel
  repeat' first | with_reducible refine keeps_bind ?_ fun _ => ?_ | with_reducible infer_instance | exact keeps_load | exact keeps_store | exact load_part | exact store_part | split | refine keeps_for fun _ _ => ?_

instance part225 {y0} {y1} {y2} {y3} {y4} {y5} {y6} {y7} {y8} {y9} {y10} {y11} {y12} {y13} {y14} : Keeps c I (k0_part225 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part225_eq_skeleton]; unfold k0_part225_skel
  repeat' first | with_reducible refine keeps_bind ?_ fun _ => ?_ | with_reducible infer_instance | exact keeps_load | exact keeps_store | exact load_part | exact store_part | split | refine keeps_for fun _ _ => ?_

instance part226 {y0} {y1} {y2} {y3} {y4} {y5} {y6} {y7} {y8} {y9} {y10} {y11} {y12} {y13} {y14} {y15} {y16} {y17} : Keeps c I (k0_part226 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part226_eq_skeleton]; unfold k0_part226_skel
  repeat' first | with_reducible refine keeps_bind ?_ fun _ => ?_ | with_reducible infer_instance | exact keeps_load | exact keeps_store | exact load_part | exact store_part | split | refine keeps_for fun _ _ => ?_

instance part227 {y0} {y1} {y2} {y3} {y4} {y5} {y6} {y7} {y8} {y9} {y10} {y11} {y12} {y13} {y14} {y15} : Keeps c I (k0_part227 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part227_eq_skeleton]; unfold k0_part227_skel
  repeat' first | with_reducible refine keeps_bind ?_ fun _ => ?_ | with_reducible infer_instance | exact keeps_load | exact keeps_store | exact load_part | exact store_part | split | refine keeps_for fun _ _ => ?_

instance part228 {y0} {y1} {y2} {y3} {y4} {y5} {y6} {y7} {y8} {y9} {y10} {y11} {y12} {y13} {y14} : Keeps c I (k0_part228 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part228_eq_skeleton]; unfold k0_part228_skel
  repeat' first | with_reducible refine keeps_bind ?_ fun _ => ?_ | with_reducible infer_instance | exact keeps_load | exact keeps_store | exact load_part | exact store_part | split | refine keeps_for fun _ _ => ?_

instance part229 {y0} {y1} {y2} {y3} {y4} {y5} {y6} {y7} {y8} {y9} {y10} {y11} {y12} {y13} {y14} {y15} {y16} {y17} {y18} {y19} : Keeps c I (k0_part229 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part229_eq_skeleton]; unfold k0_part229_skel
  repeat' first | with_reducible refine keeps_bind ?_ fun _ => ?_ | with_reducible infer_instance | exact keeps_load | exact keeps_store | exact load_part | exact store_part | split | refine keeps_for fun _ _ => ?_

instance part230 {y0} {y1} {y2} {y3} {y4} {y5} {y6} {y7} {y8} {y9} {y10} {y11} {y12} {y13} {y14} {y15} {y16} {y17} : Keeps c I (k0_part230 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part230_eq_skeleton]; unfold k0_part230_skel
  repeat' first | with_reducible refine keeps_bind ?_ fun _ => ?_ | with_reducible infer_instance | exact keeps_load | exact keeps_store | exact load_part | exact store_part | split | refine keeps_for fun _ _ => ?_

instance part231 {y0} {y1} {y2} {y3} {y4} {y5} {y6} {y7} {y8} {y9} {y10} {y11} {y12} {y13} {y14} {y15} : Keeps c I (k0_part231 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part231_eq_skeleton]; unfold k0_part231_skel
  repeat' first | with_reducible refine keeps_bind ?_ fun _ => ?_ | with_reducible infer_instance | exact keeps_load | exact keeps_store | exact load_part | exact store_part | split | refine keeps_for fun _ _ => ?_

instance part232 {y0} {y1} {y2} {y3} {y4} {y5} {y6} {y7} {y8} {y9} {y10} {y11} {y12} {y13} {y14} {y15} {y16} {y17} : Keeps c I (k0_part232 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part232_eq_skeleton]; unfold k0_part232_skel
  repeat' first | with_reducible refine keeps_bind ?_ fun _ => ?_ | with_reducible infer_instance | exact keeps_load | exact keeps_store | exact load_part | exact store_part | split | refine keeps_for fun _ _ => ?_

instance part233 {y0} {y1} {y2} {y3} {y4} {y5} {y6} {y7} {y8} {y9} {y10} {y11} {y12} {y13} {y14} : Keeps c I (k0_part233 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part233_eq_skeleton]; unfold k0_part233_skel
  repeat' first | with_reducible refine keeps_bind ?_ fun _ => ?_ | with_reducible infer_instance | exact keeps_load | exact keeps_store | exact load_part | exact store_part | split | refine keeps_for fun _ _ => ?_

instance part234 {y0} {y1} {y2} {y3} {y4} {y5} {y6} {y7} {y8} {y9} {y10} {y11} {y12} {y13} {y14} {y15} {y16} {y17} {y18} : Keeps c I (k0_part234 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part234_eq_skeleton]; unfold k0_part234_skel
  repeat' first | with_reducible refine keeps_bind ?_ fun _ => ?_ | with_reducible infer_instance | exact keeps_load | exact keeps_store | exact load_part | exact store_part | split | refine keeps_for fun _ _ => ?_

instance part235 {y0} {y1} {y2} {y3} {y4} {y5} {y6} {y7} {y8} {y9} {y10} {y11} {y12} {y13} {y14} {y15} {y16} : Keeps c I (k0_part235 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part235_eq_skeleton]; unfold k0_part235_skel
  repeat' first | with_reducible refine keeps_bind ?_ fun _ => ?_ | with_reducible infer_instance | exact keeps_load | exact keeps_store | exact load_part | exact store_part | split | refine keeps_for fun _ _ => ?_

instance part236 {y0} {y1} {y2} {y3} {y4} {y5} {y6} {y7} {y8} {y9} {y10} {y11} {y12} {y13} {y14} {y15} : Keeps c I (k0_part236 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part236_eq_skeleton]; unfold k0_part236_skel
  repeat' first | with_reducible refine keeps_bind ?_ fun _ => ?_ | with_reducible infer_instance | exact keeps_load | exact keeps_store | exact load_part | exact store_part | split | refine keeps_for fun _ _ => ?_

instance part237 {y0} {y1} {y2} {y3} {y4} {y5} {y6} {y7} {y8} {y9} {y10} {y11} {y12} {y13} {y14} {y15} {y16} {y17} {y18} : Keeps c I (k0_part237 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part237_eq_skeleton]; unfold k0_part237_skel
  repeat' first | with_reducible refine keeps_bind ?_ fun _ => ?_ | with_reducible infer_instance | exact keeps_load | exact keeps_store | exact load_part | exact store_part | split | refine keeps_for fun _ _ => ?_

instance part238 {y0} {y1} {y2} {y3} {y4} {y5} {y6} {y7} {y8} {y9} {y10} {y11} {y12} {y13} {y14} {y15} : Keeps c I (k0_part238 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part238_eq_skeleton]; unfold k0_part238_skel
  repeat' first | with_reducible refine keeps_bind ?_ fun _ => ?_ | with_reducible infer_instance | exact keeps_load | exact keeps_store | exact load_part | exact store_part | split | refine keeps_for fun _ _ => ?_

instance part239 {y0} {y1} {y2} {y3} {y4} {y5} {y6} {y7} {y8} {y9} {y10} {y11} {y12} {y13} {y14} {y15} {y16} {y17} {y18} {y19} : Keeps c I (k0_part239 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part239_eq_skeleton]; unfold k0_part239_skel
  repeat' first | with_reducible refine keeps_bind ?_ fun _ => ?_ | with_reducible infer_instance | exact keeps_load | exact keeps_store | exact load_part | exact store_part | split | refine keeps_for fun _ _ => ?_

instance part240 {y0} {y1} {y2} {y3} {y4} {y5} {y6} {y7} {y8} {y9} {y10} {y11} {y12} {y13} {y14} {y15} {y16} {y17} : Keeps c I (k0_part240 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17) := by
  rw [k0_part240_eq_skeleton]; unfold k0_part240_skel
  repeat' first | with_reducible refine keeps_bind ?_ fun _ => ?_ | with_reducible infer_instance | exact keeps_load | exact keeps_store | exact load_part | exact store_part | split | refine keeps_for fun _ _ => ?_

instance part241 {y0} {y1} {y2} {y3} {y4} {y5} {y6} {y7} {y8} {y9} {y10} {y11} {y12} {y13} {y14} {y15} : Keeps c I (k0_part241 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part241_eq_skeleton]; unfold k0_part241_skel
  repeat' first | with_reducible refine keeps_bind ?_ fun _ => ?_ | with_reducible infer_instance | exact keeps_load | exact keeps_store | exact load_part | exact store_part | split | refine keeps_for fun _ _ => ?_

instance part242 {y0} {y1} {y2} {y3} {y4} {y5} {y6} {y7} {y8} {y9} {y10} {y11} {y12} {y13} : Keeps c I (k0_part242 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13) := by
  rw [k0_part242_eq_skeleton]; unfold k0_part242_skel
  repeat' first | with_reducible refine keeps_bind ?_ fun _ => ?_ | with_reducible infer_instance | exact keeps_load | exact keeps_store | exact load_part | exact store_part | split | refine keeps_for fun _ _ => ?_

instance part243 {y0} {y1} {y2} {y3} {y4} {y5} {y6} {y7} {y8} {y9} {y10} {y11} {y12} {y13} {y14} {y15} {y16} {y17} {y18} {y19} : Keeps c I (k0_part243 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19) := by
  rw [k0_part243_eq_skeleton]; unfold k0_part243_skel
  repeat' first | with_reducible refine keeps_bind ?_ fun _ => ?_ | with_reducible infer_instance | exact keeps_load | exact keeps_store | exact load_part | exact store_part | split | refine keeps_for fun _ _ => ?_

instance part244 {y0} {y1} {y2} {y3} {y4} {y5} {y6} {y7} {y8} {y9} {y10} {y11} {y12} {y13} {y14} : Keeps c I (k0_part244 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part244_eq_skeleton]; unfold k0_part244_skel
  repeat' first | with_reducible refine keeps_bind ?_ fun _ => ?_ | with_reducible infer_instance | exact keeps_load | exact keeps_store | exact load_part | exact store_part | split | refine keeps_for fun _ _ => ?_

instance part245 {y0} {y1} {y2} {y3} {y4} {y5} {y6} {y7} {y8} {y9} {y10} {y11} {y12} {y13} {y14} {y15} {y16} : Keeps c I (k0_part245 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part245_eq_skeleton]; unfold k0_part245_skel
  repeat' first | with_reducible refine keeps_bind ?_ fun _ => ?_ | with_reducible infer_instance | exact keeps_load | exact keeps_store | exact load_part | exact store_part | split | refine keeps_for fun _ _ => ?_

instance part246 {y0} {y1} {y2} {y3} {y4} {y5} {y6} {y7} {y8} {y9} {y10} {y11} {y12} {y13} {y14} {y15} : Keeps c I (k0_part246 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part246_eq_skeleton]; unfold k0_part246_skel
  repeat' first | with_reducible refine keeps_bind ?_ fun _ => ?_ | with_reducible infer_instance | exact keeps_load | exact keeps_store | exact load_part | exact store_part | split | refine keeps_for fun _ _ => ?_

instance part247 {y0} {y1} {y2} {y3} {y4} {y5} {y6} {y7} {y8} {y9} {y10} {y11} {y12} {y13} {y14} {y15} {y16} {y17} {y18} : Keeps c I (k0_part247 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part247_eq_skeleton]; unfold k0_part247_skel
  repeat' first | with_reducible refine keeps_bind ?_ fun _ => ?_ | with_reducible infer_instance | exact keeps_load | exact keeps_store | exact load_part | exact store_part | split | refine keeps_for fun _ _ => ?_

instance part248 {y0} {y1} {y2} {y3} {y4} {y5} {y6} {y7} {y8} {y9} {y10} {y11} {y12} {y13} {y14} {y15} {y16} : Keeps c I (k0_part248 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part248_eq_skeleton]; unfold k0_part248_skel
  repeat' first | with_reducible refine keeps_bind ?_ fun _ => ?_ | with_reducible infer_instance | exact keeps_load | exact keeps_store | exact load_part | exact store_part | split | refine keeps_for fun _ _ => ?_

instance part249 {y0} {y1} {y2} {y3} {y4} {y5} {y6} {y7} {y8} {y9} {y10} {y11} {y12} {y13} {y14} {y15} {y16} : Keeps c I (k0_part249 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part249_eq_skeleton]; unfold k0_part249_skel
  repeat' first | with_reducible refine keeps_bind ?_ fun _ => ?_ | with_reducible infer_instance | exact keeps_load | exact keeps_store | exact load_part | exact store_part | split | refine keeps_for fun _ _ => ?_

instance part250 {y0} {y1} {y2} {y3} {y4} {y5} {y6} {y7} {y8} {y9} {y10} {y11} {y12} {y13} {y14} {y15} {y16} {y17} {y18} : Keeps c I (k0_part250 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part250_eq_skeleton]; unfold k0_part250_skel
  repeat' first | with_reducible refine keeps_bind ?_ fun _ => ?_ | with_reducible infer_instance | exact keeps_load | exact keeps_store | exact load_part | exact store_part | split | refine keeps_for fun _ _ => ?_

instance part251 {y0} {y1} {y2} {y3} {y4} {y5} {y6} {y7} {y8} {y9} {y10} {y11} {y12} {y13} {y14} : Keeps c I (k0_part251 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14) := by
  rw [k0_part251_eq_skeleton]; unfold k0_part251_skel
  repeat' first | with_reducible refine keeps_bind ?_ fun _ => ?_ | with_reducible infer_instance | exact keeps_load | exact keeps_store | exact load_part | exact store_part | split | refine keeps_for fun _ _ => ?_

instance part252 {y0} {y1} {y2} {y3} {y4} {y5} {y6} {y7} {y8} {y9} {y10} {y11} {y12} {y13} {y14} {y15} {y16} : Keeps c I (k0_part252 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part252_eq_skeleton]; unfold k0_part252_skel
  repeat' first | with_reducible refine keeps_bind ?_ fun _ => ?_ | with_reducible infer_instance | exact keeps_load | exact keeps_store | exact load_part | exact store_part | split | refine keeps_for fun _ _ => ?_

instance part253 {y0} {y1} {y2} {y3} {y4} {y5} {y6} {y7} {y8} {y9} {y10} {y11} {y12} {y13} {y14} {y15} {y16} : Keeps c I (k0_part253 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part253_eq_skeleton]; unfold k0_part253_skel
  repeat' first | with_reducible refine keeps_bind ?_ fun _ => ?_ | with_reducible infer_instance | exact keeps_load | exact keeps_store | exact load_part | exact store_part | split | refine keeps_for fun _ _ => ?_

instance part254 {y0} {y1} {y2} {y3} {y4} {y5} {y6} {y7} {y8} {y9} {y10} {y11} {y12} {y13} {y14} {y15} : Keeps c I (k0_part254 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15) := by
  rw [k0_part254_eq_skeleton]; unfold k0_part254_skel
  repeat' first | with_reducible refine keeps_bind ?_ fun _ => ?_ | with_reducible infer_instance | exact keeps_load | exact keeps_store | exact load_part | exact store_part | split | refine keeps_for fun _ _ => ?_

instance part255 {y0} {y1} {y2} {y3} {y4} {y5} {y6} {y7} {y8} {y9} {y10} {y11} {y12} {y13} {y14} {y15} {y16} {y17} {y18} : Keeps c I (k0_part255 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part255_eq_skeleton]; unfold k0_part255_skel
  repeat' first | with_reducible refine keeps_bind ?_ fun _ => ?_ | with_reducible infer_instance | exact keeps_load | exact keeps_store | exact load_part | exact store_part | split | refine keeps_for fun _ _ => ?_

instance part256 {y0} {y1} {y2} {y3} {y4} {y5} {y6} {y7} {y8} {y9} {y10} {y11} {y12} {y13} {y14} {y15} {y16} : Keeps c I (k0_part256 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16) := by
  rw [k0_part256_eq_skeleton]; unfold k0_part256_skel
  repeat' first | with_reducible refine keeps_bind ?_ fun _ => ?_ | with_reducible infer_instance | exact keeps_load | exact keeps_store | exact load_part | exact store_part | split | refine keeps_for fun _ _ => ?_

instance part257 {y0} {y1} {y2} {y3} {y4} {y5} {y6} {y7} {y8} {y9} {y10} {y11} {y12} {y13} {y14} {y15} {y16} {y17} {y18} : Keeps c I (k0_part257 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18) := by
  rw [k0_part257_eq_skeleton]; unfold k0_part257_skel
  repeat' first | with_reducible refine keeps_bind ?_ fun _ => ?_ | with_reducible infer_instance | exact keeps_load | exact keeps_store | exact load_part | exact store_part | split | refine keeps_for fun _ _ => ?_

instance part258 {y0} {y1} {y2} {y3} {y4} {y5} {y6} {y7} {y8} {y9} {y10} : Keeps c I (k0_part258 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10) := by
  rw [k0_part258_eq_skeleton]; unfold k0_part258_skel
  repeat' first | with_reducible refine keeps_bind ?_ fun _ => ?_ | with_reducible infer_instance | exact keeps_load | exact keeps_store | exact load_part | exact store_part | split | refine keeps_for fun _ _ => ?_

instance part259 {y0} {y1} {y2} {y3} {y4} {y5} {y6} {y7} {y8} {y9} : Keeps c I (k0_part259 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9) := by
  rw [k0_part259_eq_skeleton]; unfold k0_part259_skel
  repeat' first | with_reducible refine keeps_bind ?_ fun _ => ?_ | with_reducible infer_instance | exact keeps_load | exact keeps_store | exact load_part | exact store_part | split | refine keeps_for fun _ _ => ?_

instance part260 {y0} : Keeps c I (k0_part260 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part260_eq_skeleton]; unfold k0_part260_skel
  repeat' first | with_reducible refine keeps_bind ?_ fun _ => ?_ | with_reducible infer_instance | exact keeps_load | exact keeps_store | exact load_part | exact store_part | split | refine keeps_for fun _ _ => ?_

instance part261 {y0} {y1} {y2} : Keeps c I (k0_part261 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part261_eq_skeleton]; unfold k0_part261_skel
  repeat' first | with_reducible refine keeps_bind ?_ fun _ => ?_ | with_reducible infer_instance | exact keeps_load | exact keeps_store | exact load_part | exact store_part | split | refine keeps_for fun _ _ => ?_

instance trip2 {y0} {y1} {y2} {y3} {y4} {y5} (k) (u) : Keeps c I (k0_t2_body i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 k u) := by
  unfold k0_t2_body
  repeat' first | with_reducible refine keeps_bind ?_ fun _ => ?_ | with_reducible infer_instance | exact keeps_load | exact keeps_store | exact load_part | exact store_part | split | refine keeps_for fun _ _ => ?_

instance trip1 {y0} {y1} {y2} {y3} {y4} (k) (u) : Keeps c I (k0_t1_body i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 k u) := by
  unfold k0_t1_body
  repeat' first | with_reducible refine keeps_bind ?_ fun _ => ?_ | with_reducible infer_instance | exact keeps_load | exact keeps_store | exact load_part | exact store_part | split | refine keeps_for fun _ _ => ?_

instance part262 {y0} {y1} {y2} {y3} {y4} : Keeps c I (k0_part262 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part262_eq_skeleton]; unfold k0_part262_skel
  repeat' first | with_reducible refine keeps_bind ?_ fun _ => ?_ | with_reducible infer_instance | exact keeps_load | exact keeps_store | exact load_part | exact store_part | split | refine keeps_for fun _ _ => ?_

instance part263 {y0} {y1} {y2} {y3} {y4} {y5} : Keeps c I (k0_part263 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5) := by
  rw [k0_part263_eq_skeleton]; unfold k0_part263_skel
  repeat' first | with_reducible refine keeps_bind ?_ fun _ => ?_ | with_reducible infer_instance | exact keeps_load | exact keeps_store | exact load_part | exact store_part | split | refine keeps_for fun _ _ => ?_

instance part264 {y0} {y1} {y2} {y3} {y4} : Keeps c I (k0_part264 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part264_eq_skeleton]; unfold k0_part264_skel
  repeat' first | with_reducible refine keeps_bind ?_ fun _ => ?_ | with_reducible infer_instance | exact keeps_load | exact keeps_store | exact load_part | exact store_part | split | refine keeps_for fun _ _ => ?_

instance part265 {y0} {y1} {y2} {y3} : Keeps c I (k0_part265 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part265_eq_skeleton]; unfold k0_part265_skel
  repeat' first | with_reducible refine keeps_bind ?_ fun _ => ?_ | with_reducible infer_instance | exact keeps_load | exact keeps_store | exact load_part | exact store_part | split | refine keeps_for fun _ _ => ?_

instance part266 {y0} {y1} {y2} {y3} : Keeps c I (k0_part266 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part266_eq_skeleton]; unfold k0_part266_skel
  repeat' first | with_reducible refine keeps_bind ?_ fun _ => ?_ | with_reducible infer_instance | exact keeps_load | exact keeps_store | exact load_part | exact store_part | split | refine keeps_for fun _ _ => ?_

instance part267 {y0} : Keeps c I (k0_part267 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part267_eq_skeleton]; unfold k0_part267_skel
  repeat' first | with_reducible refine keeps_bind ?_ fun _ => ?_ | with_reducible infer_instance | exact keeps_load | exact keeps_store | exact load_part | exact store_part | split | refine keeps_for fun _ _ => ?_

instance part268 {y0} {y1} {y2} : Keeps c I (k0_part268 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part268_eq_skeleton]; unfold k0_part268_skel
  repeat' first | with_reducible refine keeps_bind ?_ fun _ => ?_ | with_reducible infer_instance | exact keeps_load | exact keeps_store | exact load_part | exact store_part | split | refine keeps_for fun _ _ => ?_

instance part269 {y0} {y1} {y2} : Keeps c I (k0_part269 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part269_eq_skeleton]; unfold k0_part269_skel
  repeat' first | with_reducible refine keeps_bind ?_ fun _ => ?_ | with_reducible infer_instance | exact keeps_load | exact keeps_store | exact load_part | exact store_part | split | refine keeps_for fun _ _ => ?_

instance part270 {y0} : Keeps c I (k0_part270 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part270_eq_skeleton]; unfold k0_part270_skel
  repeat' first | with_reducible refine keeps_bind ?_ fun _ => ?_ | with_reducible infer_instance | exact keeps_load | exact keeps_store | exact load_part | exact store_part | split | refine keeps_for fun _ _ => ?_

instance part271 {y0} {y1} {y2} {y3} {y4} : Keeps c I (k0_part271 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part271_eq_skeleton]; unfold k0_part271_skel
  repeat' first | with_reducible refine keeps_bind ?_ fun _ => ?_ | with_reducible infer_instance | exact keeps_load | exact keeps_store | exact load_part | exact store_part | split | refine keeps_for fun _ _ => ?_

instance part272 {y0} {y1} {y2} {y3} : Keeps c I (k0_part272 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part272_eq_skeleton]; unfold k0_part272_skel
  repeat' first | with_reducible refine keeps_bind ?_ fun _ => ?_ | with_reducible infer_instance | exact keeps_load | exact keeps_store | exact load_part | exact store_part | split | refine keeps_for fun _ _ => ?_

instance part273 {y0} {y1} {y2} {y3} : Keeps c I (k0_part273 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part273_eq_skeleton]; unfold k0_part273_skel
  repeat' first | with_reducible refine keeps_bind ?_ fun _ => ?_ | with_reducible infer_instance | exact keeps_load | exact keeps_store | exact load_part | exact store_part | split | refine keeps_for fun _ _ => ?_

instance part274 {y0} {y1} : Keeps c I (k0_part274 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part274_eq_skeleton]; unfold k0_part274_skel
  repeat' first | with_reducible refine keeps_bind ?_ fun _ => ?_ | with_reducible infer_instance | exact keeps_load | exact keeps_store | exact load_part | exact store_part | split | refine keeps_for fun _ _ => ?_

instance part275 {y0} {y1} {y2} {y3} : Keeps c I (k0_part275 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part275_eq_skeleton]; unfold k0_part275_skel
  repeat' first | with_reducible refine keeps_bind ?_ fun _ => ?_ | with_reducible infer_instance | exact keeps_load | exact keeps_store | exact load_part | exact store_part | split | refine keeps_for fun _ _ => ?_

instance part276 {y0} : Keeps c I (k0_part276 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part276_eq_skeleton]; unfold k0_part276_skel
  repeat' first | with_reducible refine keeps_bind ?_ fun _ => ?_ | with_reducible infer_instance | exact keeps_load | exact keeps_store | exact load_part | exact store_part | split | refine keeps_for fun _ _ => ?_

instance part277 {y0} {y1} : Keeps c I (k0_part277 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part277_eq_skeleton]; unfold k0_part277_skel
  repeat' first | with_reducible refine keeps_bind ?_ fun _ => ?_ | with_reducible infer_instance | exact keeps_load | exact keeps_store | exact load_part | exact store_part | split | refine keeps_for fun _ _ => ?_

instance part278 {y0} {y1} {y2} {y3} : Keeps c I (k0_part278 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part278_eq_skeleton]; unfold k0_part278_skel
  repeat' first | with_reducible refine keeps_bind ?_ fun _ => ?_ | with_reducible infer_instance | exact keeps_load | exact keeps_store | exact load_part | exact store_part | split | refine keeps_for fun _ _ => ?_

instance part279 {y0} {y1} {y2} : Keeps c I (k0_part279 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part279_eq_skeleton]; unfold k0_part279_skel
  repeat' first | with_reducible refine keeps_bind ?_ fun _ => ?_ | with_reducible infer_instance | exact keeps_load | exact keeps_store | exact load_part | exact store_part | split | refine keeps_for fun _ _ => ?_

instance part280 {y0} {y1} {y2} {y3} {y4} : Keeps c I (k0_part280 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part280_eq_skeleton]; unfold k0_part280_skel
  repeat' first | with_reducible refine keeps_bind ?_ fun _ => ?_ | with_reducible infer_instance | exact keeps_load | exact keeps_store | exact load_part | exact store_part | split | refine keeps_for fun _ _ => ?_

instance part281 {y0} {y1} {y2} {y3} : Keeps c I (k0_part281 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part281_eq_skeleton]; unfold k0_part281_skel
  repeat' first | with_reducible refine keeps_bind ?_ fun _ => ?_ | with_reducible infer_instance | exact keeps_load | exact keeps_store | exact load_part | exact store_part | split | refine keeps_for fun _ _ => ?_

instance part282 {y0} {y1} : Keeps c I (k0_part282 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part282_eq_skeleton]; unfold k0_part282_skel
  repeat' first | with_reducible refine keeps_bind ?_ fun _ => ?_ | with_reducible infer_instance | exact keeps_load | exact keeps_store | exact load_part | exact store_part | split | refine keeps_for fun _ _ => ?_

instance part283 {y0} {y1} {y2} : Keeps c I (k0_part283 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part283_eq_skeleton]; unfold k0_part283_skel
  repeat' first | with_reducible refine keeps_bind ?_ fun _ => ?_ | with_reducible infer_instance | exact keeps_load | exact keeps_store | exact load_part | exact store_part | split | refine keeps_for fun _ _ => ?_

instance part284 {y0} {y1} {y2} : Keeps c I (k0_part284 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part284_eq_skeleton]; unfold k0_part284_skel
  repeat' first | with_reducible refine keeps_bind ?_ fun _ => ?_ | with_reducible infer_instance | exact keeps_load | exact keeps_store | exact load_part | exact store_part | split | refine keeps_for fun _ _ => ?_

instance part285 {y0} {y1} {y2} {y3} : Keeps c I (k0_part285 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part285_eq_skeleton]; unfold k0_part285_skel
  repeat' first | with_reducible refine keeps_bind ?_ fun _ => ?_ | with_reducible infer_instance | exact keeps_load | exact keeps_store | exact load_part | exact store_part | split | refine keeps_for fun _ _ => ?_

instance part286 {y0} {y1} {y2} {y3} : Keeps c I (k0_part286 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part286_eq_skeleton]; unfold k0_part286_skel
  repeat' first | with_reducible refine keeps_bind ?_ fun _ => ?_ | with_reducible infer_instance | exact keeps_load | exact keeps_store | exact load_part | exact store_part | split | refine keeps_for fun _ _ => ?_

instance part287 {y0} {y1} : Keeps c I (k0_part287 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part287_eq_skeleton]; unfold k0_part287_skel
  repeat' first | with_reducible refine keeps_bind ?_ fun _ => ?_ | with_reducible infer_instance | exact keeps_load | exact keeps_store | exact load_part | exact store_part | split | refine keeps_for fun _ _ => ?_

instance part288 {y0} {y1} {y2} : Keeps c I (k0_part288 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part288_eq_skeleton]; unfold k0_part288_skel
  repeat' first | with_reducible refine keeps_bind ?_ fun _ => ?_ | with_reducible infer_instance | exact keeps_load | exact keeps_store | exact load_part | exact store_part | split | refine keeps_for fun _ _ => ?_

instance part289 {y0} {y1} : Keeps c I (k0_part289 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part289_eq_skeleton]; unfold k0_part289_skel
  repeat' first | with_reducible refine keeps_bind ?_ fun _ => ?_ | with_reducible infer_instance | exact keeps_load | exact keeps_store | exact load_part | exact store_part | split | refine keeps_for fun _ _ => ?_

instance part290 {y0} : Keeps c I (k0_part290 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0) := by
  rw [k0_part290_eq_skeleton]; unfold k0_part290_skel
  repeat' first | with_reducible refine keeps_bind ?_ fun _ => ?_ | with_reducible infer_instance | exact keeps_load | exact keeps_store | exact load_part | exact store_part | split | refine keeps_for fun _ _ => ?_

instance part291 {y0} {y1} {y2} : Keeps c I (k0_part291 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part291_eq_skeleton]; unfold k0_part291_skel
  repeat' first | with_reducible refine keeps_bind ?_ fun _ => ?_ | with_reducible infer_instance | exact keeps_load | exact keeps_store | exact load_part | exact store_part | split | refine keeps_for fun _ _ => ?_

instance part292 {y0} {y1} {y2} {y3} {y4} : Keeps c I (k0_part292 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part292_eq_skeleton]; unfold k0_part292_skel
  repeat' first | with_reducible refine keeps_bind ?_ fun _ => ?_ | with_reducible infer_instance | exact keeps_load | exact keeps_store | exact load_part | exact store_part | split | refine keeps_for fun _ _ => ?_

instance part293 {y0} {y1} {y2} {y3} {y4} : Keeps c I (k0_part293 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4) := by
  rw [k0_part293_eq_skeleton]; unfold k0_part293_skel
  repeat' first | with_reducible refine keeps_bind ?_ fun _ => ?_ | with_reducible infer_instance | exact keeps_load | exact keeps_store | exact load_part | exact store_part | split | refine keeps_for fun _ _ => ?_

instance part294 {y0} {y1} {y2} : Keeps c I (k0_part294 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part294_eq_skeleton]; unfold k0_part294_skel
  repeat' first | with_reducible refine keeps_bind ?_ fun _ => ?_ | with_reducible infer_instance | exact keeps_load | exact keeps_store | exact load_part | exact store_part | split | refine keeps_for fun _ _ => ?_

instance part295 {y0} {y1} : Keeps c I (k0_part295 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1) := by
  rw [k0_part295_eq_skeleton]; unfold k0_part295_skel
  repeat' first | with_reducible refine keeps_bind ?_ fun _ => ?_ | with_reducible infer_instance | exact keeps_load | exact keeps_store | exact load_part | exact store_part | split | refine keeps_for fun _ _ => ?_

instance part296 {y0} {y1} {y2} : Keeps c I (k0_part296 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part296_eq_skeleton]; unfold k0_part296_skel
  repeat' first | with_reducible refine keeps_bind ?_ fun _ => ?_ | with_reducible infer_instance | exact keeps_load | exact keeps_store | exact load_part | exact store_part | split | refine keeps_for fun _ _ => ?_

instance part297 {y0} {y1} {y2} : Keeps c I (k0_part297 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part297_eq_skeleton]; unfold k0_part297_skel
  repeat' first | with_reducible refine keeps_bind ?_ fun _ => ?_ | with_reducible infer_instance | exact keeps_load | exact keeps_store | exact load_part | exact store_part | split | refine keeps_for fun _ _ => ?_

instance part298 {y0} {y1} {y2} {y3} : Keeps c I (k0_part298 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3) := by
  rw [k0_part298_eq_skeleton]; unfold k0_part298_skel
  repeat' first | with_reducible refine keeps_bind ?_ fun _ => ?_ | with_reducible infer_instance | exact keeps_load | exact keeps_store | exact load_part | exact store_part | split | refine keeps_for fun _ _ => ?_

instance part299 {y0} {y1} {y2} : Keeps c I (k0_part299 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2) := by
  rw [k0_part299_eq_skeleton]; unfold k0_part299_skel
  repeat' first | with_reducible refine keeps_bind ?_ fun _ => ?_ | with_reducible infer_instance | exact keeps_load | exact keeps_store | exact load_part | exact store_part | split | refine keeps_for fun _ _ => ?_

instance part300 : Keeps c I (k0_part300 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [k0_part300_eq_skeleton]; unfold k0_part300_skel
  repeat' first | with_reducible refine keeps_bind ?_ fun _ => ?_ | with_reducible infer_instance | exact keeps_load | exact keeps_store | exact load_part | exact store_part | split | refine keeps_for fun _ _ => ?_

instance part301 {y0} {y1} {y2} {y3} {y4} {y5} {y6} {y7} {y8} {y9} {y10} {y11} {y12} {y13} {y14} {y15} {y16} {y17} {y18} {y19} {y20} {y21} {y22} {y23} : Keeps c I (k0_part301 i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 y0 y1 y2 y3 y4 y5 y6 y7 y8 y9 y10 y11 y12 y13 y14 y15 y16 y17 y18 y19 y20 y21 y22 y23) := by
  rw [k0_part301_eq_skeleton]; unfold k0_part301_skel
  repeat' first | with_reducible refine keeps_bind ?_ fun _ => ?_ | with_reducible infer_instance | exact keeps_load | exact keeps_store | exact load_part | exact store_part | split | refine keeps_for fun _ _ => ?_

instance body : Keeps c I (cc0_nsa_attention i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) := by
  rw [cc0_nsa_attention_eq_skeleton]; unfold cc0_nsa_attention_skel
  repeat' first | with_reducible refine keeps_bind ?_ fun _ => ?_ | with_reducible infer_instance | exact keeps_load | exact keeps_store | exact load_part | exact store_part | split | refine keeps_for fun _ _ => ?_

end Cert.AttentionIdeal.Held
end
-- ==== Proof.AttnIdealFrame.lean ====
module

public import proofs.«01_k».proof.Proof.AttnIdealPartsB
public import proofs.«01_k».proof.Proof.Gen.AttentionIdeal.Frame

/-! # The attention terminates and leaves its arguments as they were -/

@[expose] public section

set_option maxRecDepth 16384

noncomputable section

namespace Cert.AttentionIdeal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttentionIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the proof says of a core's run: the arrays as launched, each input's staging buffer left at its block, the
    output's at anything, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d

theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d

theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d

theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d

/-- What the body holds at point `t`: its scratch at some contents, each input's staging buffer at its block, the
    output's at some contents. -/
def held (c : Dev nD) (t : Fin cfg0.N) : sProp 𝕄 :=
  iprop((((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f)
    ∗ (∃ f : Buf (Elt F) ((c : Thread nD τ).loc cc0_scratch12), ((c : Thread nD τ).loc cc0_scratch12) ↦{fullShare} f)
    ∗ (∃ f : Buf (Elt F) ((c : Thread nD τ).loc cc0_scratch13), ((c : Thread nD τ).loc cc0_scratch13) ↦{fullShare} f)
    ∗ (∃ f : Buf (Elt F) ((c : Thread nD τ).loc cc0_scratch14), ((c : Thread nD τ).loc cc0_scratch14) ↦{fullShare} f)
    ∗ (∃ f : Buf (Elt F) ((c : Thread nD τ).loc cc0_scratch15), ((c : Thread nD τ).loc cc0_scratch15) ↦{fullShare} f)
    ∗ (∃ f : Buf (Elt F) ((c : Thread nD τ).loc cc0_scratch16), ((c : Thread nD τ).loc cc0_scratch16) ↦{fullShare} f)) ∗ ∃ r, prngReg c r) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ (∃ X, owns (c : Thread nD τ) (st0_11 t) fullShare X))

/-- What one side of a pair of resources gives, the pair gives. -/
theorem rR {c : Dev nD} {A B : sProp 𝕄} {s : Shape} {e : EltTy} {m : Memref sig .tc .vmem s e} (h : Reads c B m) :
    Reads c iprop(A ∗ B) m := reads_right
theorem rL {c : Dev nD} {A B : sProp 𝕄} {s : Shape} {e : EltTy} {m : Memref sig .tc .vmem s e} (h : Reads c A m) :
    Reads c iprop(A ∗ B) m := reads_left
theorem wR {c : Dev nD} {A B : sProp 𝕄} {s : Shape} {e : EltTy} {m : Memref sig .tc .vmem s e} (h : Writes c B m) :
    Writes c iprop(A ∗ B) m := writes_right
theorem wL {c : Dev nD} {A B : sProp 𝕄} {s : Shape} {e : EltTy} {m : Memref sig .tc .vmem s e} (h : Writes c A m) :
    Writes c iprop(A ∗ B) m := writes_left

/-- The body at a point keeps all of it. -/
theorem body_keeps (c : Dev nD) (t : Fin cfg0.N) : Keeps c (held m c t) (bodyAt0 (F := F) t) := by
  have h0 : Reads c (held m c t) (win0_0.stage (cfg0.slots t 0)) := by
    unfold held; exact rR (rR (rL (reads_owns (hstage0_0 ((cfg0.slots t 0).cast nbuf0_0)))))
  have h1 : Reads c (held m c t) (win0_1.stage (cfg0.slots t 1)) := by
    unfold held; exact rR (rR (rR (rL (reads_owns (hstage0_1 ((cfg0.slots t 1).cast nbuf0_1))))))
  have h2 : Reads c (held m c t) (win0_2.stage (cfg0.slots t 2)) := by
    unfold held; exact rR (rR (rR (rR (rL (reads_owns (hstage0_2 ((cfg0.slots t 2).cast nbuf0_2)))))))
  have h3 : Reads c (held m c t) (win0_3.stage (cfg0.slots t 3)) := by
    unfold held; exact rR (rR (rR (rR (rR (rL (reads_owns (hstage0_3 ((cfg0.slots t 3).cast nbuf0_3))))))))
  have h4 : Reads c (held m c t) (win0_4.stage (cfg0.slots t 4)) := by
    unfold held; exact rR (rR (rR (rR (rR (rR (rL (reads_owns (hstage0_4 ((cfg0.slots t 4).cast nbuf0_4)))))))))
  have h5 : Reads c (held m c t) (win0_5.stage (cfg0.slots t 5)) := by
    unfold held; exact rR (rR (rR (rR (rR (rR (rR (rL (reads_owns (hstage0_5 ((cfg0.slots t 5).cast nbuf0_5))))))))))
  have h6 : Reads c (held m c t) (win0_6.stage (cfg0.slots t 6)) := by
    unfold held; exact rR (rR (rR (rR (rR (rR (rR (rR (rL (reads_owns (hstage0_6 ((cfg0.slots t 6).cast nbuf0_6)))))))))))
  have h7 : Reads c (held m c t) (win0_7.stage (cfg0.slots t 7)) := by
    unfold held; exact rR (rR (rR (rR (rR (rR (rR (rR (rR (rL (reads_owns (hstage0_7 ((cfg0.slots t 7).cast nbuf0_7))))))))))))
  have h8 : Reads c (held m c t) (win0_8.stage (cfg0.slots t 8)) := by
    unfold held; exact rR (rR (rR (rR (rR (rR (rR (rR (rR (rR (rL (reads_owns (hstage0_8 ((cfg0.slots t 8).cast nbuf0_8)))))))))))))
  have h9 : Reads c (held m c t) (win0_9.stage (cfg0.slots t 9)) := by
    unfold held; exact rR (rR (rR (rR (rR (rR (rR (rR (rR (rR (rR (rL (reads_owns (hstage0_9 ((cfg0.slots t 9).cast nbuf0_9))))))))))))))
  have h10 : Reads c (held m c t) (win0_10.stage (cfg0.slots t 10)) := by
    unfold held; exact rR (rR (rR (rR (rR (rR (rR (rR (rR (rR (rR (rR (rL (reads_owns (hstage0_10 ((cfg0.slots t 10).cast nbuf0_10)))))))))))))))
  have h11 : Writes c (held m c t) (win0_11.stage (cfg0.slots t 11)) := by
    unfold held; exact wR (wR (wR (wR (wR (wR (wR (wR (wR (wR (wR (wR (wR (writes_owns (hstage0_11 ((cfg0.slots t 11).cast nbuf0_11)))))))))))))))
  have h12 : Writes c (held m c t) (Memref.whole cc0_scratch0) := by
    unfold held; exact wL (wL (wL (writes_some (m := Memref.whole cc0_scratch0))))
  have h13 : Writes c (held m c t) (Memref.whole cc0_scratch1) := by
    unfold held; exact wL (wL (wR (wL (writes_some (m := Memref.whole cc0_scratch1)))))
  have h14 : Writes c (held m c t) (Memref.whole cc0_scratch2) := by
    unfold held; exact wL (wL (wR (wR (wL (writes_some (m := Memref.whole cc0_scratch2))))))
  have h15 : Writes c (held m c t) (Memref.whole cc0_scratch3) := by
    unfold held; exact wL (wL (wR (wR (wR (wL (writes_some (m := Memref.whole cc0_scratch3)))))))
  have h16 : Writes c (held m c t) (Memref.whole cc0_scratch4) := by
    unfold held; exact wL (wL (wR (wR (wR (wR (wL (writes_some (m := Memref.whole cc0_scratch4))))))))
  have h17 : Writes c (held m c t) (Memref.whole cc0_scratch5) := by
    unfold held; exact wL (wL (wR (wR (wR (wR (wR (wL (writes_some (m := Memref.whole cc0_scratch5)))))))))
  have h18 : Writes c (held m c t) (Memref.whole cc0_scratch6) := by
    unfold held; exact wL (wL (wR (wR (wR (wR (wR (wR (wL (writes_some (m := Memref.whole cc0_scratch6))))))))))
  have h19 : Writes c (held m c t) (Memref.whole cc0_scratch7) := by
    unfold held; exact wL (wL (wR (wR (wR (wR (wR (wR (wR (wL (writes_some (m := Memref.whole cc0_scratch7)))))))))))
  have h20 : Writes c (held m c t) (Memref.whole cc0_scratch8) := by
    unfold held; exact wL (wL (wR (wR (wR (wR (wR (wR (wR (wR (wL (writes_some (m := Memref.whole cc0_scratch8))))))))))))
  have h21 : Writes c (held m c t) (Memref.whole cc0_scratch9) := by
    unfold held; exact wL (wL (wR (wR (wR (wR (wR (wR (wR (wR (wR (wL (writes_some (m := Memref.whole cc0_scratch9)))))))))))))
  have h22 : Writes c (held m c t) (Memref.whole cc0_scratch10) := by
    unfold held; exact wL (wL (wR (wR (wR (wR (wR (wR (wR (wR (wR (wR (wL (writes_some (m := Memref.whole cc0_scratch10))))))))))))))
  have h23 : Writes c (held m c t) (Memref.whole cc0_scratch11) := by
    unfold held; exact wL (wL (wR (wR (wR (wR (wR (wR (wR (wR (wR (wR (wR (wL (writes_some (m := Memref.whole cc0_scratch11)))))))))))))))
  have h24 : Writes c (held m c t) (Memref.whole cc0_scratch12) := by
    unfold held; exact wL (wL (wR (wR (wR (wR (wR (wR (wR (wR (wR (wR (wR (wR (wL (writes_some (m := Memref.whole cc0_scratch12))))))))))))))))
  have h25 : Writes c (held m c t) (Memref.whole cc0_scratch13) := by
    unfold held; exact wL (wL (wR (wR (wR (wR (wR (wR (wR (wR (wR (wR (wR (wR (wR (wL (writes_some (m := Memref.whole cc0_scratch13)))))))))))))))))
  have h26 : Writes c (held m c t) (Memref.whole cc0_scratch14) := by
    unfold held; exact wL (wL (wR (wR (wR (wR (wR (wR (wR (wR (wR (wR (wR (wR (wR (wR (wL (writes_some (m := Memref.whole cc0_scratch14))))))))))))))))))
  have h27 : Writes c (held m c t) (Memref.whole cc0_scratch15) := by
    unfold held; exact wL (wL (wR (wR (wR (wR (wR (wR (wR (wR (wR (wR (wR (wR (wR (wR (wR (wL (writes_some (m := Memref.whole cc0_scratch15)))))))))))))))))))
  have h28 : Writes c (held m c t) (Memref.whole cc0_scratch16) := by
    unfold held; exact wL (wL (wR (wR (wR (wR (wR (wR (wR (wR (wR (wR (wR (wR (wR (wR (wR (wR (writes_some (m := Memref.whole cc0_scratch16)))))))))))))))))))
  exact @body F _ _ c (held m c t) (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22 h23 h24 h25 h26 h27 h28

/-- The windows whose contents the proof does not follow: the output's. -/
def forgotten (w : Fin cfg0.W) : Bool := w.val == 11

/-- What the body is given at point `t` is what it holds. -/
theorem given_held (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)) ⊢ held m c t := by
  unfold held
  rw [← scopedRest0_eq c, show (dats m 0 c).Φ t.castSucc = iprop(Pipeline.scopedRest spec0 c ∗ ∃ r, prngReg c r) from rfl]
  simp only [before_0, before_1, before_2, before_3, before_4, before_5, before_6, before_7, before_8, before_9, before_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- What the body holds at the end of point `t` is what it must return. -/
theorem held_returned (c : Dev nD) (t : Fin cfg0.N) :
    held m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)) := by
  unfold held
  rw [← scopedRest0_eq c]
  exact .rfl

/-- The body's row of the table is the body. -/
theorem row_eq (t : Fin cfg0.N) : defs₀ (F := F) .tc cfg0.body (cfg0.bodyArgs t (cfg0.slots t)) = bodyAt0 t := by
  unfold defs₀; rw [Defs.onTc_tc]

/-- The obligation of a point: the body runs from what it is given to what it must return. -/
theorem body_obligation (c : Dev nD) :
    BodyObligation (dats (F := F) m 0 c) (defs₀ (F := F)) Variants.none () Set.univ forgotten := fun t => by
  rw [bigSep_W0, bigSep_W0, row_eq]
  exact triple_restated ((given_held m c t).trans ((body_keeps m c t).run.trans (wp_mono _ _ _ fun _ => held_returned m c t)))
    rfl .rfl fun _ => .rfl

set_option backward.isDefEq.respectTransparency.types false in
/-- The run: it terminates, every array but the output's ends as launched, and every counter of the machine at zero. -/
theorem run : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (body_obligation m c).loose) (hq := fun _ _ _ => rfl) (howed := fun _ _ => rfl) (V := V m)
    (hmain := hmain m Variants.none) (hA := A_eq m) (hΦ := fun _ _ => rfl)

/-- The attention terminates, and each of its arguments ends as it was. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 3 rfl).trans (A_eq m c 3),
    (Pipeline.RDat.FramePost.arr_in h.1 c 1 rfl).trans (A_eq m c 1),
    (Pipeline.RDat.FramePost.arr_in h.1 c 2 rfl).trans (A_eq m c 2),
    (Pipeline.RDat.FramePost.arr_in h.1 c 4 rfl).trans (A_eq m c 4),
    (Pipeline.RDat.FramePost.arr_in h.1 c 5 rfl).trans (A_eq m c 5),
    (Pipeline.RDat.FramePost.arr_in h.1 c 6 rfl).trans (A_eq m c 6),
    (Pipeline.RDat.FramePost.arr_in h.1 c 7 rfl).trans (A_eq m c 7),
    (Pipeline.RDat.FramePost.arr_in h.1 c 8 rfl).trans (A_eq m c 8),
    (Pipeline.RDat.FramePost.arr_in h.1 c 9 rfl).trans (A_eq m c 9),
    (Pipeline.RDat.FramePost.arr_in h.1 c 10 rfl).trans (A_eq m c 10)⟩, h.2⟩) (run m ρ)

end Cert.AttentionIdeal.Held
end
-- ==== Proof.MergeSpec.lean ====
/-
  What the call that merges the two mixers computes, over the extended reals, and what the parts of it are.

  A row of the result depends on one row of the tokens `x`, of the pooled values and of the attended values:

    gated[j]  = σ(x · gp[:, j]) · (pooled · wp[:, j]) + σ(x · ga[:, j]) · (attended · wa[:, j])
    hidden[l] = α · x[l] + Σ_j gated[j] · wo[j, l]
    result[l] = (hidden[l] − mean) · rsqrt(variance + ε) · scale[l] + shift[l]

  `result` states this for whole arrays. The kernel's pure values (`gates_apply`, `accumulate_apply`, `norm_apply`) and
  the reference's (`reference_eq`) are read at an index and put in these terms.
-/
module

public import proofs.«01_k».proof.Proof.Gen.MergeIdeal.Skeleton
public import proofs.«01_k».proof.Proof.Gen.MergeRefIdeal.Run
public import Idealize.ShloMosaic.Lib.Pointwise
public import Idealize.ShloMosaic.Lib.Tactic

@[expose] public section

noncomputable section

namespace Cert.MergeSpec

open Idealize.ShloMosaic Idealize.ShloMosaic.TcCoe Idealize.SL.Sem

/-- The inner product of two vectors. -/
def inner {n : ℕ} (u v : Fin n → EReal) : EReal := ∑ k, u k * v k

/-- The logistic function. -/
def sigmoid (z : EReal) : EReal := Ideal.div 1 (1 + Ideal.exp (-z))

/-- One entry of the gated sum, from a token's row, its pooled and attended rows, and one column of each weight. -/
def gate (x : Fin 2048 → EReal) (p a : Fin 1024 → EReal) (wp wa : Fin 1024 → EReal) (gp ga : Fin 2048 → EReal) : EReal :=
  sigmoid (inner x gp) * inner p wp + sigmoid (inner x ga) * inner a wa

/-- The mean of a row. -/
def mean (h : Fin 2048 → EReal) : EReal := Ideal.div (∑ l, h l) (Ideal.ofBits .f32 0x45000000#32)

/-- The layer normalisation of a row at one position, with its scale and its shift. -/
def norm (h : Fin 2048 → EReal) (scale shift : EReal) (l : Fin 2048) : EReal :=
  (h l - mean h) * Ideal.rsqrt (mean (fun k => (h k - mean h) * (h k - mean h)) + Ideal.ofBits .f32 0x3727C5AC#32) * scale + shift

section Arrays

variable (x : Vec Ideal ⟨2, ![16384, 2048]⟩ .f32) (p a : Vec Ideal ⟨2, ![16384, 1024]⟩ .bf16)
  (wp wa : Vec Ideal ⟨2, ![1024, 2048]⟩ .bf16) (gp ga wo : Vec Ideal ⟨2, ![2048, 2048]⟩ .bf16)
  (scale shift : Vec Ideal ⟨2, ![1, 2048]⟩ .f32)

/-- The gated sum at row `r`, column `j`. -/
def gated (r : Fin 16384) (j : Fin 2048) : EReal :=
  gate (fun k => x (ix2 r k)) (fun k => p (ix2 r k)) (fun k => a (ix2 r k)) (fun k => wp (ix2 k j)) (fun k => wa (ix2 k j))
    (fun k => gp (ix2 k j)) (fun k => ga (ix2 k j))

/-- The residual sum at row `r`, position `l`. -/
def hidden (r : Fin 16384) (l : Fin 2048) : EReal :=
  Ideal.ofBits .f32 0x3F9837F0#32 * x (ix2 r l) + ∑ j, gated x p a wp wa gp ga r j * wo (ix2 j l)

/-- The result at an index. -/
def result (i : (⟨2, ![16384, 2048]⟩ : Shape).Idx) : EReal :=
  norm (hidden x p a wp wa gp ga wo (i 0)) (scale (ix2 0 (i 1))) (shift (ix2 0 (i 1))) (i 1)

end Arrays

/-! ## The kernel's pure values at an index -/

section Kernel

open Cert.MergeIdeal Cert.MergeIdeal.Gen

/-- The gated block: at `(r, j)` the gate of the block's row `r` and column `j`. -/
theorem gates_apply (x : Vec Ideal S512x2048 .bf16) (p a : Vec Ideal S512x1024 .bf16) (wp wa : Vec Ideal S1024x512 .bf16)
    (gp ga : Vec Ideal S2048x512 .bf16) (y : S512x512.Idx) :
    k0_pay5 (F := Ideal) x p wp a wa gp ga y
      = gate (fun k => x (ix2 (y 0) k)) (fun k => p (ix2 (y 0) k)) (fun k => a (ix2 (y 0) k)) (fun k => wp (ix2 k (y 1)))
          (fun k => wa (ix2 k (y 1))) (fun k => gp (ix2 k (y 1))) (fun k => ga (ix2 k (y 1))) := by
  pointwise [k0_pay5, gate, sigmoid, inner]
  simp only [zero_sub]

/-- One step of the accumulation: the gated block times a block of rows of the output weight, added on. -/
theorem accumulate_apply (v : Vec Ideal S512x512 .f32) (s : Vec Ideal S512x2048 .f32) (w : Vec Ideal S512x2048 .bf16)
    (y : S512x2048.Idx) :
    k0_pay1 (F := Ideal) v s w y = s y + ∑ k : Fin 512, v (ix2 (y 0) k) * w (ix2 k (y 1)) := by
  pointwise [k0_pay1]

/-- The accumulator starts at zero. -/
theorem start_apply (y : S512x2048.Idx) : k0_pay4 (F := Ideal) y = 0 := by
  pointwise [k0_pay4]

/-- The kept copy of the token rows is those rows. -/
theorem keep_eq (x : Vec Ideal S512x2048 .f32) : k0_pay3 (F := Ideal) x = x := by
  funext y
  pointwise [k0_pay3]

/-- The last step: the normalisation of the residual sum. -/
theorem norm_apply (x s : Vec Ideal S512x2048 .f32) (g b : Vec Ideal S1x2048 .f32) (y : S512x2048.Idx) :
    k0_pay2 (F := Ideal) x s g b y
      = norm (fun l => Ideal.ofBits .f32 0x3F9837F0#32 * x (ix2 (y 0) l) + s (ix2 (y 0) l)) (g (ix2 0 (y 1))) (b (ix2 0 (y 1))) (y 1) := by
  obtain ⟨r, l, rfl⟩ : ∃ (r : Fin 512) (l : Fin 2048), y = ix2 r l := ⟨y 0, y 1, eq_ix2 y⟩
  pointwise [k0_pay2, norm, mean]

end Kernel

/-! ## The reference's value at an index -/

section Reference

open Cert.MergeRefIdeal Cert.MergeRefIdeal.Gen Cert.MergeRefIdeal.Value

/-- The reference's normalisation, of any array. -/
theorem reference_norm (H : Vec Ideal S16384x2048 .f32) (a8 a9 : Vec Ideal S1x2048 .f32) (i : S16384x2048.Idx) :
    addf (F := Ideal) (φ := .f32) (mulf (mulf (subf H (broadcastInDim S16384x2048 ![0, 1] bcast_S16384x1_S16384x2048_0_1 (Host.divf (broadcastInDim S16384x1 ![0] bcast_S16384_S16384x1_0 (Host.reduceAdd H (constant S_ .f32 0x00000000#32) reducesTo_S16384x2048_S16384_d1 h_S_)) (broadcastInDim S16384x1 ![] bcast_S_S16384x1 (constant S_ .f32 0x45000000#32))))) (broadcastInDim S16384x2048 ![0, 1] bcast_S16384x1_S16384x2048_0_1 (Host.rsqrt (addf (Host.divf (broadcastInDim S16384x1 ![0] bcast_S16384_S16384x1_0 (Host.reduceAdd (mulf (subf H (broadcastInDim S16384x2048 ![0, 1] bcast_S16384x1_S16384x2048_0_1 (Host.divf (broadcastInDim S16384x1 ![0] bcast_S16384_S16384x1_0 (Host.reduceAdd H (constant S_ .f32 0x00000000#32) reducesTo_S16384x2048_S16384_d1 h_S_)) (broadcastInDim S16384x1 ![] bcast_S_S16384x1 (constant S_ .f32 0x45000000#32))))) (subf H (broadcastInDim S16384x2048 ![0, 1] bcast_S16384x1_S16384x2048_0_1 (Host.divf (broadcastInDim S16384x1 ![0] bcast_S16384_S16384x1_0 (Host.reduceAdd H (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 a8)) (broadcastInDim S16384x2048 ![0, 1] bcast_S1x2048_S16384x2048_0_1 a9) i
      = norm (fun l => H (ix2 (i 0) l)) (a8 (ix2 0 (i 1))) (a9 (ix2 0 (i 1))) (i 1) := by
  obtain ⟨r, l, rfl⟩ : ∃ (r : Fin 16384) (l : Fin 2048), i = ix2 r l := ⟨i 0, i 1, eq_ix2 i⟩
  pointwise [norm, mean]

/-- The reference's residual sum at a row and a position. -/
theorem reference_hidden (a0 : Vec Ideal S16384x2048 .f32) (a1 a2 : Vec Ideal S16384x1024 .bf16)
    (a3 a4 : Vec Ideal S1024x2048 .bf16) (a5 a6 a7 : Vec Ideal S2048x2048 .bf16) (r : Fin 16384) (l : Fin 2048) :
    addf (F := Ideal) (φ := .f32) (mulf (broadcastInDim S16384x2048 ![] bcast_S_S16384x2048 (constant S_ .f32 0x3F9837F0#32)) a0) (Host.dotGeneral (φ₁ := .f32) (φ₂ := .f32) dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral (φ₁ := .f32) (φ₂ := .f32) dot_S16384x2048_S2048x2048_S16384x2048_1_0_0_1_n_n none a0 (extf .f32 a5 bitsLt_bf16_f32)))))) (Host.dotGeneral (φ₁ := .f32) (φ₂ := .f32) dot_S16384x1024_S1024x2048_S16384x2048_1_0_0_1_n_n none (extf .f32 a1 bitsLt_bf16_f32) (extf .f32 a3 bitsLt_bf16_f32))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral (φ₁ := .f32) (φ₂ := .f32) dot_S16384x2048_S2048x2048_S16384x2048_1_0_0_1_n_n none a0 (extf .f32 a6 bitsLt_bf16_f32)))))) (Host.dotGeneral (φ₁ := .f32) (φ₂ := .f32) dot_S16384x1024_S1024x2048_S16384x2048_1_0_0_1_n_n none (extf .f32 a2 bitsLt_bf16_f32) (extf .f32 a4 bitsLt_bf16_f32)))) (extf .f32 a7 bitsLt_bf16_f32)) (ix2 r l)
      = hidden a0 a1 a2 a3 a4 a5 a6 a7 r l := by
  pointwise [hidden, gated, gate, sigmoid, inner]

/-- The reference's result is `result` of its arguments. -/
theorem reference_eq (m : (ℓ : Loc nD τ sig) → Buf (Elt Ideal) ℓ) (c : Dev nD) (i : S16384x2048.Idx) :
    res_main_v51 m c i
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) i := by
  unfold res_main_v51 result
  refine (reference_norm _ _ _ i).trans ?_
  refine congrArg (fun h => norm h _ _ _) (funext fun l => ?_)
  exact reference_hidden _ _ _ _ _ _ _ _ _ _

end Reference

end Cert.MergeSpec

end
-- ==== Proof.MergeCases.lean ====
/-
  What one grid point of the merging call leaves behind, as the kernel's own pure values of the blocks it reads.

  The column tile runs fastest, in four steps. At the first the body keeps the token rows and clears the accumulator; at
  every step it adds a product onto the accumulator; at the last it normalises the residual sum into the output block.
-/
module

public import proofs.«01_k».proof.Proof.Gen.MergeIdeal.Frame
public import Idealize.ShloMosaic.Lib.Pipeline.Value
public import Idealize.ShloMosaic.Lib.Tactic

@[expose] public section

noncomputable section

namespace Cert.MergeIdeal.Cases

open Cert.MergeIdeal Cert.MergeIdeal.Gen
open Idealize.ShloMosaic Idealize.ShloMosaic.TcCoe Idealize.SL.Sem

theorem hz : (![0, 0] : Fin 2 → Nat) = fun _ => 0 := funext fun a => by fin_cases a <;> rfl

variable {F : FTy → Type} [FloatOps F] (c : Dev nD) (i : grid0.Coords)
  (a2 : Memref sig .tc .vmem S512x2048 .f32) (h2 : a2.IsWhole) (a3 : Memref sig .tc .vmem S512x1024 .bf16) (h3 : a3.IsWhole)
  (a4 : Memref sig .tc .vmem S512x1024 .bf16) (h4 : a4.IsWhole) (a5 : Memref sig .tc .vmem S1024x512 .bf16) (h5 : a5.IsWhole)
  (a6 : Memref sig .tc .vmem S1024x512 .bf16) (h6 : a6.IsWhole) (a7 : Memref sig .tc .vmem S2048x512 .bf16) (h7 : a7.IsWhole)
  (a8 : Memref sig .tc .vmem S2048x512 .bf16) (h8 : a8.IsWhole) (a9 : Memref sig .tc .vmem S512x2048 .bf16) (h9 : a9.IsWhole)
  (a10 : Memref sig .tc .vmem S1x2048 .f32) (h10 : a10.IsWhole) (a11 : Memref sig .tc .vmem S1x2048 .f32) (h11 : a11.IsWhole)
  (a12 : Memref sig .tc .vmem S512x2048 .f32) (h12 : a12.IsWhole) (a13 : Memref sig .tc .vmem S512x2048 .bf16) (h13 : a13.IsWhole)
  (a14 : Memref sig .tc .vmem S512x2048 .f32) (h14 : a14.IsWhole)
  (x : Vec F S512x2048 .f32) (p a : Vec F S512x1024 .bf16) (wp wa : Vec F S1024x512 .bf16) (gp ga : Vec F S2048x512 .bf16)
  (wo : Vec F S512x2048 .bf16) (g b : Vec F S1x2048 .f32) (xs : Vec F S512x2048 .bf16) (acc : Vec F S512x2048 .f32)

/-- At the first step the kept copy is the rounded token rows. -/
theorem keep_first (hc : cond0_0 i) (hd : ¬cond0_1 i) :
    sout0_A_0 c i a2 h2 a3 h3 a4 h4 a5 h5 a6 h6 a7 h7 a8 h8 a9 h9 a10 h10 a11 h11 a12 h12 a13 h13 a14 h14 hc hd x p a wp wa gp ga wo g b = k0_pay3 x := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc hd x p a wp wa gp ga wo g b)]
  unfold kernelRun0_A
  dsimp only
  sl_unfold_words
  rw [View.canon_unit_zero (S := S512x2048) hz]
  simp only [View.readAt_eq_ld, h2.read_unread, View.ld_unit_zero (S := S512x2048) hz]

/-- At the first step the accumulator ends at its start plus the first product. -/
theorem acc_first (hc : cond0_0 i) (hd : ¬cond0_1 i) :
    sout0_A_1 c i a2 h2 a3 h3 a4 h4 a5 h5 a6 h6 a7 h7 a8 h8 a9 h9 a10 h10 a11 h11 a12 h12 a13 h13 a14 h14 hc hd x p a wp wa gp ga wo g b
      = k0_pay1 (k0_pay5 (k0_pay3 x) p wp a wa gp ga) k0_pay4 wo := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc hd x p a wp wa gp ga wo g b)]
  unfold kernelRun0_A
  dsimp only
  sl_unfold_words
  rw [View.canon_cons_unit_zero (S := S512x2048) hz]
  simp only [View.readAt_eq_ld, h2.read_unread, h3.read_unread, h4.read_unread, h5.read_unread, h6.read_unread, h7.read_unread,
    h8.read_unread, h9.read_unread, View.ld_unit_zero (S := S512x2048) hz, View.ld_unit_zero (S := S512x1024) hz,
    View.ld_unit_zero (S := S1024x512) hz, View.ld_unit_zero (S := S2048x512) hz, View.readCov_unit_zero (S := S512x2048) _ hz]

/-- At a middle step a product is added onto the accumulator. -/
theorem acc_mid (hc : ¬cond0_0 i) (hd : ¬cond0_1 i) :
    sout0_B_1 c i a2 h2 a3 h3 a4 h4 a5 h5 a6 h6 a7 h7 a8 h8 a9 h9 a10 h10 a11 h11 a12 h12 a13 h13 a14 h14 hc hd x p a wp wa gp ga wo g b xs acc
      = k0_pay1 (k0_pay5 xs p wp a wa gp ga) acc wo := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc hd x p a wp wa gp ga wo g b xs acc)]
  unfold kernelRun0_B
  dsimp only
  sl_unfold_words
  rw [View.canon_unit_zero (S := S512x2048) hz]
  simp only [View.readAt_eq_ld, h3.read_unread, h4.read_unread, h5.read_unread, h6.read_unread, h7.read_unread,
    h8.read_unread, h9.read_unread, h13.read_unread, h14.read_unread, View.ld_unit_zero (S := S512x2048) hz,
    View.ld_unit_zero (S := S512x1024) hz, View.ld_unit_zero (S := S1024x512) hz, View.ld_unit_zero (S := S2048x512) hz]

/-- At the last step too. -/
theorem acc_last (hc : ¬cond0_0 i) (hd : cond0_1 i) :
    sout0_C_1 c i a2 h2 a3 h3 a4 h4 a5 h5 a6 h6 a7 h7 a8 h8 a9 h9 a10 h10 a11 h11 a12 h12 a13 h13 a14 h14 hc hd x p a wp wa gp ga wo g b xs acc
      = k0_pay1 (k0_pay5 xs p wp a wa gp ga) acc wo := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc hd x p a wp wa gp ga wo g b xs acc)]
  unfold kernelRun0_C
  dsimp only
  sl_unfold_words
  rw [View.canon_unit_zero (S := S512x2048) hz]
  simp only [View.readAt_eq_ld, h3.read_unread, h4.read_unread, h5.read_unread, h6.read_unread, h7.read_unread,
    h8.read_unread, h9.read_unread, h13.read_unread, h14.read_unread, View.ld_unit_zero (S := S512x2048) hz,
    View.ld_unit_zero (S := S512x1024) hz, View.ld_unit_zero (S := S1024x512) hz, View.ld_unit_zero (S := S2048x512) hz]

/-- At the last step the output block is the normalised residual sum, of the accumulator just completed. -/
theorem out_last (hc : ¬cond0_0 i) (hd : cond0_1 i) :
    out0_C_10 c i a2 h2 a3 h3 a4 h4 a5 h5 a6 h6 a7 h7 a8 h8 a9 h9 a10 h10 a11 h11 a12 h12 a13 h13 a14 h14 hc hd x p a wp wa gp ga wo g b xs acc
      = k0_pay2 x (k0_pay1 (k0_pay5 xs p wp a wa gp ga) acc wo) g b := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 hc hd x p a wp wa gp ga wo g b xs acc)]
  unfold kernelRun0_C
  dsimp only
  sl_unfold_words
  rw [View.canon_unit_zero (S := S512x2048) hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S512x2048) hz, View.ld_unit_zero (S := S512x1024) hz, View.ld_unit_zero (S := S1024x512) hz,
    View.ld_unit_zero (S := S2048x512) hz, View.ld_unit_zero (S := S1x2048) hz, View.readCov_unit_zero (S := S512x2048) _ hz]

end Cert.MergeIdeal.Cases

end
-- ==== Proof.MergeValue.lean ====
/-
  The value of the merging call, over the extended reals.

  The grid is 32 row tiles by 4 column tiles, the column tile fastest. The accumulator after column tile `q` of a row tile
  holds, at row `r` and position `l`, the sum of `gated[r, j] · wo[j, l]` over the columns `j` of the tiles up to `q`
  (`outs_eq`). After the fourth it is the sum over all columns (`sum_tiles`), so the output array is
  `Cert.MergeSpec.result` of the arguments (`array_eq`).
-/
module

public import proofs.«01_k».proof.Proof.MergeSpec
public import proofs.«01_k».proof.Proof.MergeCases
public import proofs.«01_k».proof.Proof.Gen.MergeIdeal.Value

@[expose] public section

noncomputable section

namespace Cert.MergeIdeal.Merged

open Cert.MergeIdeal Cert.MergeIdeal.Gen Cert.MergeIdeal.Value Cert.MergeIdeal.Cases
open Idealize.ShloMosaic Idealize.ShloMosaic.TcCoe Idealize.SL.Sem

/-! ## Which block a point reads -/

theorem index_0 : ∀ t : Fin cfg0.N, win0_0.index t 0 = t.val / 4 ∧ win0_0.index t 1 = 0 :=
  (by decide +kernel : ∀ t : Fin grid0.N, _)
theorem index_1 : ∀ t : Fin cfg0.N, win0_1.index t 0 = t.val / 4 ∧ win0_1.index t 1 = 0 :=
  (by decide +kernel : ∀ t : Fin grid0.N, _)
theorem index_2 : ∀ t : Fin cfg0.N, win0_2.index t 0 = t.val / 4 ∧ win0_2.index t 1 = 0 :=
  (by decide +kernel : ∀ t : Fin grid0.N, _)
theorem index_3 : ∀ t : Fin cfg0.N, win0_3.index t 0 = 0 ∧ win0_3.index t 1 = t.val % 4 :=
  (by decide +kernel : ∀ t : Fin grid0.N, _)
theorem index_4 : ∀ t : Fin cfg0.N, win0_4.index t 0 = 0 ∧ win0_4.index t 1 = t.val % 4 :=
  (by decide +kernel : ∀ t : Fin grid0.N, _)
theorem index_5 : ∀ t : Fin cfg0.N, win0_5.index t 0 = 0 ∧ win0_5.index t 1 = t.val % 4 :=
  (by decide +kernel : ∀ t : Fin grid0.N, _)
theorem index_6 : ∀ t : Fin cfg0.N, win0_6.index t 0 = 0 ∧ win0_6.index t 1 = t.val % 4 :=
  (by decide +kernel : ∀ t : Fin grid0.N, _)
theorem index_7 : ∀ t : Fin cfg0.N, win0_7.index t 0 = t.val % 4 ∧ win0_7.index t 1 = 0 :=
  (by decide +kernel : ∀ t : Fin grid0.N, _)
theorem index_8 : ∀ t : Fin cfg0.N, win0_8.index t 0 = 0 ∧ win0_8.index t 1 = 0 :=
  (by decide +kernel : ∀ t : Fin grid0.N, _)
theorem index_9 : ∀ t : Fin cfg0.N, win0_9.index t 0 = 0 ∧ win0_9.index t 1 = 0 :=
  (by decide +kernel : ∀ t : Fin grid0.N, _)

/-- Row `r` of the row tile of point `n`. -/
abbrev row (n : ℕ) (h : n < 128) (r : Fin 512) : Fin 16384 := ⟨n / 4 * 512 + r.val, by omega⟩

/-- Column `k` of the column tile of point `n`. -/
abbrev col (n : ℕ) (k : Fin 512) : Fin 2048 := ⟨n % 4 * 512 + k.val, by omega⟩

/-- The sum over the columns of one column tile. -/
def tileSum (f : Fin 2048 → EReal) (q : ℕ) : EReal := ∑ k : Fin 512, f (col q k)

/-- The four column tiles are all the columns. -/
theorem sum_tiles (f : Fin 2048 → EReal) : ∑ q ∈ Finset.range 4, tileSum f q = ∑ j, f j := by
  have e : ∑ j, f j = ∑ q : Fin 4, ∑ k : Fin 512, f (finProdFinEquiv (m := 4) (n := 512) (q, k)) := by
    rw [← Fintype.sum_prod_type']
    exact (Equiv.sum_comp (finProdFinEquiv (m := 4) (n := 512)) f).symm
  rw [e, Finset.sum_range]
  refine Finset.sum_congr rfl fun q _ => Finset.sum_congr rfl fun k _ => congrArg f (Fin.ext ?_)
  show q.val % 4 * 512 + k.val = k.val + 512 * q.val
  omega

variable (m : (ℓ : Loc nD τ sig) → Buf (Elt Ideal) ℓ) (c : Dev nD)

/-- The token rows a point reads. -/
theorem iblk_x (t : Fin cfg0.N) (y : S512x2048.Idx) :
    (iblk m c 0 t : Vec Ideal S512x2048 .f32) y = m ((c : Thread nD τ).loc main_arg0) (ix2 (row t.val (N_0 ▸ t.isLt) (y 0)) (y 1)) := by
  have h0 := index_0 t
  unfold iblk
  rw [View.read_apply]
  show V m c main_arg0 _ = m (c.tc.loc main_arg0) _
  unfold V
  congr 1
  funext d
  apply Fin.ext
  match d with
  | ⟨0, _⟩ => show win0_0.index t 0 * 512 + 1 * (y 0).val = t.val / 4 * 512 + (y 0).val; rw [h0.1]; omega
  | ⟨1, _⟩ => show win0_0.index t 1 * 2048 + 1 * (y 1).val = (y 1).val; rw [h0.2]; omega

/-- The pooled rows a point reads. -/
theorem iblk_p (t : Fin cfg0.N) (y : S512x1024.Idx) :
    (iblk m c 1 t : Vec Ideal S512x1024 .bf16) y = m ((c : Thread nD τ).loc main_arg1) (ix2 (row t.val (N_0 ▸ t.isLt) (y 0)) (y 1)) := by
  have h0 := index_1 t
  unfold iblk
  rw [View.read_apply]
  show V m c main_arg1 _ = m (c.tc.loc main_arg1) _
  unfold V
  congr 1
  funext d
  apply Fin.ext
  match d with
  | ⟨0, _⟩ => show win0_1.index t 0 * 512 + 1 * (y 0).val = t.val / 4 * 512 + (y 0).val; rw [h0.1]; omega
  | ⟨1, _⟩ => show win0_1.index t 1 * 1024 + 1 * (y 1).val = (y 1).val; rw [h0.2]; omega

/-- The attended rows a point reads. -/
theorem iblk_a (t : Fin cfg0.N) (y : S512x1024.Idx) :
    (iblk m c 2 t : Vec Ideal S512x1024 .bf16) y = m ((c : Thread nD τ).loc main_arg2) (ix2 (row t.val (N_0 ▸ t.isLt) (y 0)) (y 1)) := by
  have h0 := index_2 t
  unfold iblk
  rw [View.read_apply]
  show V m c main_arg2 _ = m (c.tc.loc main_arg2) _
  unfold V
  congr 1
  funext d
  apply Fin.ext
  match d with
  | ⟨0, _⟩ => show win0_2.index t 0 * 512 + 1 * (y 0).val = t.val / 4 * 512 + (y 0).val; rw [h0.1]; omega
  | ⟨1, _⟩ => show win0_2.index t 1 * 1024 + 1 * (y 1).val = (y 1).val; rw [h0.2]; omega

/-- The columns of the pooled projection a point reads. -/
theorem iblk_wp (t : Fin cfg0.N) (y : S1024x512.Idx) :
    (iblk m c 3 t : Vec Ideal S1024x512 .bf16) y = m ((c : Thread nD τ).loc main_arg3) (ix2 (y 0) (col t.val (y 1))) := by
  have h0 := index_3 t
  unfold iblk
  rw [View.read_apply]
  show V m c main_arg3 _ = m (c.tc.loc main_arg3) _
  unfold V
  congr 1
  funext d
  apply Fin.ext
  match d with
  | ⟨0, _⟩ => show win0_3.index t 0 * 1024 + 1 * (y 0).val = (y 0).val; rw [h0.1]; omega
  | ⟨1, _⟩ => show win0_3.index t 1 * 512 + 1 * (y 1).val = t.val % 4 * 512 + (y 1).val; rw [h0.2]; omega

/-- The columns of the attended projection a point reads. -/
theorem iblk_wa (t : Fin cfg0.N) (y : S1024x512.Idx) :
    (iblk m c 4 t : Vec Ideal S1024x512 .bf16) y = m ((c : Thread nD τ).loc main_arg4) (ix2 (y 0) (col t.val (y 1))) := by
  have h0 := index_4 t
  unfold iblk
  rw [View.read_apply]
  show V m c main_arg4 _ = m (c.tc.loc main_arg4) _
  unfold V
  congr 1
  funext d
  apply Fin.ext
  match d with
  | ⟨0, _⟩ => show win0_4.index t 0 * 1024 + 1 * (y 0).val = (y 0).val; rw [h0.1]; omega
  | ⟨1, _⟩ => show win0_4.index t 1 * 512 + 1 * (y 1).val = t.val % 4 * 512 + (y 1).val; rw [h0.2]; omega

/-- The columns of the pooled gate a point reads. -/
theorem iblk_gp (t : Fin cfg0.N) (y : S2048x512.Idx) :
    (iblk m c 5 t : Vec Ideal S2048x512 .bf16) y = m ((c : Thread nD τ).loc main_arg5) (ix2 (y 0) (col t.val (y 1))) := by
  have h0 := index_5 t
  unfold iblk
  rw [View.read_apply]
  show V m c main_arg5 _ = m (c.tc.loc main_arg5) _
  unfold V
  congr 1
  funext d
  apply Fin.ext
  match d with
  | ⟨0, _⟩ => show win0_5.index t 0 * 2048 + 1 * (y 0).val = (y 0).val; rw [h0.1]; omega
  | ⟨1, _⟩ => show win0_5.index t 1 * 512 + 1 * (y 1).val = t.val % 4 * 512 + (y 1).val; rw [h0.2]; omega

/-- The columns of the attended gate a point reads. -/
theorem iblk_ga (t : Fin cfg0.N) (y : S2048x512.Idx) :
    (iblk m c 6 t : Vec Ideal S2048x512 .bf16) y = m ((c : Thread nD τ).loc main_arg6) (ix2 (y 0) (col t.val (y 1))) := by
  have h0 := index_6 t
  unfold iblk
  rw [View.read_apply]
  show V m c main_arg6 _ = m (c.tc.loc main_arg6) _
  unfold V
  congr 1
  funext d
  apply Fin.ext
  match d with
  | ⟨0, _⟩ => show win0_6.index t 0 * 2048 + 1 * (y 0).val = (y 0).val; rw [h0.1]; omega
  | ⟨1, _⟩ => show win0_6.index t 1 * 512 + 1 * (y 1).val = t.val % 4 * 512 + (y 1).val; rw [h0.2]; omega

/-- The rows of the output weight a point reads. -/
theorem iblk_wo (t : Fin cfg0.N) (y : S512x2048.Idx) :
    (iblk m c 7 t : Vec Ideal S512x2048 .bf16) y = m ((c : Thread nD τ).loc main_arg7) (ix2 (col t.val (y 0)) (y 1)) := by
  have h0 := index_7 t
  unfold iblk
  rw [View.read_apply]
  show V m c main_arg7 _ = m (c.tc.loc main_arg7) _
  unfold V
  congr 1
  funext d
  apply Fin.ext
  match d with
  | ⟨0, _⟩ => show win0_7.index t 0 * 512 + 1 * (y 0).val = t.val % 4 * 512 + (y 0).val; rw [h0.1]; omega
  | ⟨1, _⟩ => show win0_7.index t 1 * 2048 + 1 * (y 1).val = (y 1).val; rw [h0.2]; omega

/-- The scale, read whole. -/
theorem iblk_g (t : Fin cfg0.N) (y : S1x2048.Idx) :
    (iblk m c 8 t : Vec Ideal S1x2048 .f32) y = m ((c : Thread nD τ).loc main_arg8) (ix2 (y 0) (y 1)) := by
  have h0 := index_8 t
  unfold iblk
  rw [View.read_apply]
  show V m c main_arg8 _ = m (c.tc.loc main_arg8) _
  unfold V
  congr 1
  funext d
  apply Fin.ext
  match d with
  | ⟨0, _⟩ => show win0_8.index t 0 * 1 + 1 * (y 0).val = (y 0).val; rw [h0.1]; omega
  | ⟨1, _⟩ => show win0_8.index t 1 * 2048 + 1 * (y 1).val = (y 1).val; rw [h0.2]; omega

/-- The shift, read whole. -/
theorem iblk_b (t : Fin cfg0.N) (y : S1x2048.Idx) :
    (iblk m c 9 t : Vec Ideal S1x2048 .f32) y = m ((c : Thread nD τ).loc main_arg9) (ix2 (y 0) (y 1)) := by
  have h0 := index_9 t
  unfold iblk
  rw [View.read_apply]
  show V m c main_arg9 _ = m (c.tc.loc main_arg9) _
  unfold V
  congr 1
  funext d
  apply Fin.ext
  match d with
  | ⟨0, _⟩ => show win0_9.index t 0 * 1 + 1 * (y 0).val = (y 0).val; rw [h0.1]; omega
  | ⟨1, _⟩ => show win0_9.index t 1 * 2048 + 1 * (y 1).val = (y 1).val; rw [h0.2]; omega

/-! ## The accumulation -/

/-- The gated sum of the arguments, at a row and a column. -/
abbrev gatedOf (r : Fin 16384) (j : Fin 2048) : EReal :=
  MergeSpec.gated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r j

/-- The output weight. -/
abbrev weight : Vec Ideal S2048x2048 .bf16 := m ((c : Thread nD τ).loc main_arg7)

/-- The token rows of point `n`. -/
def rows (n : ℕ) (h : n < 128) : Vec Ideal S512x2048 .bf16 :=
  fun y => m ((c : Thread nD τ).loc main_arg0) (ix2 (row n h (y 0)) (y 1))

/-- What the accumulator holds after point `n`: the sum over the column tiles so far. -/
def partialSum (n : ℕ) (h : n < 128) : Vec Ideal S512x2048 .f32 :=
  fun y => ∑ q ∈ Finset.range (n % 4 + 1), tileSum (fun j => gatedOf m c (row n h (y 0)) j * weight m c (ix2 j (y 1))) q

theorem rows_succ (n : ℕ) (h : n + 1 < 128) (h0 : ¬(n + 1) % 4 = 0) : rows m c (n + 1) h = rows m c n (by omega) := by
  have e : (n + 1) / 4 = n / 4 := by omega
  unfold rows row
  simp only [e]

/-- The gated block of a point, at its row `r` and column `k`. -/
theorem gates_eq (t : Fin cfg0.N) (h : t.val < 128) (r k : Fin 512) :
    k0_pay5 (F := Ideal) (rows m c t.val h) (iblk m c 1 t) (iblk m c 3 t) (iblk m c 2 t) (iblk m c 4 t) (iblk m c 5 t) (iblk m c 6 t) (ix2 r k)
      = gatedOf m c (row t.val h r) (col t.val k) := by
  rw [MergeSpec.gates_apply]
  unfold gatedOf MergeSpec.gated
  simp only [iblk_p, iblk_a, iblk_wp, iblk_wa, iblk_gp, iblk_ga]
  rfl

/-- One step adds the point's column tile. -/
theorem step_eq (t : Fin cfg0.N) (h : t.val < 128) (s : Vec Ideal S512x2048 .f32) (y : S512x2048.Idx) :
    k0_pay1 (F := Ideal) (k0_pay5 (rows m c t.val h) (iblk m c 1 t) (iblk m c 3 t) (iblk m c 2 t) (iblk m c 4 t) (iblk m c 5 t) (iblk m c 6 t))
        s (iblk m c 7 t) y
      = s y + tileSum (fun j => gatedOf m c (row t.val h (y 0)) j * weight m c (ix2 j (y 1))) t.val := by
  rw [MergeSpec.accumulate_apply]
  unfold tileSum
  refine congrArg (s y + ·) (Finset.sum_congr rfl fun k _ => ?_)
  exact congrArg₂ (· * ·) (gates_eq m c t h (y 0) k) (iblk_wo m c t (ix2 k (y 1)))

/-- The column tiles repeat with period four. -/
theorem tileSum_mod (f : Fin 2048 → EReal) (n : ℕ) : tileSum f (n % 4) = tileSum f n := by
  unfold tileSum col
  simp only [Nat.mod_mod]

/-- A point's step continues the partial sum of the point before. -/
theorem partial_succ (n : ℕ) (h : n + 1 < 128) (h0 : ¬(n + 1) % 4 = 0) (y : S512x2048.Idx) :
    partialSum m c n (by omega) y + tileSum (fun j => gatedOf m c (row (n + 1) h (y 0)) j * weight m c (ix2 j (y 1))) (n + 1)
      = partialSum m c (n + 1) h y := by
  have e : (n + 1) / 4 = n / 4 := by omega
  have e' : (n + 1) % 4 = n % 4 + 1 := by omega
  unfold partialSum row
  simp only [e]
  rw [Finset.sum_range_succ _ ((n + 1) % 4), tileSum_mod, e']

/-- At the first column tile the partial sum is that tile's. -/
theorem partial_first (n : ℕ) (h : n < 128) (h0 : n % 4 = 0) (y : S512x2048.Idx) :
    0 + tileSum (fun j => gatedOf m c (row n h (y 0)) j * weight m c (ix2 j (y 1))) n = partialSum m c n h y := by
  unfold partialSum
  rw [h0, Finset.sum_range_one, zero_add, ← tileSum_mod _ n, h0]

theorem rows_eq (t : Fin cfg0.N) : k0_pay3 (F := Ideal) (iblk m c 0 t) = rows m c t.val (N_0 ▸ t.isLt) := by
  rw [MergeSpec.keep_eq]
  exact funext fun y => iblk_x m c t y

/-- After every point: the kept copy is the point's token rows, the accumulator the partial sum. -/
theorem outs_eq : ∀ (n : ℕ) (h : n < cfg0.N),
    (outsAt0 m c n h).2 = (rows m c n (N_0 ▸ h), partialSum m c n (N_0 ▸ h))
  | 0, h => by
    rw [outsAt0_A m c ⟨0, h⟩ rfl (by dsimp only; omega)]
    dsimp only
    rw [keep_first, acc_first, rows_eq]
    refine Prod.ext rfl (funext fun y => ?_)
    refine (step_eq m c ⟨0, h⟩ _ _ y).trans ?_
    rw [MergeSpec.start_apply]
    exact partial_first m c 0 _ rfl y
  | n + 1, h => by
    have hN : cfg0.N = 128 := N_0
    by_cases h0 : (n + 1) % 4 = 0
    · rw [outsAt0_A m c ⟨n + 1, h⟩ h0 (by dsimp only; omega)]
      dsimp only
      rw [keep_first, acc_first, rows_eq]
      refine Prod.ext rfl (funext fun y => ?_)
      refine (step_eq m c ⟨n + 1, h⟩ _ _ y).trans ?_
      rw [MergeSpec.start_apply]
      exact partial_first m c (n + 1) _ h0 y
    · have ih := outs_eq n (Nat.lt_of_succ_lt h)
      have hr := rows_succ m c n (by omega) h0
      have step : ∀ y, k0_pay1 (F := Ideal) (k0_pay5 (rows m c n (by omega)) (iblk m c 1 ⟨n + 1, h⟩) (iblk m c 3 ⟨n + 1, h⟩)
          (iblk m c 2 ⟨n + 1, h⟩) (iblk m c 4 ⟨n + 1, h⟩) (iblk m c 5 ⟨n + 1, h⟩) (iblk m c 6 ⟨n + 1, h⟩))
          (partialSum m c n (by omega)) (iblk m c 7 ⟨n + 1, h⟩) y = partialSum m c (n + 1) (by omega) y := fun y => by
        rw [← hr]
        refine (step_eq m c ⟨n + 1, h⟩ (by dsimp only; omega) _ y).trans ?_
        exact partial_succ m c n (by omega) h0 y
      by_cases h1 : (n + 1) % 4 = 3
      · rw [outsAt0_C m c ⟨n + 1, h⟩ h0 h1]
        dsimp only
        rw [acc_last]
        unfold sout0_C_0
        simp only [Nat.add_sub_cancel, ih]
        exact Prod.ext hr.symm (funext step)
      · rw [outsAt0_B m c ⟨n + 1, h⟩ h0 h1]
        dsimp only
        rw [acc_mid]
        unfold sout0_B_0
        simp only [Nat.add_sub_cancel, ih]
        exact Prod.ext hr.symm (funext step)

/-- The result array of the arguments. -/
abbrev resultOf (i : S16384x2048.Idx) : EReal :=
  MergeSpec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) i

/-- At the last column tile of a row tile the output block is the result's. -/
theorem block_eq (t : Fin cfg0.N) (h3 : t.val % 4 = 3) (y : S512x2048.Idx) :
    (outsAt0 m c t.val t.isLt).1 y = resultOf m c (ix2 (row t.val (N_0 ▸ t.isLt) (y 0)) (y 1)) := by
  have hN : cfg0.N = 128 := N_0
  have ht : t.val < 128 := N_0 ▸ t.isLt
  have acc : (outsAt0 m c t.val t.isLt).2.2 = partialSum m c t.val ht := by rw [outs_eq m c t.val t.isLt]
  rw [outsAt0_C m c t (by omega) h3] at acc ⊢
  dsimp only at acc ⊢
  rw [acc_last] at acc
  rw [out_last, acc, MergeSpec.norm_apply]
  unfold resultOf MergeSpec.result
  simp only [iblk_g, iblk_b]
  refine congrArg₂ (fun f z => MergeSpec.norm f z _ _) (funext fun l => ?_) ?_
  · unfold MergeSpec.hidden partialSum
    rw [iblk_x, h3, sum_tiles]
    rfl
  · rfl

/-- The output array at an index is the result's. -/
theorem array_eq (i : S16384x2048.Idx) : G10 m c i = resultOf m c i := by
  have hN : cfg0.N = 128 := N_0
  have b0 : (i 0).val < 16384 := (i 0).isLt
  have b1 : (i 1).val < 2048 := (i 1).isLt
  have hp : pt10Of i = 4 * ((i 0).val / 512) + 3 := by
    show 4 * (1 * ((i 0).val / 512 - 0) + 1 * ((i 1).val / 2048 - 0)) + 3 = _
    omega
  unfold G10
  rw [dif_pos (by omega), ← outsAt0_sweep m c (pt10Of i) (by omega)]
  refine (block_eq m c ⟨pt10Of i, by omega⟩ (by dsimp only; omega) (loc10Of i)).trans ?_
  refine congrArg (resultOf m c) (funext fun d => Fin.ext ?_)
  match d with
  | ⟨0, _⟩ => show pt10Of i / 4 * 512 + (i 0).val % 512 = (i 0).val; omega
  | ⟨1, _⟩ => show (i 1).val % 2048 = (i 1).val; omega

end Cert.MergeIdeal.Merged

end
-- ==== Proof.ProjectValue.lean ====
/-
  The value of the in-projection call `x @ w`, over the extended reals.

  The grid is 16 row tiles by 3 column tiles; the column tile runs fastest. At the first column tile of a row tile the
  body keeps the row tile in a scratch buffer, and the other two column tiles read it from there. So at every point the
  output block is the product of the point's row tile and its column tile (`outs_eq`), the output array is the product
  of the two arguments (`array_eq`), and the reference's `dot_general` is the same sum (`reference_eq`).
-/
module

public import proofs.«01_k».proof.Proof.Gen.ProjectIdeal.Value
public import proofs.«01_k».proof.Proof.Gen.ProjectRefIdeal.Run
public import Idealize.ShloMosaic.Lib.Pointwise
public import Idealize.ShloMosaic.Lib.Tactic

@[expose] public section

noncomputable section

namespace Cert.ProjectIdeal.Product

open Cert.ProjectIdeal Cert.ProjectIdeal.Gen Cert.ProjectIdeal.Value
open Idealize.ShloMosaic Idealize.ShloMosaic.TcCoe Idealize.SL.Sem

theorem hz : (![0, 0] : Fin 2 → Nat) = fun _ => 0 := funext fun a => by fin_cases a <;> rfl

section Cases

variable {F : FTy → Type} [FloatOps F]
variable (c : Dev nD) (i : grid0.Coords)
  (a2 : Memref sig .tc .vmem S1024x2048 .f32) (h2 : a2.IsWhole) (a3 : Memref sig .tc .vmem S2048x1280 .bf16) (h3 : a3.IsWhole)
  (a4 : Memref sig .tc .vmem S1024x1280 .f32) (h4 : a4.IsWhole) (a5 : Memref sig .tc .vmem S1024x2048 .bf16) (h5 : a5.IsWhole)
  (x : Vec F S1024x2048 .f32) (w : Vec F S2048x1280 .bf16) (s : Vec F S1024x2048 .bf16)

/-- At the first column tile the body leaves the rounded row tile in the scratch. -/
theorem scratch_first (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S1024x2048) hz]
  simp only [View.readAt_eq_ld, h2.read_unread, View.ld_unit_zero (S := S1024x2048) hz]

/-- At the first column tile the output block is the product of the row tile just kept and the column tile. -/
theorem out_first (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x1280) hz, View.readCov_unit_zero (S := S1024x2048) _ hz]
  simp only [View.readAt_eq_ld, h2.read_unread, h3.read_unread, View.ld_unit_zero (S := S1024x2048) hz,
    View.ld_unit_zero (S := S2048x1280) hz]

/-- At a later column tile the output block is the product of what the scratch holds and the column tile. -/
theorem out_later (hc : ¬cond0_0 i) : out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x1280) hz]
  simp only [View.readAt_eq_ld, h3.read_unread, h5.read_unread, View.ld_unit_zero (S := S1024x2048) hz,
    View.ld_unit_zero (S := S2048x1280) hz]

end Cases

variable (m : (ℓ : Loc nD τ sig) → Buf (Elt Ideal) ℓ)

/-- Which row tile and which column tile a point reads. -/
theorem index_facts : ∀ t : Fin cfg0.N, win0_0.index t 0 = t.val / 3 ∧ win0_0.index t 1 = 0
    ∧ win0_1.index t 0 = 0 ∧ win0_1.index t 1 = t.val % 3 :=
  (by decide +kernel : ∀ t : Fin grid0.N, _)

/-- The row tile point `n` reads: rows `1024 · (n / 3)` on of the first argument. -/
def rowTile (c : Dev nD) (n : ℕ) (h : n < 48) : Vec Ideal S1024x2048 .f32 :=
  fun y => m ((c : Thread nD τ).loc main_arg0)
    (ix2 ⟨n / 3 * 1024 + (y 0).val, by have := (y 0).isLt; change (y 0).val < 1024 at this; omega⟩ (y 1))

/-- The column tile point `n` reads: columns `1280 · (n % 3)` on of the second argument. -/
def colTile (c : Dev nD) (n : ℕ) : Vec Ideal S2048x1280 .bf16 :=
  fun y => m ((c : Thread nD τ).loc main_arg1)
    (ix2 (y 0) ⟨n % 3 * 1280 + (y 1).val, by have := (y 1).isLt; change (y 1).val < 1280 at this; omega⟩)

theorem iblk_rows (c : Dev nD) (t : Fin cfg0.N) :
    (iblk m c 0 t : Vec Ideal S1024x2048 .f32) = rowTile m c t.val (lt_of_lt_of_eq t.isLt N_0) := by
  obtain ⟨e0, e1, -, -⟩ := index_facts t
  funext y
  unfold iblk rowTile
  rw [View.read_apply]
  show V m c main_arg0 _ = m (c.tc.loc main_arg0) _
  unfold V
  congr 1
  funext a
  apply Fin.ext
  match a with
  | ⟨0, _⟩ => show win0_0.index t 0 * 1024 + 1 * (y 0).val = t.val / 3 * 1024 + (y 0).val; rw [e0]; omega
  | ⟨1, _⟩ => show win0_0.index t 1 * 2048 + 1 * (y 1).val = (y 1).val; rw [e1]; omega

theorem iblk_cols (c : Dev nD) (t : Fin cfg0.N) :
    (iblk m c 1 t : Vec Ideal S2048x1280 .bf16) = colTile m c t.val := by
  obtain ⟨-, -, e0, e1⟩ := index_facts t
  funext y
  unfold iblk colTile
  rw [View.read_apply]
  show V m c main_arg1 _ = m (c.tc.loc main_arg1) _
  unfold V
  congr 1
  funext a
  apply Fin.ext
  match a with
  | ⟨0, _⟩ => show win0_1.index t 0 * 2048 + 1 * (y 0).val = (y 0).val; rw [e0]; omega
  | ⟨1, _⟩ => show win0_1.index t 1 * 1280 + 1 * (y 1).val = t.val % 3 * 1280 + (y 1).val; rw [e1]; omega

/-- After every point the output block is the product of the point's two tiles, and the scratch holds the row tile. -/
theorem outs_eq (c : Dev nD) : ∀ (n : ℕ) (h : n < cfg0.N),
    outsAt0 m c n h = (k0_pay2 (k0_pay1 (rowTile m c n (lt_of_lt_of_eq h N_0))) (colTile m c n),
      k0_pay1 (rowTile m c n (lt_of_lt_of_eq h N_0)))
  | 0, h => by
    rw [outsAt0_A m c ⟨0, h⟩ rfl, out_first, scratch_first, iblk_rows, iblk_cols]
  | n + 1, h => by
    have hN : cfg0.N = 48 := N_0
    by_cases h0 : (n + 1) % 3 = 0
    · rw [outsAt0_A m c ⟨n + 1, h⟩ h0, out_first, scratch_first, iblk_rows, iblk_cols]
    · have hr : rowTile m c (n + 1) (by omega) = rowTile m c n (by omega) := by
        have e : (n + 1) / 3 = n / 3 := by omega
        funext y
        unfold rowTile
        simp only [e]
      rw [outsAt0_B m c ⟨n + 1, h⟩ h0, out_later, iblk_cols]
      unfold sout0_B_0
      rw [hr]
      show (k0_pay2 (outsAt0 m c n _).2 _, (outsAt0 m c n _).2) = _
      rw [outs_eq c n]

/-- The block product at an index, as a sum over the contracted axis. -/
theorem product_apply (x : Vec Ideal S1024x2048 .f32) (w : Vec Ideal S2048x1280 .bf16) (y : S1024x1280.Idx) :
    k0_pay2 (F := Ideal) (k0_pay1 x) w y = ∑ k : Fin 2048, x (ix2 (y 0) k) * w (ix2 k (y 1)) := by
  pointwise [k0_pay2, k0_pay1]

/-- The product of the two arguments at an index, as a sum over the contracted axis. -/
def productAt (x : Vec Ideal S16384x2048 .f32) (w : Vec Ideal S2048x3840 .bf16) (i : S16384x3840.Idx) : EReal :=
  ∑ k : Fin 2048, x (ix2 (i 0) k) * w (ix2 k (i 1))

/-- The output array at an index: the product of the two arguments. -/
theorem array_eq (c : Dev nD) (i : S16384x3840.Idx) :
    G2 m c i = productAt (m ((c : Thread nD τ).loc main_arg0)) (m ((c : Thread nD τ).loc main_arg1)) i := by
  have hN : cfg0.N = 48 := N_0
  have b0 : (i 0).val < 16384 := (i 0).isLt
  have b1 : (i 1).val < 3840 := (i 1).isLt
  have hp : pt2Of i = 3 * ((i 0).val / 1024) + (i 1).val / 1280 := by
    show 3 * ((i 0).val / 1024 - 0) + 1 * ((i 1).val / 1280 - 0) = _
    omega
  unfold G2 productAt
  rw [dif_pos (by omega), ← outsAt0_sweep m c (pt2Of i) (by omega), outs_eq]
  refine (product_apply _ _ _).trans ?_
  refine Finset.sum_congr rfl fun k _ => ?_
  unfold rowTile colTile
  congr 2
  · refine congrArg₂ ix2 (Fin.ext ?_) rfl
    show pt2Of i / 3 * 1024 + (i 0).val % 1024 = (i 0).val
    omega
  · refine congrArg₂ ix2 rfl (Fin.ext ?_)
    show pt2Of i % 3 * 1280 + (i 1).val % 1280 = (i 1).val
    omega

/-- The reference's product at an index: the same sum. -/
theorem reference_eq (x : Vec Ideal S16384x2048 .f32) (w : Vec Ideal S2048x3840 .bf16)
    (h : FTy.bits .bf16 < FTy.bits .f32) (i : S16384x3840.Idx) :
    Host.dotGeneral (F := Ideal) (φ₁ := .f32) (φ₂ := .f32)
      Cert.ProjectRefIdeal.dot_S16384x2048_S2048x3840_S16384x3840_1_0_0_1_n_n none x (extf .f32 w h) i = productAt x w i := by
  unfold productAt
  pointwise []

end Cert.ProjectIdeal.Product

end
-- ==== Proof.PoolMeans.lean ====
/-
  The value of the pooling mixer's reference, over the extended reals.

  The reference pads the mixed columns with 15 zero positions before each sequence and adds the 15 shifts of them one by
  one; after 1, 3, 7 and 15 of them it reads the sums of the windows of 2, 4, 8 and 16 positions, one for each group of
  256 columns. So a group's sum at a position is the sum of `lag` over the window's width (`total2_apply` …
  `total16_apply`), and the result is the mean less the row, mixed and scaled (`mixedAt`, `result_apply`).
-/
module

public import proofs.«01_k».proof.Proof.Gen.PoolRefIdeal
public import Idealize.ShloMosaic.Lib.Pointwise

@[expose] public section

noncomputable section

namespace Cert.PoolRefIdeal.Means

open Cert.PoolRefIdeal Cert.PoolRefIdeal.Gen Idealize.ShloMosaic Idealize.ShloMosaic.TcCoe Idealize.SL.Sem

/-- The mixed columns of the projection, as batch, position, group and column. -/
def stream (x : FVec Ideal S16384x3840 .f32) : FVec Ideal S4x4096x4x256 .f32 :=
  shapeCast _ (extractStridedSlice S16384x1024 ![0, 0] x slices_S16384x3840_S16384x1024_0_0) shapeCasts_S16384x1024_S4x4096x4x256

/-- What row `r` saw `j` positions earlier in its sequence at column `k`, zero before the sequence begins. -/
def lag (x : FVec Ideal S16384x3840 .f32) (r : Fin 16384) (k : Fin 3840) (j : ℕ) : EReal :=
  if j ≤ r.val % 4096 then x (ix2 ⟨r.val - j, by omega⟩ k) else 0

/-- How many positions the window of width `w` holds at position `t`, as the programs compute it. -/
def count (w : BitVec 32) (t : ℕ) : EReal := ((IntOp.minsi (1#32 + BitVec.ofNat 32 t) w).toInt : ℝ)

theorem stream_apply (x : FVec Ideal S16384x3840 .f32) (b : Fin 4) (t : Fin 4096) (g : Fin 4) (k : Fin 256) (r : Fin 16384)
    (hr : r.val = 4096 * b.val + t.val) : stream x (ix4 b t g k) = x (ix2 r ⟨256 * g.val + k.val, by omega⟩) := by
  pointwise [stream]
  refine congrArg x (congrArg₂ ix2 (Fin.ext ?_) (Fin.ext ?_))
  · show _ = r.val
    dsimp only
    omega
  · show _ = 256 * g.val + k.val
    dsimp only
    omega

/-- The mixed columns behind 15 zero positions. -/
def past (x : FVec Ideal S16384x3840 .f32) : FVec Ideal S4x4111x4x256 .f32 :=
  pad S4x4111x4x256 ![0, 15, 0, 0] ![0, 0, 0, 0] ![0, 0, 0, 0] (stream x) (id (constant S_ .f32 0x00000000#32)) pads_S4x4096x4x256_S4x4111x4x256_000_1500_000_000 h_S_

/-- Position `t + 15 - j` of the padded columns is what position `t` saw `j` positions earlier. -/
theorem past_apply (x : FVec Ideal S16384x3840 .f32) (b : Fin 4) (t : Fin 4096) (g : Fin 4) (k : Fin 256) (r : Fin 16384)
    (hr : r.val = 4096 * b.val + t.val) (j : ℕ) (p : Fin 4111) (hp : p.val + j = t.val + 15) :
    past x (ix4 b p g k) = lag x r ⟨256 * g.val + k.val, by omega⟩ j := by
  unfold lag
  pointwise [past, id]
  split
  · rw [if_pos (by omega), stream_apply x b _ g k ⟨r.val - j, by omega⟩ (by show r.val - j = 4096 * b.val + (p.val - 15); omega)]
  · rw [if_neg (by omega)]

/-- A row itself is what it saw 0 positions earlier. -/
theorem stream_eq_lag (x : FVec Ideal S16384x3840 .f32) (b : Fin 4) (t : Fin 4096) (g : Fin 4) (k : Fin 256) (r : Fin 16384)
    (hr : r.val = 4096 * b.val + t.val) : stream x (ix4 b t g k) = lag x r ⟨256 * g.val + k.val, by omega⟩ 0 := by
  rw [stream_apply x b t g k r hr]
  unfold lag
  rw [if_pos (Nat.zero_le _)]
  rfl

/-- The sums of the windows of 2 positions. -/
def total2 (x : FVec Ideal S16384x3840 .f32) : FVec Ideal S4x4096x4x256 .f32 :=
  addf (stream x) (extractStridedSlice S4x4096x4x256 ![0, 14, 0, 0] (past x) slices_S4x4111x4x256_S4x4096x4x256_0_14_0_0)

theorem total2_apply (x : FVec Ideal S16384x3840 .f32) (b : Fin 4) (t : Fin 4096) (g : Fin 4) (k : Fin 256) (r : Fin 16384)
    (hr : r.val = 4096 * b.val + t.val) :
    total2 x (ix4 b t g k) = ∑ j ∈ Finset.range 2, lag x r ⟨256 * g.val + k.val, by omega⟩ j := by
  pointwise [total2]
  rw [stream_eq_lag x b t g k r hr,
    past_apply x b t g k r hr 1 ⟨14 + t.val, by omega⟩ (by show 14 + t.val + 1 = _; omega)]
  simp only [Finset.sum_range_succ, Finset.sum_range_zero, zero_add]

/-- Group 0's means. -/
def mean2 (x : FVec Ideal S16384x3840 .f32) : FVec Ideal S4x4096x1x256 .f32 :=
  Host.divf (extractStridedSlice S4x4096x1x256 ![0, 0, 0, 0] (total2 x) slices_S4x4096x4x256_S4x4096x1x256_0_0_0_0) (broadcastInDim S4x4096x1x256 ![0, 1, 2, 3] bcast_S1x4096x1x1_S4x4096x1x256_0_1_2_3 (broadcastInDim S1x4096x1x1 ![1, 2, 3] bcast_S4096x1x1_S1x4096x1x1_1_2_3 (broadcastInDim S4096x1x1 ![0] bcast_S4096_S4096x1x1_0 (sitofp .f32 (minsi (addi (broadcastInDim S4096 ![] bcast_S_S4096 (constantI S_ 32 1#32)) (iotaInDim S4096 32 0)) (broadcastInDim S4096 ![] bcast_S_S4096 (constantI S_ 32 2#32)))))))

/-- Group 0's mean at a position is the sum of what its window holds, divided by how many positions it holds. -/
theorem mean2_apply (x : FVec Ideal S16384x3840 .f32) (b : Fin 4) (t : Fin 4096) (k : Fin 256) (r : Fin 16384)
    (hr : r.val = 4096 * b.val + t.val) :
    mean2 x (ix4 b t 0 k) = Ideal.div (∑ j ∈ Finset.range 2, lag x r ⟨0 + k.val, by omega⟩ j) (count 2#32 t.val) := by
  pointwise [mean2, total2_apply x b t _ k r hr]
  rfl

/-- The sums of the windows of 4 positions. -/
def total4 (x : FVec Ideal S16384x3840 .f32) : FVec Ideal S4x4096x4x256 .f32 :=
  addf (addf (total2 x) (extractStridedSlice S4x4096x4x256 ![0, 13, 0, 0] (past x) slices_S4x4111x4x256_S4x4096x4x256_0_13_0_0)) (extractStridedSlice S4x4096x4x256 ![0, 12, 0, 0] (past x) slices_S4x4111x4x256_S4x4096x4x256_0_12_0_0)

theorem total4_apply (x : FVec Ideal S16384x3840 .f32) (b : Fin 4) (t : Fin 4096) (g : Fin 4) (k : Fin 256) (r : Fin 16384)
    (hr : r.val = 4096 * b.val + t.val) :
    total4 x (ix4 b t g k) = ∑ j ∈ Finset.range 4, lag x r ⟨256 * g.val + k.val, by omega⟩ j := by
  pointwise [total4]
  rw [total2_apply x b t g k r hr,
    past_apply x b t g k r hr 2 ⟨13 + t.val, by omega⟩ (by show 13 + t.val + 2 = _; omega),
    past_apply x b t g k r hr 3 ⟨12 + t.val, by omega⟩ (by show 12 + t.val + 3 = _; omega)]
  simp only [Finset.sum_range_succ, Finset.sum_range_zero, zero_add]

/-- Group 1's means. -/
def mean4 (x : FVec Ideal S16384x3840 .f32) : FVec Ideal S4x4096x1x256 .f32 :=
  Host.divf (extractStridedSlice S4x4096x1x256 ![0, 0, 1, 0] (total4 x) slices_S4x4096x4x256_S4x4096x1x256_0_0_1_0) (broadcastInDim S4x4096x1x256 ![0, 1, 2, 3] bcast_S1x4096x1x1_S4x4096x1x256_0_1_2_3 (broadcastInDim S1x4096x1x1 ![1, 2, 3] bcast_S4096x1x1_S1x4096x1x1_1_2_3 (broadcastInDim S4096x1x1 ![0] bcast_S4096_S4096x1x1_0 (sitofp .f32 (minsi (addi (broadcastInDim S4096 ![] bcast_S_S4096 (constantI S_ 32 1#32)) (iotaInDim S4096 32 0)) (broadcastInDim S4096 ![] bcast_S_S4096 (constantI S_ 32 4#32)))))))

/-- Group 1's mean at a position is the sum of what its window holds, divided by how many positions it holds. -/
theorem mean4_apply (x : FVec Ideal S16384x3840 .f32) (b : Fin 4) (t : Fin 4096) (k : Fin 256) (r : Fin 16384)
    (hr : r.val = 4096 * b.val + t.val) :
    mean4 x (ix4 b t 0 k) = Ideal.div (∑ j ∈ Finset.range 4, lag x r ⟨256 + k.val, by omega⟩ j) (count 4#32 t.val) := by
  pointwise [mean4, total4_apply x b t _ k r hr]
  rfl

/-- The sums of the windows of 8 positions. -/
def total8 (x : FVec Ideal S16384x3840 .f32) : FVec Ideal S4x4096x4x256 .f32 :=
  addf (addf (addf (addf (total4 x) (extractStridedSlice S4x4096x4x256 ![0, 11, 0, 0] (past x) slices_S4x4111x4x256_S4x4096x4x256_0_11_0_0)) (extractStridedSlice S4x4096x4x256 ![0, 10, 0, 0] (past x) slices_S4x4111x4x256_S4x4096x4x256_0_10_0_0)) (extractStridedSlice S4x4096x4x256 ![0, 9, 0, 0] (past x) slices_S4x4111x4x256_S4x4096x4x256_0_9_0_0)) (extractStridedSlice S4x4096x4x256 ![0, 8, 0, 0] (past x) slices_S4x4111x4x256_S4x4096x4x256_0_8_0_0)

theorem total8_apply (x : FVec Ideal S16384x3840 .f32) (b : Fin 4) (t : Fin 4096) (g : Fin 4) (k : Fin 256) (r : Fin 16384)
    (hr : r.val = 4096 * b.val + t.val) :
    total8 x (ix4 b t g k) = ∑ j ∈ Finset.range 8, lag x r ⟨256 * g.val + k.val, by omega⟩ j := by
  pointwise [total8]
  rw [total4_apply x b t g k r hr,
    past_apply x b t g k r hr 4 ⟨11 + t.val, by omega⟩ (by show 11 + t.val + 4 = _; omega),
    past_apply x b t g k r hr 5 ⟨10 + t.val, by omega⟩ (by show 10 + t.val + 5 = _; omega),
    past_apply x b t g k r hr 6 ⟨9 + t.val, by omega⟩ (by show 9 + t.val + 6 = _; omega),
    past_apply x b t g k r hr 7 ⟨8 + t.val, by omega⟩ (by show 8 + t.val + 7 = _; omega)]
  simp only [Finset.sum_range_succ, Finset.sum_range_zero, zero_add]

/-- Group 2's means. -/
def mean8 (x : FVec Ideal S16384x3840 .f32) : FVec Ideal S4x4096x1x256 .f32 :=
  Host.divf (extractStridedSlice S4x4096x1x256 ![0, 0, 2, 0] (total8 x) slices_S4x4096x4x256_S4x4096x1x256_0_0_2_0) (broadcastInDim S4x4096x1x256 ![0, 1, 2, 3] bcast_S1x4096x1x1_S4x4096x1x256_0_1_2_3 (broadcastInDim S1x4096x1x1 ![1, 2, 3] bcast_S4096x1x1_S1x4096x1x1_1_2_3 (broadcastInDim S4096x1x1 ![0] bcast_S4096_S4096x1x1_0 (sitofp .f32 (minsi (addi (broadcastInDim S4096 ![] bcast_S_S4096 (constantI S_ 32 1#32)) (iotaInDim S4096 32 0)) (broadcastInDim S4096 ![] bcast_S_S4096 (constantI S_ 32 8#32)))))))

/-- Group 2's mean at a position is the sum of what its window holds, divided by how many positions it holds. -/
theorem mean8_apply (x : FVec Ideal S16384x3840 .f32) (b : Fin 4) (t : Fin 4096) (k : Fin 256) (r : Fin 16384)
    (hr : r.val = 4096 * b.val + t.val) :
    mean8 x (ix4 b t 0 k) = Ideal.div (∑ j ∈ Finset.range 8, lag x r ⟨512 + k.val, by omega⟩ j) (count 8#32 t.val) := by
  pointwise [mean8, total8_apply x b t _ k r hr]
  rfl

/-- The sums of the windows of 16 positions. -/
def total16 (x : FVec Ideal S16384x3840 .f32) : FVec Ideal S4x4096x4x256 .f32 :=
  addf (addf (addf (addf (addf (addf (addf (addf (total8 x) (extractStridedSlice S4x4096x4x256 ![0, 7, 0, 0] (past x) slices_S4x4111x4x256_S4x4096x4x256_0_7_0_0)) (extractStridedSlice S4x4096x4x256 ![0, 6, 0, 0] (past x) slices_S4x4111x4x256_S4x4096x4x256_0_6_0_0)) (extractStridedSlice S4x4096x4x256 ![0, 5, 0, 0] (past x) slices_S4x4111x4x256_S4x4096x4x256_0_5_0_0)) (extractStridedSlice S4x4096x4x256 ![0, 4, 0, 0] (past x) slices_S4x4111x4x256_S4x4096x4x256_0_4_0_0)) (extractStridedSlice S4x4096x4x256 ![0, 3, 0, 0] (past x) slices_S4x4111x4x256_S4x4096x4x256_0_3_0_0)) (extractStridedSlice S4x4096x4x256 ![0, 2, 0, 0] (past x) slices_S4x4111x4x256_S4x4096x4x256_0_2_0_0)) (extractStridedSlice S4x4096x4x256 ![0, 1, 0, 0] (past x) slices_S4x4111x4x256_S4x4096x4x256_0_1_0_0)) (extractStridedSlice S4x4096x4x256 ![0, 0, 0, 0] (past x) slices_S4x4111x4x256_S4x4096x4x256_0_0_0_0)

theorem total16_apply (x : FVec Ideal S16384x3840 .f32) (b : Fin 4) (t : Fin 4096) (g : Fin 4) (k : Fin 256) (r : Fin 16384)
    (hr : r.val = 4096 * b.val + t.val) :
    total16 x (ix4 b t g k) = ∑ j ∈ Finset.range 16, lag x r ⟨256 * g.val + k.val, by omega⟩ j := by
  pointwise [total16]
  rw [total8_apply x b t g k r hr,
    past_apply x b t g k r hr 8 ⟨7 + t.val, by omega⟩ (by show 7 + t.val + 8 = _; omega),
    past_apply x b t g k r hr 9 ⟨6 + t.val, by omega⟩ (by show 6 + t.val + 9 = _; omega),
    past_apply x b t g k r hr 10 ⟨5 + t.val, by omega⟩ (by show 5 + t.val + 10 = _; omega),
    past_apply x b t g k r hr 11 ⟨4 + t.val, by omega⟩ (by show 4 + t.val + 11 = _; omega),
    past_apply x b t g k r hr 12 ⟨3 + t.val, by omega⟩ (by show 3 + t.val + 12 = _; omega),
    past_apply x b t g k r hr 13 ⟨2 + t.val, by omega⟩ (by show 2 + t.val + 13 = _; omega),
    past_apply x b t g k r hr 14 ⟨1 + t.val, by omega⟩ (by show 1 + t.val + 14 = _; omega),
    past_apply x b t g k r hr 15 ⟨t.val, by omega⟩ (by show t.val + 15 = _; omega)]
  simp only [Finset.sum_range_succ, Finset.sum_range_zero, zero_add]

/-- Group 3's means. -/
def mean16 (x : FVec Ideal S16384x3840 .f32) : FVec Ideal S4x4096x1x256 .f32 :=
  Host.divf (extractStridedSlice S4x4096x1x256 ![0, 0, 3, 0] (total16 x) slices_S4x4096x4x256_S4x4096x1x256_0_0_3_0) (broadcastInDim S4x4096x1x256 ![0, 1, 2, 3] bcast_S1x4096x1x1_S4x4096x1x256_0_1_2_3 (broadcastInDim S1x4096x1x1 ![1, 2, 3] bcast_S4096x1x1_S1x4096x1x1_1_2_3 (broadcastInDim S4096x1x1 ![0] bcast_S4096_S4096x1x1_0 (sitofp .f32 (minsi (addi (broadcastInDim S4096 ![] bcast_S_S4096 (constantI S_ 32 1#32)) (iotaInDim S4096 32 0)) (broadcastInDim S4096 ![] bcast_S_S4096 (constantI S_ 32 16#32)))))))

/-- Group 3's mean at a position is the sum of what its window holds, divided by how many positions it holds. -/
theorem mean16_apply (x : FVec Ideal S16384x3840 .f32) (b : Fin 4) (t : Fin 4096) (k : Fin 256) (r : Fin 16384)
    (hr : r.val = 4096 * b.val + t.val) :
    mean16 x (ix4 b t 0 k) = Ideal.div (∑ j ∈ Finset.range 16, lag x r ⟨768 + k.val, by omega⟩ j) (count 16#32 t.val) := by
  pointwise [mean16, total16_apply x b t _ k r hr]
  rfl

/-- The widths of the four groups' windows. -/
def width : Fin 4 → ℕ := ![2, 4, 8, 16]

/-- What the mixer mixes at row `r`, group `g`, column `k`: the mean of the group's trailing window less the row itself. -/
def pooledAt (x : FVec Ideal S16384x3840 .f32) (r : Fin 16384) (g : Fin 4) (k : Fin 256) : EReal :=
  Ideal.div (∑ j ∈ Finset.range (width g), lag x r ⟨256 * g.val + k.val, by omega⟩ j)
      (count (BitVec.ofNat 32 (width g)) (r.val % 4096))
    - x (ix2 r ⟨256 * g.val + k.val, by omega⟩)

/-- The mixer's result at row `r`, group `g`, column `d`: the group's mixing matrix and the scale applied. -/
def mixedAt (x : FVec Ideal S16384x3840 .f32) (mix : FVec Ideal S4x256x256 .bf16) (scale : FVec Ideal S1x1024 .f32)
    (r : Fin 16384) (g : Fin 4) (d : Fin 256) : EReal :=
  (∑ k : Fin 256, pooledAt x r g k * mix (ix3 g k d)) * scale (ix2 0 ⟨256 * g.val + d.val, by omega⟩)

/-- The reference's pooled stream. -/
def pooled (x : FVec Ideal S16384x3840 .f32) : FVec Ideal S4x4096x4x256 .f32 :=
  subf (concatenate S4x4096x4x256 2 [⟨S4x4096x1x256, mean2 x⟩, ⟨S4x4096x1x256, mean4 x⟩, ⟨S4x4096x1x256, mean8 x⟩,
    ⟨S4x4096x1x256, mean16 x⟩] concatenates_S4x4096x1x256_S4x4096x1x256_S4x4096x1x256_S4x4096x1x256_S4x4096x4x256_d2) (stream x)

theorem pooled_apply (x : FVec Ideal S16384x3840 .f32) (b : Fin 4) (t : Fin 4096) (g : Fin 4) (k : Fin 256) (r : Fin 16384)
    (hr : r.val = 4096 * b.val + t.val) : pooled x (ix4 b t g k) = pooledAt x r g k := by
  have ht : r.val % 4096 = t.val := by omega
  unfold pooledAt
  rw [ht]
  refine congrArg₂ (fun a b : EReal => a - b) ?_ (stream_apply x b t g k r hr)
  fin_cases g
  · pointwise [mean2_apply x b t k r hr]; rfl
  · pointwise [mean4_apply x b t k r hr]; rfl
  · pointwise [mean8_apply x b t k r hr]; rfl
  · pointwise [mean16_apply x b t k r hr]; rfl

/-- The reference's result. -/
def result (x : FVec Ideal S16384x3840 .f32) (mix : FVec Ideal S4x256x256 .bf16) (scale : FVec Ideal S1x1024 .f32) :
    FVec Ideal S16384x1024 .bf16 :=
  truncf .bf16 (mulf (shapeCast _ (transpose S4x4096x4x256 [2, 3, 0, 1] (Host.dotGeneral dot_S4x256x256_S4x4096x4x256_S4x256x4x4096_1_3_2_01_0_2 none (extf .f32 mix bitsLt_bf16_f32) (pooled x)) transposes_S4x256x4x4096_S4x4096x4x256_2_3_0_1) shapeCasts_S4x4096x4x256_S16384x1024) (broadcastInDim S16384x1024 ![0, 1] bcast_S1x1024_S16384x1024_0_1 scale)) bitsLt_bf16_f32

/-- The reference's result at an index. -/
theorem result_apply (x : FVec Ideal S16384x3840 .f32) (mix : FVec Ideal S4x256x256 .bf16) (scale : FVec Ideal S1x1024 .f32)
    (r : Fin 16384) (g : Fin 4) (d : Fin 256) (q : Fin 1024) (hq : q.val = 256 * g.val + d.val) :
    result x mix scale (ix2 r q) = mixedAt x mix scale r g d := by
  unfold mixedAt
  pointwise [result]
  have h1 : q = ⟨256 * g.val + d.val, by omega⟩ := Fin.ext hq
  have h2 : (⟨q.val / 256, by omega⟩ : Fin 4) = g := Fin.ext (by show q.val / 256 = g.val; omega)
  have h3 : (⟨q.val % 256, by omega⟩ : Fin 256) = d := Fin.ext (by show q.val % 256 = d.val; omega)
  rw [h2, h3, ← h1]
  refine congrArg (· * _) (Finset.sum_congr rfl fun k _ => ?_)
  rw [pooled_apply x _ _ g k r (by show r.val = 4096 * (r.val / 4096) + r.val % 4096; omega), mul_comm]

end Cert.PoolRefIdeal.Means

end
-- ==== Proof.PoolValue.lean ====
/-
  The value of the pooling mixer, over the extended reals.

  The grid is 4 sequences by 8 row tiles of 512 rows. At every point the body lays the row tile behind the 16 rows before
  it (zeros at the first tile of a sequence) in a scratch buffer, so that row `16 + r - j` of the scratch is what row `r`
  of the tile saw `j` positions earlier in its sequence (`scratch_eq`). Rotating and adding by doubling then sums the
  group's trailing window (`group2_apply` … `group16_apply`): the body's block is the reference's result on the tile's
  rows (`block_eq`), and so is the array (`array_eq`).
-/
module

public import proofs.«01_k».proof.Proof.Gen.PoolIdeal.Value
public import proofs.«01_k».proof.Proof.PoolMeans
public import Idealize.ShloMosaic.Lib.Pointwise
public import Idealize.ShloMosaic.Lib.Tactic
public import Idealize.ShloMosaic.Lib.Pipeline.ValueKit.Tiles

@[expose] public section

noncomputable section

namespace Cert.PoolIdeal.Mixed

open Cert.PoolIdeal Cert.PoolIdeal.Gen Cert.PoolIdeal.Value
open Cert.PoolRefIdeal.Means (lag count mixedAt pooledAt width)
open Idealize.ShloMosaic Idealize.ShloMosaic.TcCoe Idealize.SL.Sem

theorem hz : (![0, 0] : Fin 2 → Nat) = fun _ => 0 := funext fun a => by fin_cases a <;> rfl

/-- The body counts the positions from the tile's number and the row's number in the tile. -/
theorem position (i : grid0.Coords) (r : Fin 512) :
    IntOp.addi (IntOp.addi (Scalar.muli (BitVec.ofNat 32 (i 1).val) 512#32) (BitVec.ofNat 32 r.val)) 1#32
      = 1#32 + BitVec.ofNat 32 (512 * (i 1).val + r.val) := by
  show (BitVec.ofNat 32 (i 1).val * 512#32 + BitVec.ofNat 32 r.val) + 1#32 = _
  rw [BitVec.add_comm, Nat.mul_comm, BitVec.ofNat_add, BitVec.ofNat_mul]

/-- A group's block at an index, from what each row saw earlier: the mean of the window of width `w` less the row, mixed
    and scaled. -/
def groupAt (i : grid0.Coords) (n : ℕ) (w : BitVec 32) (L : Fin 256 → ℕ → EReal) (u : Vec Ideal S512x256 .f32)
    (mix : Vec Ideal S1x256x256 .bf16) (s : Vec Ideal S1x256 .f32) (r : Fin 512) (d : Fin 256) : EReal :=
  (∑ k : Fin 256, (Ideal.div (∑ j ∈ Finset.range n, L k j) (count w (512 * (i 1).val + r.val)) - u (ix2 r k))
    * mix (ix3 0 k d)) * s (ix2 0 d)

/-- Row `n` of the scratch at column `k` (zero past its end). -/
def rowAt (e : Vec Ideal S528x256 .f32) (k : Fin 256) (n : ℕ) : EReal := if h : n < 528 then e (ix2 ⟨n, h⟩ k) else 0

/-- Rows that sum 1 rows each, rotated by 1 and added, sum 2 rows each. -/
theorem double1 (e x : Vec Ideal S528x256 .f32) (k : Fin 256) (lo : ℕ) (hlo : 1 ≤ lo + 1)
    (hx : ∀ p : Fin 528, lo ≤ p.val → x (ix2 p k) = ∑ j ∈ Finset.range 1, rowAt e k (p.val - j))
    (p : Fin 528) (hp : lo + 1 ≤ p.val) :
    addf (F := Ideal) (φ := .f32) x (dynamicRotate 0 1#32 none x rotates_S528x256_d0) (ix2 p k) = ∑ j ∈ Finset.range 2, rowAt e k (p.val - j) := by
  pointwise []
  have e1 : (⟨(p.val + 528 - 1) % 528, by omega⟩ : Fin 528) = ⟨p.val - 1, by omega⟩ := Fin.ext (by dsimp only; omega)
  rw [e1, hx p (by omega), hx ⟨p.val - 1, by omega⟩ (by dsimp only; omega), show (2 : ℕ) = 1 + 1 from rfl, Finset.sum_range_add]
  refine congrArg₂ (· + ·) rfl (Finset.sum_congr rfl fun j _ => ?_)
  rw [Nat.sub_sub]

/-- Rows that sum 2 rows each, rotated by 2 and added, sum 4 rows each. -/
theorem double2 (e x : Vec Ideal S528x256 .f32) (k : Fin 256) (lo : ℕ) (hlo : 2 ≤ lo + 1)
    (hx : ∀ p : Fin 528, lo ≤ p.val → x (ix2 p k) = ∑ j ∈ Finset.range 2, rowAt e k (p.val - j))
    (p : Fin 528) (hp : lo + 2 ≤ p.val) :
    addf (F := Ideal) (φ := .f32) x (dynamicRotate 0 2#32 none x rotates_S528x256_d0) (ix2 p k) = ∑ j ∈ Finset.range 4, rowAt e k (p.val - j) := by
  pointwise []
  have e1 : (⟨(p.val + 528 - 2) % 528, by omega⟩ : Fin 528) = ⟨p.val - 2, by omega⟩ := Fin.ext (by dsimp only; omega)
  rw [e1, hx p (by omega), hx ⟨p.val - 2, by omega⟩ (by dsimp only; omega), show (4 : ℕ) = 2 + 2 from rfl, Finset.sum_range_add]
  refine congrArg₂ (· + ·) rfl (Finset.sum_congr rfl fun j _ => ?_)
  rw [Nat.sub_sub]

/-- Rows that sum 4 rows each, rotated by 4 and added, sum 8 rows each. -/
theorem double4 (e x : Vec Ideal S528x256 .f32) (k : Fin 256) (lo : ℕ) (hlo : 4 ≤ lo + 1)
    (hx : ∀ p : Fin 528, lo ≤ p.val → x (ix2 p k) = ∑ j ∈ Finset.range 4, rowAt e k (p.val - j))
    (p : Fin 528) (hp : lo + 4 ≤ p.val) :
    addf (F := Ideal) (φ := .f32) x (dynamicRotate 0 4#32 none x rotates_S528x256_d0) (ix2 p k) = ∑ j ∈ Finset.range 8, rowAt e k (p.val - j) := by
  pointwise []
  have e1 : (⟨(p.val + 528 - 4) % 528, by omega⟩ : Fin 528) = ⟨p.val - 4, by omega⟩ := Fin.ext (by dsimp only; omega)
  rw [e1, hx p (by omega), hx ⟨p.val - 4, by omega⟩ (by dsimp only; omega), show (8 : ℕ) = 4 + 4 from rfl, Finset.sum_range_add]
  refine congrArg₂ (· + ·) rfl (Finset.sum_congr rfl fun j _ => ?_)
  rw [Nat.sub_sub]

/-- Rows that sum 8 rows each, rotated by 8 and added, sum 16 rows each. -/
theorem double8 (e x : Vec Ideal S528x256 .f32) (k : Fin 256) (lo : ℕ) (hlo : 8 ≤ lo + 1)
    (hx : ∀ p : Fin 528, lo ≤ p.val → x (ix2 p k) = ∑ j ∈ Finset.range 8, rowAt e k (p.val - j))
    (p : Fin 528) (hp : lo + 8 ≤ p.val) :
    addf (F := Ideal) (φ := .f32) x (dynamicRotate 0 8#32 none x rotates_S528x256_d0) (ix2 p k) = ∑ j ∈ Finset.range 16, rowAt e k (p.val - j) := by
  pointwise []
  have e1 : (⟨(p.val + 528 - 8) % 528, by omega⟩ : Fin 528) = ⟨p.val - 8, by omega⟩ := Fin.ext (by dsimp only; omega)
  rw [e1, hx p (by omega), hx ⟨p.val - 8, by omega⟩ (by dsimp only; omega), show (16 : ℕ) = 8 + 8 from rfl, Finset.sum_range_add]
  refine congrArg₂ (· + ·) rfl (Finset.sum_congr rfl fun j _ => ?_)
  rw [Nat.sub_sub]

/-- The rows summed over windows of 2, 4, 8 and 16 rows. -/
def sum2 (e : Vec Ideal S528x256 .f32) : FVec Ideal S528x256 .f32 := addf (F := Ideal) (φ := .f32) e (dynamicRotate 0 1#32 none e rotates_S528x256_d0)
def sum4 (e : Vec Ideal S528x256 .f32) : FVec Ideal S528x256 .f32 := addf (sum2 e) (dynamicRotate 0 2#32 none (sum2 e) rotates_S528x256_d0)
def sum8 (e : Vec Ideal S528x256 .f32) : FVec Ideal S528x256 .f32 := addf (sum4 e) (dynamicRotate 0 4#32 none (sum4 e) rotates_S528x256_d0)
def sum16 (e : Vec Ideal S528x256 .f32) : FVec Ideal S528x256 .f32 := addf (sum8 e) (dynamicRotate 0 8#32 none (sum8 e) rotates_S528x256_d0)

theorem sum2_apply (e : Vec Ideal S528x256 .f32) (k : Fin 256) (p : Fin 528) (hp : 1 ≤ p.val) :
    sum2 e (ix2 p k) = ∑ j ∈ Finset.range 2, rowAt e k (p.val - j) :=
  double1 e e k 0 (by omega) (fun p _ => by rw [Finset.sum_range_one, rowAt, dif_pos (show p.val - 0 < 528 from p.isLt)]; rfl) p (by omega)

theorem sum4_apply (e : Vec Ideal S528x256 .f32) (k : Fin 256) (p : Fin 528) (hp : 3 ≤ p.val) :
    sum4 e (ix2 p k) = ∑ j ∈ Finset.range 4, rowAt e k (p.val - j) :=
  double2 e (sum2 e) k 1 (by omega) (sum2_apply e k) p (by omega)

theorem sum8_apply (e : Vec Ideal S528x256 .f32) (k : Fin 256) (p : Fin 528) (hp : 7 ≤ p.val) :
    sum8 e (ix2 p k) = ∑ j ∈ Finset.range 8, rowAt e k (p.val - j) :=
  double4 e (sum4 e) k 3 (by omega) (sum4_apply e k) p (by omega)

theorem sum16_apply (e : Vec Ideal S528x256 .f32) (k : Fin 256) (p : Fin 528) (hp : 15 ≤ p.val) :
    sum16 e (ix2 p k) = ∑ j ∈ Finset.range 16, rowAt e k (p.val - j) :=
  double8 e (sum8 e) k 7 (by omega) (sum8_apply e k) p (by omega)

/-- The mean of the summed windows less the rows, as the body computes it. -/
def centred (i : grid0.Coords) (x : FVec Ideal S528x256 .f32) (w : BitVec 32) (u : Vec Ideal S512x256 .f32) : FVec Ideal S512x256 .bf16 :=
  truncf .bf16 (subf (F := Ideal) (φ := .f32) (divf (extractStridedSlice S512x256 ![16, 0] x slices_S528x256_o16_0_S512x256)
    (sitofp .f32 (minsi (addi (k0_pay4 i) (broadcast S512x256 1#32)) (broadcast S512x256 w)))) u) bitsLt_bf16_f32

theorem centred_apply (i : grid0.Coords) (x : FVec Ideal S528x256 .f32) (w : BitVec 32) (u : Vec Ideal S512x256 .f32) (r : Fin 512) (k : Fin 256) :
    centred i x w u (ix2 r k) = Ideal.div (x (ix2 ⟨16 + r.val, by omega⟩ k)) (count w (512 * (i 1).val + r.val)) - u (ix2 r k) := by
  pointwise [centred, k0_pay4]
  rw [position]
  rfl

section Groups

variable (i : grid0.Coords) (e : Vec Ideal S528x256 .f32) (u : Vec Ideal S512x256 .f32) (mix : Vec Ideal S1x256x256 .bf16)
  (s : Vec Ideal S1x256 .f32) (r : Fin 512) (d : Fin 256) (L : Fin 256 → ℕ → EReal)
  (q : ∀ (k : Fin 256) (j : ℕ) (p : Fin 528), j < 16 → p.val + j = 16 + r.val → e (ix2 p k) = L k j)

include q

/-- A group's block from its summed windows. -/
theorem group_apply (x : FVec Ideal S528x256 .f32) (n : ℕ) (hn : n ≤ 16) (w : BitVec 32)
    (hx : ∀ k : Fin 256, x (ix2 ⟨16 + r.val, by omega⟩ k) = ∑ j ∈ Finset.range n, rowAt e k (16 + r.val - j)) :
    k0_pay1 (F := Ideal) (centred i x w u) mix s (ix2 r d) = groupAt i n w L u mix s r d := by
  unfold groupAt
  pointwise [k0_pay1]
  refine congrArg (· * _) (Finset.sum_congr rfl fun k _ => congrArg (· * _) ?_)
  rw [centred_apply, hx]
  refine congrArg (· - _) (congrArg₂ Ideal.div (Finset.sum_congr rfl fun j hj => ?_) rfl)
  have hj' := Finset.mem_range.mp hj
  rw [rowAt, dif_pos (by omega), q k j _ (by omega) (by dsimp only; omega)]

/-- Group 0's block: windows of 2 rows. -/
theorem group2_apply : k0_pay6 (F := Ideal) (k0_pay5 i e u mix) s (ix2 r d) = groupAt i 2 2#32 L u mix s r d :=
  group_apply i e u mix s r d L q (sum2 e) 2 (by omega) 2#32 (fun k => sum2_apply e k _ (by dsimp only; omega))

/-- Group 1's block: windows of 4 rows. -/
theorem group4_apply : k0_pay7 (F := Ideal) (k0_pay4 i) e u mix s (ix2 r d) = groupAt i 4 4#32 L u mix s r d :=
  group_apply i e u mix s r d L q (sum4 e) 4 (by omega) 4#32 (fun k => sum4_apply e k _ (by dsimp only; omega))

/-- Group 2's block: windows of 8 rows. -/
theorem group8_apply : k0_pay9 (F := Ideal) (k0_pay4 i) (k0_pay8 e) 1#32 u mix s (ix2 r d) = groupAt i 8 8#32 L u mix s r d :=
  group_apply i e u mix s r d L q (sum8 e) 8 (by omega) 8#32 (fun k => sum8_apply e k _ (by dsimp only; omega))

/-- Group 3's block: windows of 16 rows. -/
theorem group16_apply : k0_pay1 (F := Ideal) (k0_pay10 (k0_pay4 i) e u) mix s (ix2 r d) = groupAt i 16 16#32 L u mix s r d :=
  group_apply i e u mix s r d L q (sum16 e) 16 (by omega) 16#32 (fun k => sum16_apply e k _ (by dsimp only; omega))

end Groups

/-- The 512 rows of point `t`. -/
def rows (proj : Vec Ideal S16384x3840 .f32) (t : ℕ) (ht : t < 32) : Vec Ideal S512x1024 .f32 := fun y =>
  proj (ix2 ⟨512 * t + (y 0).val, by have := (y 0).isLt; change (y 0).val < 512 at this; omega⟩
    ⟨(y 1).val, by have := (y 1).isLt; change (y 1).val < 1024 at this; omega⟩)

/-- The 16 rows before them (at point 0 the first 16 rows). -/
def halo (proj : Vec Ideal S16384x3840 .f32) (t : ℕ) (ht : t < 32) : Vec Ideal S16x1024 .f32 := fun y =>
  proj (ix2 ⟨(32 * t - 1) * 16 + (y 0).val, by have := (y 0).isLt; change (y 0).val < 16 at this; omega⟩
    ⟨(y 1).val, by have := (y 1).isLt; change (y 1).val < 1024 at this; omega⟩)

/-- The 16 rows and the 512 rows behind them are the whole scratch. -/
theorem scratch_cover (w0 : (Rect.unit (s := S528x1024) ![0, 0] ![16, 1024] inb_S528x1024_S16x1024_0_0).shape.Idx → Elt Ideal .f32)
    (w1 : (Rect.unit (s := S528x1024) ![16, 0] ![512, 1024] inb_S528x1024_S512x1024_16_0).shape.Idx → Elt Ideal .f32) (z : S528x1024.Idx) :
    ∃ p ∈ [(⟨Rect.unit ![0, 0] ![16, 1024] inb_S528x1024_S16x1024_0_0, w0⟩ : View.Piece (Elt Ideal) S528x1024 .f32),
      ⟨Rect.unit ![16, 0] ![512, 1024] inb_S528x1024_S512x1024_16_0, w1⟩], z ∈ p.1.set := by
  have b0 : (z 0).val < 528 := (z 0).isLt
  have b1 : (z 1).val < 1024 := (z 1).isLt
  by_cases h : (z 0).val < 16
  · refine ⟨_, List.mem_cons_self, (Rect.unit (s := S528x1024) ![0, 0] ![16, 1024] inb_S528x1024_S16x1024_0_0).mem_set.mpr fun a => ?_⟩
    match a with
    | ⟨0, _⟩ => exact ⟨(z 0).val, h, by show (z 0).val = 0 + 1 * (z 0).val; omega⟩
    | ⟨1, _⟩ => exact ⟨(z 1).val, b1, by show (z 1).val = 0 + 1 * (z 1).val; omega⟩
  · refine ⟨_, List.mem_cons_of_mem _ List.mem_cons_self, (Rect.unit (s := S528x1024) ![16, 0] ![512, 1024] inb_S528x1024_S512x1024_16_0).mem_set.mpr fun a => ?_⟩
    match a with
    | ⟨0, _⟩ => exact ⟨(z 0).val - 16, by show (z 0).val - 16 < 512; omega, by show (z 0).val = 16 + 1 * ((z 0).val - 16); omega⟩
    | ⟨1, _⟩ => exact ⟨(z 1).val, b1, by show (z 1).val = 0 + 1 * (z 1).val; omega⟩

section Body

variable (c : Dev nD) (i : grid0.Coords)
  (arg2 : Memref sig .tc .vmem S512x1024 .f32) (harg2 : arg2.IsWhole) (arg3 : Memref sig .tc .vmem S16x1024 .f32) (harg3 : arg3.IsWhole)
  (arg4 : Memref sig .tc .vmem S4x256x256 .bf16) (harg4 : arg4.IsWhole) (arg5 : Memref sig .tc .vmem S1x1024 .f32) (harg5 : arg5.IsWhole)
  (arg6 : Memref sig .tc .vmem S512x1024 .bf16) (harg6 : arg6.IsWhole) (arg7 : Memref sig .tc .vmem S528x1024 .f32) (harg7 : arg7.IsWhole)
  (proj : Vec Ideal S16384x3840 .f32) (mix : Vec Ideal S4x256x256 .bf16) (scale : Vec Ideal S1x1024 .f32)
  (t : ℕ) (ht : t < 32) (hi : (i 1).val = t % 8)

include hi

/-- Row `16 + r - j` of the scratch is what row `r` of the tile saw `j` positions earlier in its sequence. -/
theorem scratch_eq (z : S528x1024.Idx) (r : Fin 512) (j : ℕ) (hj : j < 16) (hzr : (z 0).val + j = 16 + r.val) (col : Fin 3840)
    (hc : (z 1).val = col.val) :
    View.canon
        [(⟨Rect.unit ![0, 0] ![16, 1024] inb_S528x1024_S16x1024_0_0, k0_pay3 (F := Ideal) i (halo proj t ht)⟩ : View.Piece (Elt Ideal) S528x1024 .f32),
          ⟨Rect.unit ![16, 0] ![512, 1024] inb_S528x1024_S512x1024_16_0, k0_pay2 (F := Ideal) (rows proj t ht)⟩] z
      = lag proj ⟨512 * t + r.val, by omega⟩ col j := by
  refine View.canon_eq_of_allAt _ z _ (scratch_cover _ _ z)
    (View.allAt_cons_unit _ _ _ _ _ ?_ (View.allAt_cons_unit _ _ _ _ _ ?_ (View.allAt_nil _ _)))
  · intro x hx
    have h0 := hx 0
    have h1 := hx 1
    change (z 0).val = 0 + (x 0).val at h0
    change (z 1).val = 0 + (x 1).val at h1
    have b0 : (x 0).val < 16 := (x 0).isLt
    have b1 : (x 1).val < 1024 := (x 1).isLt
    obtain ⟨p, k, rfl⟩ : ∃ (p : Fin 16) (k : Fin 1024), x = ix2 p k := ⟨x 0, x 1, by funext a; fin_cases a <;> rfl⟩
    change (z 0).val = 0 + p.val at h0
    change (z 1).val = 0 + k.val at h1
    unfold lag
    pointwise [k0_pay3, halo]
    by_cases h8 : t % 8 = 0
    · rw [hi, h8, if_neg (by omega)]
      rfl
    · have hne : Scalar.cmpi CmpIPredicate.eq (BitVec.ofNat 32 (t % 8)) 0#32 = 0#1 := by
        have h9 : t % 8 < 8 := Nat.mod_lt _ (by omega)
        generalize t % 8 = u at h8 h9
        interval_cases u <;> first | exact absurd rfl h8 | rfl
      rw [hi, hne, if_pos (by omega)]
      refine congrArg proj (congrArg₂ ix2 (Fin.ext ?_) (Fin.ext ?_))
      · show (32 * t - 1) * 16 + p.val = 512 * t + r.val - j
        omega
      · show k.val = col.val
        omega
  · intro x hx
    have h0 := hx 0
    have h1 := hx 1
    obtain ⟨p, k, rfl⟩ : ∃ (p : Fin 512) (k : Fin 1024), x = ix2 p k := ⟨x 0, x 1, by funext a; fin_cases a <;> rfl⟩
    change (z 0).val = 16 + p.val at h0
    change (z 1).val = 0 + k.val at h1
    unfold lag
    pointwise [k0_pay2]
    unfold rows
    rw [if_pos (by omega)]
    refine congrArg proj (congrArg₂ ix2 (Fin.ext ?_) (Fin.ext ?_))
    · show 512 * t + p.val = 512 * t + r.val - j
      omega
    · show k.val = col.val
      omega

set_option maxHeartbeats 2000000 in
/-- The body's block is the reference's result on the tile's rows. -/
theorem block_eq (y : S512x1024.Idx) (r : Fin 512) (g : Fin 4) (d : Fin 256) (hr : (y 0).val = r.val) (hd : (y 1).val = 256 * g.val + d.val) :
    out0_A_4 c i arg2 harg2 arg3 harg3 arg4 harg4 arg5 harg5 arg6 harg6 arg7 harg7 (rows proj t ht) (halo proj t ht) mix scale y
      = mixedAt proj mix scale ⟨512 * t + r.val, by omega⟩ g d := by
  have hmod : (512 * t + r.val) % 4096 = 512 * (i 1).val + r.val := by omega
  unfold out0_A_4
  rw [View.read_writes_junk_eq_canon]
  refine View.canon_eq_of_allAt _ y _ (cover0_A_4 c i arg2 harg2 arg3 harg3 arg4 harg4 arg5 harg5 arg6 harg6 arg7 harg7 (rows proj t ht) (halo proj t ht) mix scale y) ?_
  unfold kernelRun0_A
  dsimp only
  sl_unfold_words
  simp only [View.readAt_eq_ld, harg2.read_unread, harg3.read_unread, harg4.read_unread, harg5.read_unread, View.readCov_eq_canon', View.ld_unit_zero (S := S512x1024) hz, View.ld_unit_zero (S := S16x1024) hz]
  unfold mixedAt pooledAt
  rw [hmod]
  refine View.allAt_cons_unit _ _ _ _ _ ?_ ?_
  · intro x hx
    obtain ⟨p, k, rfl⟩ : ∃ (p : Fin 512) (k : Fin 256), x = ix2 p k := ⟨x 0, x 1, by funext a; fin_cases a <;> rfl⟩
    have h0 := hx 0
    have h1 := hx 1
    change (y 0).val = 0 + p.val at h0
    change (y 1).val = 768 + k.val at h1
    obtain rfl : p = r := Fin.ext (by omega)
    obtain rfl : g = 3 := Fin.ext (by show g.val = 3; omega)
    obtain rfl : k = d := Fin.ext (by change _ = 256 * 3 + d.val at hd; omega)
    refine (group16_apply i _ _ _ _ p k (fun k j => lag proj ⟨512 * t + p.val, by omega⟩ ⟨768 + k.val, by omega⟩ j)
      (fun k j q hj hq => scratch_eq i proj t ht hi _ p j hj (by show 0 + 1 * q.val + j = _; omega) _ (by show 768 + 1 * k.val = 768 + k.val; omega))).trans ?_
    unfold groupAt
    refine congrArg₂ (· * ·) (Finset.sum_congr rfl fun k' _ => ?_) ?_
    · refine congrArg₂ (· * ·) (congrArg₂ (· - ·) rfl ?_) ?_
      · unfold rows View.ld
        refine congrArg proj (congrArg₂ ix2 (Fin.ext ?_) (Fin.ext ?_))
        · show 512 * t + (0 + 1 * p.val) = 512 * t + p.val
          omega
        · show 768 + 1 * k'.val = 768 + k'.val
          omega
      · refine congrArg mix (funext fun a => Fin.ext ?_)
        match a with
        | ⟨0, _⟩ => rfl
        | ⟨1, _⟩ => show 0 + 1 * k'.val = k'.val; omega
        | ⟨2, _⟩ => show 0 + 1 * k.val = k.val; omega
    · refine congrArg scale (funext fun a => Fin.ext ?_)
      match a with
      | ⟨0, _⟩ => rfl
      | ⟨1, _⟩ => show 768 + 1 * k.val = 768 + k.val; omega
  refine View.allAt_cons_unit _ _ _ _ _ ?_ ?_
  · intro x hx
    obtain ⟨p, k, rfl⟩ : ∃ (p : Fin 512) (k : Fin 256), x = ix2 p k := ⟨x 0, x 1, by funext a; fin_cases a <;> rfl⟩
    have h0 := hx 0
    have h1 := hx 1
    change (y 0).val = 0 + p.val at h0
    change (y 1).val = 512 + k.val at h1
    obtain rfl : p = r := Fin.ext (by omega)
    obtain rfl : g = 2 := Fin.ext (by show g.val = 2; omega)
    obtain rfl : k = d := Fin.ext (by change _ = 256 * 2 + d.val at hd; omega)
    refine (group8_apply i _ _ _ _ p k (fun k j => lag proj ⟨512 * t + p.val, by omega⟩ ⟨512 + k.val, by omega⟩ j)
      (fun k j q hj hq => scratch_eq i proj t ht hi _ p j hj (by show 0 + 1 * q.val + j = _; omega) _ (by show 512 + 1 * k.val = 512 + k.val; omega))).trans ?_
    unfold groupAt
    refine congrArg₂ (· * ·) (Finset.sum_congr rfl fun k' _ => ?_) ?_
    · refine congrArg₂ (· * ·) (congrArg₂ (· - ·) rfl ?_) ?_
      · unfold rows View.ld
        refine congrArg proj (congrArg₂ ix2 (Fin.ext ?_) (Fin.ext ?_))
        · show 512 * t + (0 + 1 * p.val) = 512 * t + p.val
          omega
        · show 512 + 1 * k'.val = 512 + k'.val
          omega
      · refine congrArg mix (funext fun a => Fin.ext ?_)
        match a with
        | ⟨0, _⟩ => rfl
        | ⟨1, _⟩ => show 0 + 1 * k'.val = k'.val; omega
        | ⟨2, _⟩ => show 0 + 1 * k.val = k.val; omega
    · refine congrArg scale (funext fun a => Fin.ext ?_)
      match a with
      | ⟨0, _⟩ => rfl
      | ⟨1, _⟩ => show 512 + 1 * k.val = 512 + k.val; omega
  refine View.allAt_cons_unit _ _ _ _ _ ?_ ?_
  · intro x hx
    obtain ⟨p, k, rfl⟩ : ∃ (p : Fin 512) (k : Fin 256), x = ix2 p k := ⟨x 0, x 1, by funext a; fin_cases a <;> rfl⟩
    have h0 := hx 0
    have h1 := hx 1
    change (y 0).val = 0 + p.val at h0
    change (y 1).val = 256 + k.val at h1
    obtain rfl : p = r := Fin.ext (by omega)
    obtain rfl : g = 1 := Fin.ext (by show g.val = 1; omega)
    obtain rfl : k = d := Fin.ext (by change _ = 256 * 1 + d.val at hd; omega)
    refine (group4_apply i _ _ _ _ p k (fun k j => lag proj ⟨512 * t + p.val, by omega⟩ ⟨256 + k.val, by omega⟩ j)
      (fun k j q hj hq => scratch_eq i proj t ht hi _ p j hj (by show 0 + 1 * q.val + j = _; omega) _ (by show 256 + 1 * k.val = 256 + k.val; omega))).trans ?_
    unfold groupAt
    refine congrArg₂ (· * ·) (Finset.sum_congr rfl fun k' _ => ?_) ?_
    · refine congrArg₂ (· * ·) (congrArg₂ (· - ·) rfl ?_) ?_
      · unfold rows View.ld
        refine congrArg proj (congrArg₂ ix2 (Fin.ext ?_) (Fin.ext ?_))
        · show 512 * t + (0 + 1 * p.val) = 512 * t + p.val
          omega
        · show 256 + 1 * k'.val = 256 + k'.val
          omega
      · refine congrArg mix (funext fun a => Fin.ext ?_)
        match a with
        | ⟨0, _⟩ => rfl
        | ⟨1, _⟩ => show 0 + 1 * k'.val = k'.val; omega
        | ⟨2, _⟩ => show 0 + 1 * k.val = k.val; omega
    · refine congrArg scale (funext fun a => Fin.ext ?_)
      match a with
      | ⟨0, _⟩ => rfl
      | ⟨1, _⟩ => show 256 + 1 * k.val = 256 + k.val; omega
  refine View.allAt_cons_unit _ _ _ _ _ ?_ ?_
  · intro x hx
    obtain ⟨p, k, rfl⟩ : ∃ (p : Fin 512) (k : Fin 256), x = ix2 p k := ⟨x 0, x 1, by funext a; fin_cases a <;> rfl⟩
    have h0 := hx 0
    have h1 := hx 1
    change (y 0).val = 0 + p.val at h0
    change (y 1).val = 0 + k.val at h1
    obtain rfl : p = r := Fin.ext (by omega)
    obtain rfl : g = 0 := Fin.ext (by show g.val = 0; omega)
    obtain rfl : k = d := Fin.ext (by change _ = 256 * 0 + d.val at hd; omega)
    refine (group2_apply i _ _ _ _ p k (fun k j => lag proj ⟨512 * t + p.val, by omega⟩ ⟨0 + k.val, by omega⟩ j)
      (fun k j q hj hq => scratch_eq i proj t ht hi _ p j hj (by show 0 + 1 * q.val + j = _; omega) _ (by show 0 + 1 * k.val = 0 + k.val; omega))).trans ?_
    unfold groupAt
    refine congrArg₂ (· * ·) (Finset.sum_congr rfl fun k' _ => ?_) ?_
    · refine congrArg₂ (· * ·) (congrArg₂ (· - ·) rfl ?_) ?_
      · unfold rows View.ld
        refine congrArg proj (congrArg₂ ix2 (Fin.ext ?_) (Fin.ext ?_))
        · show 512 * t + (0 + 1 * p.val) = 512 * t + p.val
          omega
        · show 0 + 1 * k'.val = 0 + k'.val
          omega
      · refine congrArg mix (funext fun a => Fin.ext ?_)
        match a with
        | ⟨0, _⟩ => rfl
        | ⟨1, _⟩ => show 0 + 1 * k'.val = k'.val; omega
        | ⟨2, _⟩ => show 0 + 1 * k.val = k.val; omega
    · refine congrArg scale (funext fun a => Fin.ext ?_)
      match a with
      | ⟨0, _⟩ => rfl
      | ⟨1, _⟩ => show 0 + 1 * k.val = 0 + k.val; omega
  exact View.allAt_nil _ _

end Body

variable (m : (ℓ : Loc nD τ sig) → Buf (Elt Ideal) ℓ)

/-- Which row tile of its sequence a point is, and which blocks it reads and writes. -/
theorem index_facts : ∀ t : Fin cfg0.N, (grid0.coords t 1).val = t.val % 8
    ∧ win0_0.index t 0 = t.val ∧ win0_0.index t 1 = 0
    ∧ win0_1.index t 0 = 32 * t.val - 1 ∧ win0_1.index t 1 = 0
    ∧ win0_2.index t 0 = 0 ∧ win0_2.index t 1 = 0 ∧ win0_2.index t 2 = 0
    ∧ win0_3.index t 0 = 0 ∧ win0_3.index t 1 = 0
    ∧ win0_4.index t 0 = t.val ∧ win0_4.index t 1 = 0 :=
  (by decide +kernel : ∀ t : Fin grid0.N, _)

theorem tile_rows (c : Dev nD) (t : Fin cfg0.N) :
    (X0_0 m c t : Vec Ideal S512x1024 .f32) = rows (m ((c : Thread nD τ).loc main_arg0)) t.val (lt_of_lt_of_eq t.isLt N_0) := by
  obtain ⟨-, e0, e1, -⟩ := index_facts t
  funext y
  unfold X0_0 Pipeline.Window.fill
  rw [dif_pos (moved0_0 t y)]
  unfold iblk rows
  rw [View.read_apply]
  show V m c main_arg0 _ = m (c.tc.loc main_arg0) _
  unfold V
  congr 1
  funext a
  apply Fin.ext
  match a with
  | ⟨0, _⟩ => show win0_0.index t 0 * 512 + 1 * (y 0).val = 512 * t.val + (y 0).val; rw [e0]; omega
  | ⟨1, _⟩ => show win0_0.index t 1 * 1024 + 1 * (y 1).val = (y 1).val; rw [e1]; omega

theorem tile_halo (c : Dev nD) (t : Fin cfg0.N) :
    (X0_1 m c t : Vec Ideal S16x1024 .f32) = halo (m ((c : Thread nD τ).loc main_arg0)) t.val (lt_of_lt_of_eq t.isLt N_0) := by
  obtain ⟨-, -, -, e0, e1, -⟩ := index_facts t
  funext y
  unfold X0_1 Pipeline.Window.fill
  rw [dif_pos (moved0_1 t y)]
  unfold iblk halo
  rw [View.read_apply]
  show V m c main_arg0 _ = m (c.tc.loc main_arg0) _
  unfold V
  congr 1
  funext a
  apply Fin.ext
  match a with
  | ⟨0, _⟩ => show win0_1.index t 0 * 16 + 1 * (y 0).val = (32 * t.val - 1) * 16 + (y 0).val; rw [e0]; omega
  | ⟨1, _⟩ => show win0_1.index t 1 * 1024 + 1 * (y 1).val = (y 1).val; rw [e1]; omega

theorem tile_mix (c : Dev nD) (t : Fin cfg0.N) :
    (iblk m c 2 t : Vec Ideal S4x256x256 .bf16) = m ((c : Thread nD τ).loc main_arg1) := by
  obtain ⟨-, -, -, -, -, e0, e1, e2, -⟩ := index_facts t
  funext y
  unfold iblk
  rw [View.read_apply]
  show V m c main_arg1 _ = m (c.tc.loc main_arg1) _
  unfold V
  congr 1
  funext a
  apply Fin.ext
  match a with
  | ⟨0, _⟩ => show win0_2.index t 0 * 4 + 1 * (y 0).val = (y 0).val; rw [e0]; omega
  | ⟨1, _⟩ => show win0_2.index t 1 * 256 + 1 * (y 1).val = (y 1).val; rw [e1]; omega
  | ⟨2, _⟩ => show win0_2.index t 2 * 256 + 1 * (y 2).val = (y 2).val; rw [e2]; omega

theorem tile_scale (c : Dev nD) (t : Fin cfg0.N) :
    (iblk m c 3 t : Vec Ideal S1x1024 .f32) = m ((c : Thread nD τ).loc main_arg2) := by
  obtain ⟨-, -, -, -, -, -, -, -, e0, e1, -⟩ := index_facts t
  funext y
  unfold iblk
  rw [View.read_apply]
  show V m c main_arg2 _ = m (c.tc.loc main_arg2) _
  unfold V
  congr 1
  funext a
  apply Fin.ext
  match a with
  | ⟨0, _⟩ => show win0_3.index t 0 * 1 + 1 * (y 0).val = (y 0).val; rw [e0]; omega
  | ⟨1, _⟩ => show win0_3.index t 1 * 1024 + 1 * (y 1).val = (y 1).val; rw [e1]; omega

/-- The output array at an index: the reference's result. -/
theorem array_eq (c : Dev nD) (r : Fin 16384) (q : Fin 1024) :
    (dats m 0 c).arrAt 4 cfg0.N (ix2 r q)
      = mixedAt (m ((c : Thread nD τ).loc main_arg0)) (m ((c : Thread nD τ).loc main_arg1)) (m ((c : Thread nD τ).loc main_arg2))
          r ⟨q.val / 256, by omega⟩ ⟨q.val % 256, by omega⟩ := by
  have hN : cfg0.N = 32 := N_0
  let t : Fin cfg0.N := ⟨r.val / 512, by omega⟩
  obtain ⟨hi, -, -, -, -, -, -, -, -, -, e0, e1⟩ := index_facts t
  have hf : (cfg0.win 4).flush t = true := (by decide +kernel : ∀ t : Fin grid0.N, win0_4.flush t = true) t
  have h := congrFun (blocks4 m c t hf) (ix2 ⟨r.val % 512, by omega⟩ q)
  rw [View.read_apply, flushed4_A, tile_rows, tile_halo, tile_mix, tile_scale] at h
  have hidx : ((cfg0.win 4).blk t).view.emb (ix2 ⟨r.val % 512, by omega⟩ q) = ix2 r q := by
    funext a
    apply Fin.ext
    match a with
    | ⟨0, _⟩ => show win0_4.index t 0 * 512 + 1 * (r.val % 512) = r.val; rw [e0]; show r.val / 512 * 512 + _ = _; omega
    | ⟨1, _⟩ => show win0_4.index t 1 * 1024 + 1 * q.val = q.val; rw [e1]; omega
  rw [hidx] at h
  refine h.trans ?_
  refine (block_eq c (grid0.coords t) _ _ _ _ _ _ _ _ _ _ _ _ _ _ _ t.val _ hi _ ⟨r.val % 512, by omega⟩ ⟨q.val / 256, by omega⟩ ⟨q.val % 256, by omega⟩ rfl
    (by show q.val = 256 * (q.val / 256) + q.val % 256; omega)).trans ?_
  congr 1
  exact Fin.ext (by show 512 * (r.val / 512) + r.val % 512 = r.val; omega)

end Cert.PoolIdeal.Mixed

end
-- ==== Proof.PrepTiles.lean ====
/-
  What the preparing kernel stores, piece by piece, over the extended reals.

  A tile of keys is turned in place: the cosine tile times the head plus the sine tile times the head's halves exchanged
  (`rot_apply`). The marks are counted with machine words, a floored division by 64 among them (`floored`). The values are
  transposed and cut into heads.
-/
module

public import proofs.«01_k».proof.Proof.Gen.PrepIdeal.Value
public import Idealize.ShloMosaic.Lib.Pointwise
public import Idealize.ShloMosaic.Lib.Tactic
public import Idealize.ShloMosaic.Lib.IdealHost

@[expose] public section

noncomputable section

namespace Cert.PrepIdeal.Tiles

open Cert.PrepIdeal Cert.PrepIdeal.Gen
open Idealize.ShloMosaic Idealize.ShloMosaic.TcCoe Idealize.SL.Sem

/-- A head's tile turned. -/
def rot (v cs sn : FVec Ideal S256x64 .f32) : FVec Ideal S1x1x1x256x64 .bf16 :=
  shapeCast S1x1x1x256x64 (truncf .bf16 (addf (mulf v cs) (mulf (concatenate S256x64 1 [⟨S256x32, extractStridedSlice S256x32 ![0, 32] v slices_S256x64_o0_32_S256x32⟩, ⟨S256x32, extractStridedSlice S256x32 ![0, 0] v slices_S256x64_o0_0_S256x32⟩] concatenates_S256x32_S256x32_S256x64_d1) sn)) bitsLt_bf16_f32) shapeCasts_S256x64_S1x1x1x256x64

theorem rot_apply (v cs sn : FVec Ideal S256x64 .f32) (u w z : Fin 1) (p : Fin 256) (d : Fin 64) :
    rot v cs sn (ix5 u w z p d) = v (ix2 p d) * cs (ix2 p d) + v (ix2 p ⟨(d.val + 32) % 64, by omega⟩) * sn (ix2 p d) := by
  by_cases h : d.val < 32
  · have ha : (⟨(d.val + 32) % 64, by omega⟩ : Fin 64) = ⟨32 + d.val, by omega⟩ := Fin.ext (by show (d.val + 32) % 64 = 32 + d.val; omega)
    rw [ha]
    pointwise [rot]
    rw [dif_pos h]
  · have ha : (⟨(d.val + 32) % 64, by omega⟩ : Fin 64) = ⟨d.val - 32, by omega⟩ := Fin.ext (by show (d.val + 32) % 64 = d.val - 32; omega)
    rw [ha]
    pointwise [rot]
    rw [dif_neg h]

/-- Head `g` of a tile of keys, turned, at row `p`, column `d`. -/
def turnTile (x : FVec Ideal S256x256 .f32) (cs sn : FVec Ideal S256x64 .f32) (g : Fin 4) (p : Fin 256) (d : Fin 64) : EReal :=
  x (ix2 p ⟨64 * g.val + d.val, by omega⟩) * cs (ix2 p d) + x (ix2 p ⟨64 * g.val + (d.val + 32) % 64, by omega⟩) * sn (ix2 p d)

theorem turn0 (x : FVec Ideal S256x256 .f32) (cs sn : FVec Ideal S256x64 .f32) (u w z : Fin 1) (p : Fin 256) (d : Fin 64) :
    rot (extractStridedSlice S256x64 ![0, 0] x slices_S256x256_o0_0_S256x64) cs sn (ix5 u w z p d) = turnTile x cs sn 0 p d := by
  unfold turnTile
  rw [rot_apply]
  pointwise []

theorem turn1 (x : FVec Ideal S256x256 .f32) (cs sn : FVec Ideal S256x64 .f32) (u w z : Fin 1) (p : Fin 256) (d : Fin 64) :
    rot (extractStridedSlice S256x64 ![0, 64] x slices_S256x256_o0_64_S256x64) cs sn (ix5 u w z p d) = turnTile x cs sn 1 p d := by
  unfold turnTile
  rw [rot_apply]
  pointwise []

theorem turn2 (x : FVec Ideal S256x256 .f32) (cs sn : FVec Ideal S256x64 .f32) (u w z : Fin 1) (p : Fin 256) (d : Fin 64) :
    rot (extractStridedSlice S256x64 ![0, 128] x slices_S256x256_o0_128_S256x64) cs sn (ix5 u w z p d) = turnTile x cs sn 2 p d := by
  unfold turnTile
  rw [rot_apply]
  pointwise []

theorem turn3 (x : FVec Ideal S256x256 .f32) (cs sn : FVec Ideal S256x64 .f32) (u w z : Fin 1) (p : Fin 256) (d : Fin 64) :
    rot (extractStridedSlice S256x64 ![0, 192] x slices_S256x256_o0_192_S256x64) cs sn (ix5 u w z p d) = turnTile x cs sn 3 p d := by
  unfold turnTile
  rw [rot_apply]
  pointwise []

/-- Two numbers below two to the thirty-second have the same word where they are the same. -/
theorem word_eq (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h
    rw [if_pos rfl]
    simp
  · have hne : BitVec.ofNat 32 a ≠ BitVec.ofNat 32 b := fun e => by
      have := congrArg BitVec.toNat e
      rw [BitVec.toNat_ofNat, BitVec.toNat_ofNat, Nat.mod_eq_of_lt ha, Nat.mod_eq_of_lt hb] at this
      exact h this
    rw [if_neg h]
    rw [beq_eq_false_iff_ne.mpr hne]
    rfl

/-- The floored division by 64 the kernel computes, of a position. -/
theorem floored : ∀ s : Fin 4096,
    Scalar.select (IntOp.andi (IntOp.cmpi .ne (IntOp.subi ((IntOp.cmpi .sgt (BitVec.ofNat 32 s.val) 0#32).setWidth 32)
        ((IntOp.cmpi .slt (BitVec.ofNat 32 s.val) 0#32).setWidth 32))
        (Scalar.subi (Scalar.extui (Scalar.cmpi .sgt 64#32 0#32)) (Scalar.extui (Scalar.cmpi .slt 64#32 0#32))))
        (IntOp.cmpi .ne (IntOp.remsi .vector (BitVec.ofNat 32 s.val) 64#32) 0#32))
      (IntOp.subi (IntOp.divsi .vector (BitVec.ofNat 32 s.val) 64#32) 1#32)
      (IntOp.divsi .vector (BitVec.ofNat 32 s.val) 64#32) = BitVec.ofNat 32 (s.val / 64) := by
  decide +kernel

theorem mark_apply (i : grid0.Coords) (p : Fin 256) (d : Fin 64) :
    k0_pay7 (F := Ideal) i (ix2 p d) = if (256 * (i 1).val + p.val) / 64 = d.val then (1 : EReal) else 0 := by
  pointwise [k0_pay7]
  have hw : IntOp.addi (Scalar.muli (BitVec.ofNat 32 (i 1).val) 256#32) (BitVec.ofNat 32 p.val)
      = BitVec.ofNat 32 (256 * (i 1).val + p.val) := by
    show BitVec.ofNat 32 (i 1).val * 256#32 + BitVec.ofNat 32 p.val = _
    rw [Nat.mul_comm, BitVec.ofNat_add, BitVec.ofNat_mul]
  have hi : (i 1).val < 16 := (i 1).isLt
  rw [hw]
  have hf := floored ⟨256 * (i 1).val + p.val, by omega⟩
  dsimp only at hf
  rw [hf, word_eq _ _ (by omega) (by omega)]
  by_cases h : (256 * (i 1).val + p.val) / 64 = d.val
  · rw [if_pos h, if_pos h]
    rfl
  · rw [if_neg h, if_neg h]
    rfl

theorem mark11 (v : FVec Ideal S256x64 .bf16) (u w z : Fin 1) (p : Fin 256) (d : Fin 64) :
    k0_pay11 v (ix5 u w z p d) = v (ix2 p d) := by
  pointwise [k0_pay11]

theorem mark20 (v : FVec Ideal S256x64 .bf16) (u w z : Fin 1) (p : Fin 256) (d : Fin 64) :
    k0_pay20 v (ix5 u w z p d) = v (ix2 p d) := by
  pointwise [k0_pay20]

theorem mark35 (v : FVec Ideal S256x64 .bf16) (u w z : Fin 1) (p : Fin 256) (d : Fin 64) :
    k0_pay35 v (ix5 u w z p d) = v (ix2 p d) := by
  pointwise [k0_pay35]

theorem mark43 (v : FVec Ideal S256x64 .bf16) (u w z : Fin 1) (p : Fin 256) (d : Fin 64) :
    k0_pay43 v (ix5 u w z p d) = v (ix2 p d) := by
  pointwise [k0_pay43]

theorem value7_0 (x : FVec Ideal S256x256 .f32) (u w z : Fin 1) (d : Fin 64) (p : Fin 256) :
    @Eq EReal (k0_pay15 (F := Ideal) (k0_pay14 (F := Ideal) x) (ix5 u w z d p)) (x (ix2 p ⟨d.val, by omega⟩)) := by
  pointwise [k0_pay15, k0_pay14, k0_pay8]

theorem value7_1 (x : FVec Ideal S256x256 .f32) (u w z : Fin 1) (d : Fin 64) (p : Fin 256) :
    @Eq EReal (k0_pay26 (F := Ideal) (k0_pay8 (F := Ideal) x) (ix5 u w z d p)) (x (ix2 p ⟨64 + d.val, by omega⟩)) := by
  pointwise [k0_pay26, k0_pay8]

theorem value7_2 (x : FVec Ideal S256x256 .f32) (u w z : Fin 1) (d : Fin 64) (p : Fin 256) :
    @Eq EReal (k0_pay38 (F := Ideal) (k0_pay8 (F := Ideal) x) (ix5 u w z d p)) (x (ix2 p ⟨128 + d.val, by omega⟩)) := by
  pointwise [k0_pay38, k0_pay8]

theorem value7_3 (x : FVec Ideal S256x256 .f32) (u w z : Fin 1) (d : Fin 64) (p : Fin 256) :
    @Eq EReal (k0_pay3 (F := Ideal) (k0_pay8 (F := Ideal) x) (ix5 u w z d p)) (x (ix2 p ⟨192 + d.val, by omega⟩)) := by
  pointwise [k0_pay3, k0_pay8]

theorem value9_0 (x : FVec Ideal S256x256 .f32) (u w z : Fin 1) (d : Fin 64) (p : Fin 256) :
    @Eq EReal (k0_pay17 (F := Ideal) (k0_pay9 (F := Ideal) x) (ix5 u w z d p)) (x (ix2 p ⟨d.val, by omega⟩)) := by
  pointwise [k0_pay17, k0_pay9]

theorem value9_1 (x : FVec Ideal S256x256 .f32) (u w z : Fin 1) (d : Fin 64) (p : Fin 256) :
    @Eq EReal (k0_pay28 (F := Ideal) (k0_pay9 (F := Ideal) x) (ix5 u w z d p)) (x (ix2 p ⟨64 + d.val, by omega⟩)) := by
  pointwise [k0_pay28, k0_pay9]

theorem value9_2 (x : FVec Ideal S256x256 .f32) (u w z : Fin 1) (d : Fin 64) (p : Fin 256) :
    @Eq EReal (k0_pay40 (F := Ideal) (k0_pay9 (F := Ideal) x) (ix5 u w z d p)) (x (ix2 p ⟨128 + d.val, by omega⟩)) := by
  pointwise [k0_pay40, k0_pay9]

theorem value9_3 (x : FVec Ideal S256x256 .f32) (u w z : Fin 1) (d : Fin 64) (p : Fin 256) :
    @Eq EReal (k0_pay5 (F := Ideal) (k0_pay9 (F := Ideal) x) (ix5 u w z d p)) (x (ix2 p ⟨192 + d.val, by omega⟩)) := by
  pointwise [k0_pay5, k0_pay9]

theorem one7_0 (j : S1x1x1x16x256.Idx) : @Eq EReal (k0_pay16 (F := Ideal) (k0_pay13 (F := Ideal)) j) 1 := Idealize.ShloMosaic.Ideal.ofBits_one_bf16

theorem one7_1 (j : S1x1x1x16x256.Idx) : @Eq EReal (k0_pay27 (F := Ideal) j) 1 := Idealize.ShloMosaic.Ideal.ofBits_one_bf16

theorem one7_2 (j : S1x1x1x16x256.Idx) : @Eq EReal (k0_pay39 (F := Ideal) j) 1 := Idealize.ShloMosaic.Ideal.ofBits_one_bf16

theorem one7_3 (j : S1x1x1x16x256.Idx) : @Eq EReal (k0_pay4 (F := Ideal) j) 1 := Idealize.ShloMosaic.Ideal.ofBits_one_bf16

theorem one9_0 (j : S1x1x1x16x256.Idx) : @Eq EReal (k0_pay18 (F := Ideal) (k0_pay13 (F := Ideal)) j) 1 := Idealize.ShloMosaic.Ideal.ofBits_one_bf16

theorem one9_1 (j : S1x1x1x16x256.Idx) : @Eq EReal (k0_pay29 (F := Ideal) j) 1 := Idealize.ShloMosaic.Ideal.ofBits_one_bf16

theorem one9_2 (j : S1x1x1x16x256.Idx) : @Eq EReal (k0_pay41 (F := Ideal) (k0_pay37 (F := Ideal)) j) 1 := Idealize.ShloMosaic.Ideal.ofBits_one_bf16

theorem one9_3 (j : S1x1x1x16x256.Idx) : @Eq EReal (k0_pay6 (F := Ideal) j) 1 := Idealize.ShloMosaic.Ideal.ofBits_one_bf16

end Cert.PrepIdeal.Tiles

end
-- ==== Proof.PrepTurned.lean ====
/-
  What preparing the keys and the values yields, over the extended reals, and that the reference yields it.

  Four column ranges of the projection are read, each 4 heads of 64 columns. A head of keys is turned: column `d` of a row is
  the column times the row's cosine plus the column half a head away times the row's sine (`turnedAt`). The block-sparse
  keys carry 64 columns more, marking the block of 64 positions the row lies in (`markAt`); the values carry 16 columns of
  ones more.
-/
module

public import proofs.«01_k».proof.Proof.Gen.PrepRefIdeal.Run
public import Idealize.ShloMosaic.Lib.Pointwise
public import Idealize.ShloMosaic.Lib.Tactic

@[expose] public section

noncomputable section

namespace Cert.PrepRefIdeal.Turned

open Cert.PrepRefIdeal Cert.PrepRefIdeal.Gen
open Idealize.ShloMosaic Idealize.ShloMosaic.TcCoe Idealize.SL.Sem

/-- Column `d` of head `g`, of the heads that begin at column `o`. -/
def col (o : Fin 3585) (g : Fin 4) (d : Fin 64) : Fin 3840 := ⟨o.val + (64 * g.val + d.val), by omega⟩

/-- The column half a head away. -/
def across (d : Fin 64) : Fin 64 := ⟨(d.val + 32) % 64, by omega⟩

/-- The row of position `s` of sequence `b`. -/
def row (b : Fin 4) (s : Fin 4096) : Fin 16384 := ⟨b.val * 4096 + s.val, by omega⟩

/-- A turned head at position `s` of sequence `b`, column `d`. -/
def turnedAt (x : FVec Ideal S16384x3840 .f32) (cs sn : FVec Ideal S4096x64 .f32) (o : Fin 3585) (b : Fin 4) (s : Fin 4096)
    (g : Fin 4) (d : Fin 64) : EReal :=
  x (ix2 (row b s) (col o g d)) * cs (ix2 s d) + x (ix2 (row b s) (col o g (across d))) * sn (ix2 s d)

/-- One in the column of the block of 64 positions that position `s` lies in, else zero. -/
def markAt (s : ℕ) (d : ℕ) : EReal := if s / 64 = d then 1 else 0

/-- The block-sparse keys: the turned head, then the marks. -/
def markedAt (x : FVec Ideal S16384x3840 .f32) (cs sn : FVec Ideal S4096x64 .f32) (o : Fin 3585) (b : Fin 4) (s : Fin 4096)
    (g : Fin 4) (e : Fin 128) : EReal :=
  if h : e.val < 64 then turnedAt x cs sn o b s g ⟨e.val, h⟩ else markAt s.val (e.val - 64)

/-- The values: the head, then ones. -/
def paddedAt (x : FVec Ideal S16384x3840 .f32) (o : Fin 3585) (b : Fin 4) (s : Fin 4096) (g : Fin 4) (e : Fin 80) : EReal :=
  if h : e.val < 64 then x (ix2 (row b s) (col o g ⟨e.val, h⟩)) else 1

/-- Position `p` of tile `i`. -/
def pos (i : Fin 16) (p : Fin 256) : Fin 4096 := ⟨i.val * 256 + p.val, by omega⟩

/-- The heads of a column range. -/
def heads (x : FVec Ideal S16384x256 .f32) : FVec Ideal S4x4x4096x64 .f32 :=
  transpose S4x4x4096x64 [0, 2, 1, 3] (shapeCast _ x shapeCasts_S16384x256_S4x4096x4x64) transposes_S4x4096x4x64_S4x4x4096x64_0_2_1_3

theorem heads_apply (x : FVec Ideal S16384x256 .f32) (b g : Fin 4) (s : Fin 4096) (d : Fin 64) :
    heads x (ix4 b g s d) = x (ix2 ⟨b.val * 4096 + s.val, by omega⟩ ⟨g.val * 64 + d.val, by omega⟩) := by
  pointwise [heads]

/-- The heads turned. -/
def keys (v : FVec Ideal S4x4x4096x64 .f32) (cs sn : FVec Ideal S4096x64 .f32) : FVec Ideal S4x4x4096x64 .bf16 :=
  truncf .bf16 (concatenate S4x4x4096x64 3 [⟨S4x4x4096x32, (addf (mulf (extractStridedSlice S4x4x4096x32 ![0, 0, 0, 0] v slices_S4x4x4096x64_S4x4x4096x32_0_0_0_0) (broadcastInDim S4x4x4096x32 ![0, 1, 2, 3] bcast_S1x1x4096x32_S4x4x4096x32_0_1_2_3 (broadcastInDim S1x1x4096x32 ![2, 3] bcast_S4096x32_S1x1x4096x32_2_3 (extractStridedSlice S4096x32 ![0, 0] cs slices_S4096x64_S4096x32_0_0)))) (mulf (extractStridedSlice S4x4x4096x32 ![0, 0, 0, 32] v slices_S4x4x4096x64_S4x4x4096x32_0_0_0_32) (broadcastInDim S4x4x4096x32 ![0, 1, 2, 3] bcast_S1x1x4096x32_S4x4x4096x32_0_1_2_3 (broadcastInDim S1x1x4096x32 ![2, 3] bcast_S4096x32_S1x1x4096x32_2_3 (extractStridedSlice S4096x32 ![0, 0] sn slices_S4096x64_S4096x32_0_0)))))⟩, ⟨S4x4x4096x32, (addf (mulf (extractStridedSlice S4x4x4096x32 ![0, 0, 0, 32] v slices_S4x4x4096x64_S4x4x4096x32_0_0_0_32) (broadcastInDim S4x4x4096x32 ![0, 1, 2, 3] bcast_S1x1x4096x32_S4x4x4096x32_0_1_2_3 (broadcastInDim S1x1x4096x32 ![2, 3] bcast_S4096x32_S1x1x4096x32_2_3 (extractStridedSlice S4096x32 ![0, 32] cs slices_S4096x64_S4096x32_0_32)))) (mulf (extractStridedSlice S4x4x4096x32 ![0, 0, 0, 0] v slices_S4x4x4096x64_S4x4x4096x32_0_0_0_0) (broadcastInDim S4x4x4096x32 ![0, 1, 2, 3] bcast_S1x1x4096x32_S4x4x4096x32_0_1_2_3 (broadcastInDim S1x1x4096x32 ![2, 3] bcast_S4096x32_S1x1x4096x32_2_3 (extractStridedSlice S4096x32 ![0, 32] sn slices_S4096x64_S4096x32_0_32)))))⟩] concatenates_S4x4x4096x32_S4x4x4096x32_S4x4x4096x64_d3) bitsLt_bf16_f32

theorem keys_apply (v : FVec Ideal S4x4x4096x64 .f32) (cs sn : FVec Ideal S4096x64 .f32) (b g : Fin 4) (s : Fin 4096) (d : Fin 64) :
    keys v cs sn (ix4 b g s d) = v (ix4 b g s d) * cs (ix2 s d) + v (ix4 b g s (across d)) * sn (ix2 s d) := by
  by_cases h : d.val < 32
  · have ha : across d = ⟨32 + d.val, by omega⟩ := Fin.ext (by show (d.val + 32) % 64 = 32 + d.val; omega)
    rw [ha]
    pointwise [keys]
    rw [dif_pos h]
  · have ha : across d = ⟨d.val - 32, by omega⟩ := Fin.ext (by show (d.val + 32) % 64 = d.val - 32; omega)
    have hd : (⟨32 + (d.val - 32), by omega⟩ : Fin 64) = d := Fin.ext (by show 32 + (d.val - 32) = d.val; omega)
    rw [ha]
    pointwise [keys]
    rw [dif_neg h, hd]

/-- Two numbers below two to the thirty-second have the same word where they are the same. -/
theorem word_eq (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h
    rw [if_pos rfl]
    simp
  · have hne : BitVec.ofNat 32 a ≠ BitVec.ofNat 32 b := fun e => by
      have := congrArg BitVec.toNat e
      rw [BitVec.toNat_ofNat, BitVec.toNat_ofNat, Nat.mod_eq_of_lt ha, Nat.mod_eq_of_lt hb] at this
      exact h this
    rw [if_neg h]
    rw [beq_eq_false_iff_ne.mpr hne]
    rfl

/-- The marks of every position. -/
def marks : FVec Ideal S4096x64 .bf16 :=
  shapeCast _ (broadcastInDim S64x64x64 ![0, 1, 2] bcast_S64x1x64_S64x64x64_0_1_2 (broadcastInDim S64x1x64 ![0, 2] bcast_S64x64_S64x1x64_0_2 (uitofp .bf16 (cmpi .eq (addi (iotaInDim S64x64 32 0) (broadcastInDim S64x64 ![] bcast_S_S64x64 (constantI S_ 32 0#32))) (iotaInDim S64x64 32 1))))) shapeCasts_S64x64x64_S4096x64

theorem marks_apply (s : Fin 4096) (d : Fin 64) : marks (ix2 s d) = markAt s.val d.val := by
  pointwise [marks]
  have h0 : IntOp.addi (BitVec.ofNat 32 (s.val / 64)) 0#32 = BitVec.ofNat 32 (s.val / 64) := BitVec.add_zero _
  rw [h0, word_eq _ _ (by omega) (by omega)]
  unfold markAt
  by_cases h : s.val / 64 = d.val
  · rw [if_pos h, if_pos h]
    show (((1#1 : BitVec 1).toNat : ℝ) : EReal) = 1
    simp
  · rw [if_neg h, if_neg h]
    show (((0#1 : BitVec 1).toNat : ℝ) : EReal) = 0
    simp

/-- The reference's block-sparse keys. -/
def marked (v : FVec Ideal S4x4x4096x64 .bf16) : FVec Ideal S4x4x16x256x128 .bf16 :=
  shapeCast _ (concatenate S4x4x4096x128 3 [⟨S4x4x4096x64, v⟩, ⟨S4x4x4096x64, (broadcastInDim S4x4x4096x64 ![2, 3] bcast_S4096x64_S4x4x4096x64_2_3 marks)⟩] concatenates_S4x4x4096x64_S4x4x4096x64_S4x4x4096x128_d3) shapeCasts_S4x4x4096x128_S4x4x16x256x128

theorem marked_apply (v : FVec Ideal S4x4x4096x64 .bf16) (b g : Fin 4) (i : Fin 16) (p : Fin 256) (e : Fin 128) :
    marked v (ix5 b g i p e) = if h : e.val < 64 then v (ix4 b g ⟨i.val * 256 + p.val, by omega⟩ ⟨e.val, h⟩)
      else markAt (i.val * 256 + p.val) (e.val - 64) := by
  by_cases h : e.val < 64
  · pointwise [marked]
    rw [dif_pos h, dif_pos h]
  · pointwise [marked, marks_apply]

/-- The reference's values. -/
def padded (v : FVec Ideal S4x4x4096x64 .f32) : FVec Ideal S4x4x16x80x256 .bf16 :=
  transpose S4x4x16x80x256 [0, 1, 2, 4, 3] (shapeCast _ (concatenate S4x4x4096x80 3 [⟨S4x4x4096x64, (truncf .bf16 v bitsLt_bf16_f32)⟩, ⟨S4x4x4096x16, (broadcastInDim S4x4x4096x16 ![] bcast_S_S4x4x4096x16 (constant S_ .bf16 0x3F80#16))⟩] concatenates_S4x4x4096x64_S4x4x4096x16_S4x4x4096x80_d3) shapeCasts_S4x4x4096x80_S4x4x16x256x80) transposes_S4x4x16x256x80_S4x4x16x80x256_0_1_2_4_3

theorem padded_apply (v : FVec Ideal S4x4x4096x64 .f32) (b g : Fin 4) (i : Fin 16) (e : Fin 80) (p : Fin 256) :
    padded v (ix5 b g i e p) = if h : e.val < 64 then v (ix4 b g ⟨i.val * 256 + p.val, by omega⟩ ⟨e.val, h⟩) else 1 := by
  by_cases h : e.val < 64
  · pointwise [padded]
  · pointwise [padded]

/-- The reference's window keys. -/
def plain (v : FVec Ideal S4x4x4096x64 .bf16) : FVec Ideal S4x4x16x256x64 .bf16 :=
  shapeCast _ v shapeCasts_S4x4x4096x64_S4x4x16x256x64

theorem plain_apply (v : FVec Ideal S4x4x4096x64 .bf16) (b g : Fin 4) (i : Fin 16) (p : Fin 256) (d : Fin 64) :
    plain v (ix5 b g i p d) = v (ix4 b g ⟨i.val * 256 + p.val, by omega⟩ d) := by
  pointwise [plain]

theorem heads_slice (x : FVec Ideal S16384x3840 .f32) (o : Fin 3585) (xs : FVec Ideal S16384x256 .f32)
    (hx : ∀ (r : Fin 16384) (c : Fin 256), xs (ix2 r c) = x (ix2 r ⟨o.val + c.val, by omega⟩))
    (b g : Fin 4) (s : Fin 4096) (d : Fin 64) : heads xs (ix4 b g s d) = x (ix2 (row b s) (col o g d)) := by
  rw [heads_apply, hx]
  refine congrArg x (congrArg₂ ix2 (Fin.ext rfl) (Fin.ext ?_))
  show o.val + (g.val * 64 + d.val) = o.val + (64 * g.val + d.val)
  omega

theorem keys_slice (x : FVec Ideal S16384x3840 .f32) (cs sn : FVec Ideal S4096x64 .f32) (o : Fin 3585) (xs : FVec Ideal S16384x256 .f32)
    (hx : ∀ (r : Fin 16384) (c : Fin 256), xs (ix2 r c) = x (ix2 r ⟨o.val + c.val, by omega⟩))
    (b g : Fin 4) (s : Fin 4096) (d : Fin 64) : keys (heads xs) cs sn (ix4 b g s d) = turnedAt x cs sn o b s g d := by
  rw [keys_apply, heads_slice x o xs hx, heads_slice x o xs hx]
  rfl

/-- The reference's block-sparse keys at an index. -/
theorem sparse_keys (x : FVec Ideal S16384x3840 .f32) (cs sn : FVec Ideal S4096x64 .f32) (b g : Fin 4) (i : Fin 16) (p : Fin 256) (e : Fin 128) :
    marked (keys (heads (extractStridedSlice S16384x256 ![0, 2560] x slices_S16384x3840_S16384x256_0_2560)) cs sn) (ix5 b g i p e)
      = markedAt x cs sn 2560 b (pos i p) g e := by
  rw [marked_apply]
  unfold markedAt
  by_cases h : e.val < 64
  · rw [dif_pos h, dif_pos h]
    exact keys_slice x cs sn 2560 _ (fun r c => by pointwise []) b g _ _
  · rw [dif_neg h, dif_neg h]
    rfl

/-- The reference's block-sparse values at an index. -/
theorem sparse_values (x : FVec Ideal S16384x3840 .f32) (b g : Fin 4) (i : Fin 16) (e : Fin 80) (p : Fin 256) :
    padded (heads (extractStridedSlice S16384x256 ![0, 2816] x slices_S16384x3840_S16384x256_0_2816)) (ix5 b g i e p)
      = paddedAt x 2816 b (pos i p) g e := by
  rw [padded_apply]
  unfold paddedAt
  by_cases h : e.val < 64
  · rw [dif_pos h, dif_pos h]
    exact heads_slice x 2816 _ (fun r c => by pointwise []) b g _ _
  · rw [dif_neg h, dif_neg h]

/-- The reference's window keys at an index. -/
theorem window_keys (x : FVec Ideal S16384x3840 .f32) (cs sn : FVec Ideal S4096x64 .f32) (b g : Fin 4) (i : Fin 16) (p : Fin 256) (d : Fin 64) :
    plain (keys (heads (extractStridedSlice S16384x256 ![0, 3072] x slices_S16384x3840_S16384x256_0_3072)) cs sn) (ix5 b g i p d)
      = turnedAt x cs sn 3072 b (pos i p) g d := by
  rw [plain_apply]
  exact keys_slice x cs sn 3072 _ (fun r c => by pointwise []) b g _ _

/-- The reference's window values at an index. -/
theorem window_values (x : FVec Ideal S16384x3840 .f32) (b g : Fin 4) (i : Fin 16) (e : Fin 80) (p : Fin 256) :
    padded (heads (extractStridedSlice S16384x256 ![0, 3328] x slices_S16384x3840_S16384x256_0_3328)) (ix5 b g i e p)
      = paddedAt x 3328 b (pos i p) g e := by
  rw [padded_apply]
  unfold paddedAt
  by_cases h : e.val < 64
  · rw [dif_pos h, dif_pos h]
    exact heads_slice x 3328 _ (fun r c => by pointwise []) b g _ _
  · rw [dif_neg h, dif_neg h]

end Cert.PrepRefIdeal.Turned

end
-- ==== Proof.PrepValue.lean ====
/-
  The value of the preparing kernel, over the extended reals.

  The grid is 4 sequences by 16 tiles of 256 positions. A point reads the tile's four column ranges and its rows of the two
  tables, and stores per head the keys turned, the marks, the values and the ones: what a block holds is read off piece by
  piece (`block6_eq` … `block9_eq`), and so are the four arrays (`array6_eq` … `array9_eq`).
-/
module

public import proofs.«01_k».proof.Proof.PrepTiles
public import proofs.«01_k».proof.Proof.PrepTurned
public import Idealize.ShloMosaic.Lib.Pipeline.ValueKit.Tiles

@[expose] public section

noncomputable section

namespace Cert.PrepIdeal.Prepared

open Cert.PrepIdeal Cert.PrepIdeal.Gen Cert.PrepIdeal.Value Cert.PrepIdeal.Tiles
open Cert.PrepRefIdeal.Turned (row col across pos turnedAt markAt markedAt paddedAt)
open Idealize.ShloMosaic Idealize.ShloMosaic.TcCoe Idealize.SL.Sem

theorem hz : (![0, 0] : Fin 2 → Nat) = fun _ => 0 := funext fun a => by fin_cases a <;> rfl

section Body

variable (c : Dev nD) (i : grid0.Coords)
  (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x64 .f32) (harg6 : arg6.IsWhole) (arg7 : Memref sig .tc .vmem S256x64 .f32) (harg7 : arg7.IsWhole) (arg8 : Memref sig .tc .vmem S1x4x1x256x128 .bf16) (harg8 : arg8.IsWhole) (arg9 : Memref sig .tc .vmem S1x4x1x80x256 .bf16) (harg9 : arg9.IsWhole) (arg10 : Memref sig .tc .vmem S1x4x1x256x64 .bf16) (harg10 : arg10.IsWhole) (arg11 : Memref sig .tc .vmem S1x4x1x80x256 .bf16) (harg11 : arg11.IsWhole)
  (x0 x1 x2 x3 : Vec Ideal S256x256 .f32) (x4 x5 : Vec Ideal S256x64 .f32)

set_option maxHeartbeats 4000000 in
/-- The block of block-sparse keys at an index. -/
theorem block6_eq (u w : Fin 1) (g : Fin 4) (p : Fin 256) (e : Fin 128) :
    @Eq EReal (out0_A_6 c i arg2 harg2 arg3 harg3 arg4 harg4 arg5 harg5 arg6 harg6 arg7 harg7 arg8 harg8 arg9 harg9 arg10 harg10 arg11 harg11 x0 x1 x2 x3 x4 x5 (ix5 u g w p e))
      (if h : e.val < 64 then turnTile x0 x4 x5 g p ⟨e.val, h⟩ else markAt (256 * (i 1).val + p.val) (e.val - 64)) := by
  have hu : u = 0 := Subsingleton.elim _ _
  have hw : w = 0 := Subsingleton.elim _ _
  subst hu hw
  generalize hy : (ix5 0 g 0 p e : S1x4x1x256x128.Idx) = y
  have y1 : (y 1).val = g.val := by rw [← hy]; rfl
  have y3 : (y 3).val = p.val := by rw [← hy]; rfl
  have y4 : (y 4).val = e.val := by rw [← hy]; rfl
  unfold out0_A_6
  rw [View.read_writes_junk_eq_canon]
  refine View.canon_eq_of_allAt _ y _ (cover0_A_6 c i arg2 harg2 arg3 harg3 arg4 harg4 arg5 harg5 arg6 harg6 arg7 harg7 arg8 harg8 arg9 harg9 arg10 harg10 arg11 harg11 x0 x1 x2 x3 x4 x5 y) ?_
  unfold kernelRun0_A
  dsimp only
  sl_unfold_words
  simp only [View.readAt_eq_ld, harg2.read_unread, harg3.read_unread, harg4.read_unread, harg5.read_unread, harg6.read_unread, harg7.read_unread, View.ld_unit_zero (S := S256x256) hz, View.ld_unit_zero (S := S256x64) hz]
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 3 + q1.val at h1
    change (y 3).val = 0 + p'.val at h3
    change (y 4).val = 64 + d.val at h4
    obtain rfl : g = 3 := Fin.ext (by show g.val = 3; omega)
    obtain rfl : p' = p := Fin.ext (by omega)
    refine (mark43 _ q0 q1 q2 p' d).trans ((mark_apply i p' d).trans ?_)
    have he : e.val - 64 = d.val := by omega
    rw [dif_neg (by omega), he]
    rfl
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 3 + q1.val at h1
    change (y 3).val = 0 + p'.val at h3
    change (y 4).val = 0 + d.val at h4
    obtain rfl : g = 3 := Fin.ext (by show g.val = 3; omega)
    obtain rfl : p' = p := Fin.ext (by omega)
    have he : ∀ h : e.val < 64, (⟨e.val, h⟩ : Fin 64) = d := fun h => Fin.ext (by show e.val = d.val; omega)
    rw [dif_pos (by omega), he]
    exact turn3 x0 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 2 + q1.val at h1
    change (y 3).val = 0 + p'.val at h3
    change (y 4).val = 64 + d.val at h4
    obtain rfl : g = 2 := Fin.ext (by show g.val = 2; omega)
    obtain rfl : p' = p := Fin.ext (by omega)
    refine (mark35 _ q0 q1 q2 p' d).trans ((mark_apply i p' d).trans ?_)
    have he : e.val - 64 = d.val := by omega
    rw [dif_neg (by omega), he]
    rfl
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 2 + q1.val at h1
    change (y 3).val = 0 + p'.val at h3
    change (y 4).val = 0 + d.val at h4
    obtain rfl : g = 2 := Fin.ext (by show g.val = 2; omega)
    obtain rfl : p' = p := Fin.ext (by omega)
    have he : ∀ h : e.val < 64, (⟨e.val, h⟩ : Fin 64) = d := fun h => Fin.ext (by show e.val = d.val; omega)
    rw [dif_pos (by omega), he]
    exact turn2 x0 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 1 + q1.val at h1
    change (y 3).val = 0 + p'.val at h3
    change (y 4).val = 64 + d.val at h4
    obtain rfl : g = 1 := Fin.ext (by show g.val = 1; omega)
    obtain rfl : p' = p := Fin.ext (by omega)
    refine (mark20 _ q0 q1 q2 p' d).trans ((mark_apply i p' d).trans ?_)
    have he : e.val - 64 = d.val := by omega
    rw [dif_neg (by omega), he]
    rfl
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 1 + q1.val at h1
    change (y 3).val = 0 + p'.val at h3
    change (y 4).val = 0 + d.val at h4
    obtain rfl : g = 1 := Fin.ext (by show g.val = 1; omega)
    obtain rfl : p' = p := Fin.ext (by omega)
    have he : ∀ h : e.val < 64, (⟨e.val, h⟩ : Fin 64) = d := fun h => Fin.ext (by show e.val = d.val; omega)
    rw [dif_pos (by omega), he]
    exact turn1 x0 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 0 + q1.val at h1
    change (y 3).val = 0 + p'.val at h3
    change (y 4).val = 64 + d.val at h4
    obtain rfl : g = 0 := Fin.ext (by show g.val = 0; omega)
    obtain rfl : p' = p := Fin.ext (by omega)
    refine (mark11 _ q0 q1 q2 p' d).trans ((mark_apply i p' d).trans ?_)
    have he : e.val - 64 = d.val := by omega
    rw [dif_neg (by omega), he]
    rfl
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 0 + q1.val at h1
    change (y 3).val = 0 + p'.val at h3
    change (y 4).val = 0 + d.val at h4
    obtain rfl : g = 0 := Fin.ext (by show g.val = 0; omega)
    obtain rfl : p' = p := Fin.ext (by omega)
    have he : ∀ h : e.val < 64, (⟨e.val, h⟩ : Fin 64) = d := fun h => Fin.ext (by show e.val = d.val; omega)
    rw [dif_pos (by omega), he]
    exact turn0 x0 x4 x5 q0 q1 q2 p' d
  exact View.allAt_nil _ _

set_option maxHeartbeats 4000000 in
/-- The block of block-sparse values at an index. -/
theorem block7_eq (u w : Fin 1) (g : Fin 4) (e : Fin 80) (p : Fin 256) :
    @Eq EReal (out0_A_7 c i arg2 harg2 arg3 harg3 arg4 harg4 arg5 harg5 arg6 harg6 arg7 harg7 arg8 harg8 arg9 harg9 arg10 harg10 arg11 harg11 x0 x1 x2 x3 x4 x5 (ix5 u g w e p))
      (if h : e.val < 64 then x1 (ix2 p ⟨64 * g.val + e.val, by omega⟩) else 1) := by
  have hu : u = 0 := Subsingleton.elim _ _
  have hw : w = 0 := Subsingleton.elim _ _
  subst hu hw
  generalize hy : (ix5 0 g 0 e p : S1x4x1x80x256.Idx) = y
  have y1 : (y 1).val = g.val := by rw [← hy]; rfl
  have y3 : (y 3).val = e.val := by rw [← hy]; rfl
  have y4 : (y 4).val = p.val := by rw [← hy]; rfl
  unfold out0_A_7
  rw [View.read_writes_junk_eq_canon]
  refine View.canon_eq_of_allAt _ y _ (cover0_A_7 c i arg2 harg2 arg3 harg3 arg4 harg4 arg5 harg5 arg6 harg6 arg7 harg7 arg8 harg8 arg9 harg9 arg10 harg10 arg11 harg11 x0 x1 x2 x3 x4 x5 y) ?_
  unfold kernelRun0_A
  dsimp only
  sl_unfold_words
  simp only [View.readAt_eq_ld, harg2.read_unread, harg3.read_unread, harg4.read_unread, harg5.read_unread, harg6.read_unread, harg7.read_unread, View.ld_unit_zero (S := S256x256) hz, View.ld_unit_zero (S := S256x64) hz]
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 3 + q1.val at h1
    change (y 3).val = 64 + d.val at h3
    change (y 4).val = 0 + p'.val at h4
    obtain rfl : g = 3 := Fin.ext (by show g.val = 3; omega)
    obtain rfl : p' = p := Fin.ext (by omega)
    rw [dif_neg (by omega)]
    exact one7_3 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 3 + q1.val at h1
    change (y 3).val = 0 + d.val at h3
    change (y 4).val = 0 + p'.val at h4
    obtain rfl : g = 3 := Fin.ext (by show g.val = 3; omega)
    obtain rfl : p' = p := Fin.ext (by omega)
    rw [dif_pos (by omega)]
    refine (value7_3 x1 q0 q1 q2 d p').trans (congrArg x1 (congrArg₂ ix2 rfl (Fin.ext ?_)))
    show 192 + d.val = 64 * 3 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 2 + q1.val at h1
    change (y 3).val = 64 + d.val at h3
    change (y 4).val = 0 + p'.val at h4
    obtain rfl : g = 2 := Fin.ext (by show g.val = 2; omega)
    obtain rfl : p' = p := Fin.ext (by omega)
    rw [dif_neg (by omega)]
    exact one7_2 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 2 + q1.val at h1
    change (y 3).val = 0 + d.val at h3
    change (y 4).val = 0 + p'.val at h4
    obtain rfl : g = 2 := Fin.ext (by show g.val = 2; omega)
    obtain rfl : p' = p := Fin.ext (by omega)
    rw [dif_pos (by omega)]
    refine (value7_2 x1 q0 q1 q2 d p').trans (congrArg x1 (congrArg₂ ix2 rfl (Fin.ext ?_)))
    show 128 + d.val = 64 * 2 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 1 + q1.val at h1
    change (y 3).val = 64 + d.val at h3
    change (y 4).val = 0 + p'.val at h4
    obtain rfl : g = 1 := Fin.ext (by show g.val = 1; omega)
    obtain rfl : p' = p := Fin.ext (by omega)
    rw [dif_neg (by omega)]
    exact one7_1 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 1 + q1.val at h1
    change (y 3).val = 0 + d.val at h3
    change (y 4).val = 0 + p'.val at h4
    obtain rfl : g = 1 := Fin.ext (by show g.val = 1; omega)
    obtain rfl : p' = p := Fin.ext (by omega)
    rw [dif_pos (by omega)]
    refine (value7_1 x1 q0 q1 q2 d p').trans (congrArg x1 (congrArg₂ ix2 rfl (Fin.ext ?_)))
    show 64 + d.val = 64 * 1 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 0 + q1.val at h1
    change (y 3).val = 64 + d.val at h3
    change (y 4).val = 0 + p'.val at h4
    obtain rfl : g = 0 := Fin.ext (by show g.val = 0; omega)
    obtain rfl : p' = p := Fin.ext (by omega)
    rw [dif_neg (by omega)]
    exact one7_0 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 0 + q1.val at h1
    change (y 3).val = 0 + d.val at h3
    change (y 4).val = 0 + p'.val at h4
    obtain rfl : g = 0 := Fin.ext (by show g.val = 0; omega)
    obtain rfl : p' = p := Fin.ext (by omega)
    rw [dif_pos (by omega)]
    refine (value7_0 x1 q0 q1 q2 d p').trans (congrArg x1 (congrArg₂ ix2 rfl (Fin.ext ?_)))
    show d.val = 64 * 0 + e.val
    omega
  exact View.allAt_nil _ _

set_option maxHeartbeats 4000000 in
/-- The block of window keys at an index. -/
theorem block8_eq (u w : Fin 1) (g : Fin 4) (p : Fin 256) (e : Fin 64) :
    @Eq EReal (out0_A_8 c i arg2 harg2 arg3 harg3 arg4 harg4 arg5 harg5 arg6 harg6 arg7 harg7 arg8 harg8 arg9 harg9 arg10 harg10 arg11 harg11 x0 x1 x2 x3 x4 x5 (ix5 u g w p e))
      (turnTile x2 x4 x5 g p e) := by
  have hu : u = 0 := Subsingleton.elim _ _
  have hw : w = 0 := Subsingleton.elim _ _
  subst hu hw
  generalize hy : (ix5 0 g 0 p e : S1x4x1x256x64.Idx) = y
  have y1 : (y 1).val = g.val := by rw [← hy]; rfl
  have y3 : (y 3).val = p.val := by rw [← hy]; rfl
  have y4 : (y 4).val = e.val := by rw [← hy]; rfl
  unfold out0_A_8
  rw [View.read_writes_junk_eq_canon]
  refine View.canon_eq_of_allAt _ y _ (cover0_A_8 c i arg2 harg2 arg3 harg3 arg4 harg4 arg5 harg5 arg6 harg6 arg7 harg7 arg8 harg8 arg9 harg9 arg10 harg10 arg11 harg11 x0 x1 x2 x3 x4 x5 y) ?_
  unfold kernelRun0_A
  dsimp only
  sl_unfold_words
  simp only [View.readAt_eq_ld, harg2.read_unread, harg3.read_unread, harg4.read_unread, harg5.read_unread, harg6.read_unread, harg7.read_unread, View.ld_unit_zero (S := S256x256) hz, View.ld_unit_zero (S := S256x64) hz]
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 3 + q1.val at h1
    change (y 3).val = 0 + p'.val at h3
    change (y 4).val = 0 + d.val at h4
    obtain rfl : g = 3 := Fin.ext (by show g.val = 3; omega)
    obtain rfl : p' = p := Fin.ext (by omega)
    obtain rfl : d = e := Fin.ext (by omega)
    exact turn3 x2 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 2 + q1.val at h1
    change (y 3).val = 0 + p'.val at h3
    change (y 4).val = 0 + d.val at h4
    obtain rfl : g = 2 := Fin.ext (by show g.val = 2; omega)
    obtain rfl : p' = p := Fin.ext (by omega)
    obtain rfl : d = e := Fin.ext (by omega)
    exact turn2 x2 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 1 + q1.val at h1
    change (y 3).val = 0 + p'.val at h3
    change (y 4).val = 0 + d.val at h4
    obtain rfl : g = 1 := Fin.ext (by show g.val = 1; omega)
    obtain rfl : p' = p := Fin.ext (by omega)
    obtain rfl : d = e := Fin.ext (by omega)
    exact turn1 x2 x4 x5 q0 q1 q2 p' d
  refine View.allAt_cons_unit _ _ _ _ _ ?_ ?_
  · intro x hx
    obtain ⟨q0, q1, q2, p', d, rfl⟩ : ∃ (q0 q1 q2 : Fin 1) (p' : Fin 256) (d : Fin 64), x = ix5 q0 q1 q2 p' d := ⟨x 0, x 1, x 2, x 3, x 4, by funext a; fin_cases a <;> rfl⟩
    have h1 := hx 1
    have h3 := hx 3
    have h4 := hx 4
    change (y 1).val = 0 + q1.val at h1
    change (y 3).val = 0 + p'.val at h3
    change (y 4).val = 0 + d.val at h4
    obtain rfl : g = 0 := Fin.ext (by show g.val = 0; omega)
    obtain rfl : p' = p := Fin.ext (by omega)
    obtain rfl : d = e := Fin.ext (by omega)
    exact turn0 x2 x4 x5 q0 q1 q2 p' d
  exact View.allAt_nil _ _

set_option maxHeartbeats 4000000 in
/-- The block of window values at an index. -/
theorem block9_eq (u w : Fin 1) (g : Fin 4) (e : Fin 80) (p : Fin 256) :
    @Eq EReal (out0_A_9 c i arg2 harg2 arg3 harg3 arg4 harg4 arg5 harg5 arg6 harg6 arg7 harg7 arg8 harg8 arg9 harg9 arg10 harg10 arg11 harg11 x0 x1 x2 x3 x4 x5 (ix5 u g w e p))
      (if h : e.val < 64 then x3 (ix2 p ⟨64 * g.val + e.val, by omega⟩) else 1) := by
  have hu : u = 0 := Subsingleton.elim _ _
  have hw : w = 0 := Subsingleton.elim _ _
  subst hu hw
  generalize hy : (ix5 0 g 0 e p : S1x4x1x80x256.Idx) = y
  have y1 : (y 1).val = g.val := by rw [← hy]; rfl
  have y3 : (y 3).val = e.val := by rw [← hy]; rfl
  have y4 : (y 4).val = p.val := by rw [← hy]; rfl
  unfold out0_A_9
  rw [View.read_writes_junk_eq_canon]
  refine View.canon_eq_of_allAt _ y _ (cover0_A_9 c i arg2 harg2 arg3 harg3 arg4 harg4 arg5 harg5 arg6 harg6 arg7 harg7 arg8 harg8 arg9 harg9 arg10 harg10 arg11 harg11 x0 x1 x2 x3 x4 x5 y) ?_
  unfold kernelRun0_A
  dsimp only
  sl_unfold_words
  simp only [View.readAt_eq_ld, harg2.read_unread, harg3.read_unread, harg4.read_unread, harg5.read_unread, harg6.read_unread, harg7.read_unread, View.ld_unit_zero (S := S256x256) hz, View.ld_unit_zero (S := S256x64) hz]
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 3 + q1.val at h1
    change (y 3).val = 64 + d.val at h3
    change (y 4).val = 0 + p'.val at h4
    obtain rfl : g = 3 := Fin.ext (by show g.val = 3; omega)
    obtain rfl : p' = p := Fin.ext (by omega)
    rw [dif_neg (by omega)]
    exact one9_3 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 3 + q1.val at h1
    change (y 3).val = 0 + d.val at h3
    change (y 4).val = 0 + p'.val at h4
    obtain rfl : g = 3 := Fin.ext (by show g.val = 3; omega)
    obtain rfl : p' = p := Fin.ext (by omega)
    rw [dif_pos (by omega)]
    refine (value9_3 x3 q0 q1 q2 d p').trans (congrArg x3 (congrArg₂ ix2 rfl (Fin.ext ?_)))
    show 192 + d.val = 64 * 3 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 2 + q1.val at h1
    change (y 3).val = 64 + d.val at h3
    change (y 4).val = 0 + p'.val at h4
    obtain rfl : g = 2 := Fin.ext (by show g.val = 2; omega)
    obtain rfl : p' = p := Fin.ext (by omega)
    rw [dif_neg (by omega)]
    exact one9_2 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 2 + q1.val at h1
    change (y 3).val = 0 + d.val at h3
    change (y 4).val = 0 + p'.val at h4
    obtain rfl : g = 2 := Fin.ext (by show g.val = 2; omega)
    obtain rfl : p' = p := Fin.ext (by omega)
    rw [dif_pos (by omega)]
    refine (value9_2 x3 q0 q1 q2 d p').trans (congrArg x3 (congrArg₂ ix2 rfl (Fin.ext ?_)))
    show 128 + d.val = 64 * 2 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 1 + q1.val at h1
    change (y 3).val = 64 + d.val at h3
    change (y 4).val = 0 + p'.val at h4
    obtain rfl : g = 1 := Fin.ext (by show g.val = 1; omega)
    obtain rfl : p' = p := Fin.ext (by omega)
    rw [dif_neg (by omega)]
    exact one9_1 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 1 + q1.val at h1
    change (y 3).val = 0 + d.val at h3
    change (y 4).val = 0 + p'.val at h4
    obtain rfl : g = 1 := Fin.ext (by show g.val = 1; omega)
    obtain rfl : p' = p := Fin.ext (by omega)
    rw [dif_pos (by omega)]
    refine (value9_1 x3 q0 q1 q2 d p').trans (congrArg x3 (congrArg₂ ix2 rfl (Fin.ext ?_)))
    show 64 + d.val = 64 * 1 + e.val
    omega
  refine View.allAt_cons_unit _ _ _ _ _ ?_ ?_
  · intro x hx
    obtain ⟨q0, q1, q2, d, p', rfl⟩ : ∃ (q0 q1 q2 : Fin 1) (d : Fin 16) (p' : Fin 256), x = ix5 q0 q1 q2 d p' := ⟨x 0, x 1, x 2, x 3, x 4, by funext a; fin_cases a <;> rfl⟩
    have h1 := hx 1
    have h3 := hx 3
    have h4 := hx 4
    change (y 1).val = 0 + q1.val at h1
    change (y 3).val = 64 + d.val at h3
    change (y 4).val = 0 + p'.val at h4
    obtain rfl : g = 0 := Fin.ext (by show g.val = 0; omega)
    obtain rfl : p' = p := Fin.ext (by omega)
    rw [dif_neg (by omega)]
    exact one9_0 _
  refine View.allAt_cons_unit _ _ _ _ _ ?_ ?_
  · intro x hx
    obtain ⟨q0, q1, q2, d, p', rfl⟩ : ∃ (q0 q1 q2 : Fin 1) (d : Fin 64) (p' : Fin 256), x = ix5 q0 q1 q2 d p' := ⟨x 0, x 1, x 2, x 3, x 4, by funext a; fin_cases a <;> rfl⟩
    have h1 := hx 1
    have h3 := hx 3
    have h4 := hx 4
    change (y 1).val = 0 + q1.val at h1
    change (y 3).val = 0 + d.val at h3
    change (y 4).val = 0 + p'.val at h4
    obtain rfl : g = 0 := Fin.ext (by show g.val = 0; omega)
    obtain rfl : p' = p := Fin.ext (by omega)
    rw [dif_pos (by omega)]
    refine (value9_0 x3 q0 q1 q2 d p').trans (congrArg x3 (congrArg₂ ix2 rfl (Fin.ext ?_)))
    show d.val = 64 * 0 + e.val
    omega
  exact View.allAt_nil _ _

end Body

variable (m : (ℓ : Loc nD τ sig) → Buf (Elt Ideal) ℓ)

/-- Which tile of which sequence a point is, and which blocks it reads and writes. -/
theorem index_facts : ∀ t : Fin cfg0.N, (grid0.coords t 1).val = t.val % 16
    ∧ (win0_0.index t 0 = t.val ∧ win0_0.index t 1 = 10)
    ∧ (win0_1.index t 0 = t.val ∧ win0_1.index t 1 = 11)
    ∧ (win0_2.index t 0 = t.val ∧ win0_2.index t 1 = 12)
    ∧ (win0_3.index t 0 = t.val ∧ win0_3.index t 1 = 13)
    ∧ (win0_4.index t 0 = t.val % 16 ∧ win0_4.index t 1 = 0)
    ∧ (win0_5.index t 0 = t.val % 16 ∧ win0_5.index t 1 = 0)
    ∧ (win0_6.index t 0 = t.val / 16 ∧ win0_6.index t 1 = 0 ∧ win0_6.index t 2 = t.val % 16 ∧ win0_6.index t 3 = 0 ∧ win0_6.index t 4 = 0)
    ∧ (win0_7.index t 0 = t.val / 16 ∧ win0_7.index t 1 = 0 ∧ win0_7.index t 2 = t.val % 16 ∧ win0_7.index t 3 = 0 ∧ win0_7.index t 4 = 0)
    ∧ (win0_8.index t 0 = t.val / 16 ∧ win0_8.index t 1 = 0 ∧ win0_8.index t 2 = t.val % 16 ∧ win0_8.index t 3 = 0 ∧ win0_8.index t 4 = 0)
    ∧ (win0_9.index t 0 = t.val / 16 ∧ win0_9.index t 1 = 0 ∧ win0_9.index t 2 = t.val % 16 ∧ win0_9.index t 3 = 0 ∧ win0_9.index t 4 = 0) :=
  (by decide +kernel : ∀ t : Fin grid0.N, _)

theorem tile0 (c : Dev nD) (t : Fin cfg0.N) (p q : Fin 256) (r : Fin 16384) (k : Fin 3840) (hr : r.val = 256 * t.val + p.val)
    (hk : k.val = 2560 + q.val) :
    @Eq EReal ((iblk m c 0 t : Vec Ideal S256x256 .f32) (ix2 p q)) ((m ((c : Thread nD τ).loc main_arg0) : Vec Ideal S16384x3840 .f32) (ix2 r k)) := by
  obtain ⟨-, ⟨e0, e1⟩, -⟩ := index_facts t
  unfold iblk
  rw [View.read_apply]
  show V m c main_arg0 _ = m (c.tc.loc main_arg0) _
  unfold V
  congr 1
  funext a
  apply Fin.ext
  match a with
  | ⟨0, _⟩ => show win0_0.index t 0 * 256 + 1 * p.val = r.val; rw [e0]; omega
  | ⟨1, _⟩ => show win0_0.index t 1 * 256 + 1 * q.val = k.val; rw [e1]; omega

theorem tile1 (c : Dev nD) (t : Fin cfg0.N) (p q : Fin 256) (r : Fin 16384) (k : Fin 3840) (hr : r.val = 256 * t.val + p.val)
    (hk : k.val = 2816 + q.val) :
    @Eq EReal ((iblk m c 1 t : Vec Ideal S256x256 .f32) (ix2 p q)) ((m ((c : Thread nD τ).loc main_arg0) : Vec Ideal S16384x3840 .f32) (ix2 r k)) := by
  obtain ⟨-, -, ⟨e0, e1⟩, -⟩ := index_facts t
  unfold iblk
  rw [View.read_apply]
  show V m c main_arg0 _ = m (c.tc.loc main_arg0) _
  unfold V
  congr 1
  funext a
  apply Fin.ext
  match a with
  | ⟨0, _⟩ => show win0_1.index t 0 * 256 + 1 * p.val = r.val; rw [e0]; omega
  | ⟨1, _⟩ => show win0_1.index t 1 * 256 + 1 * q.val = k.val; rw [e1]; omega

theorem tile2 (c : Dev nD) (t : Fin cfg0.N) (p q : Fin 256) (r : Fin 16384) (k : Fin 3840) (hr : r.val = 256 * t.val + p.val)
    (hk : k.val = 3072 + q.val) :
    @Eq EReal ((iblk m c 2 t : Vec Ideal S256x256 .f32) (ix2 p q)) ((m ((c : Thread nD τ).loc main_arg0) : Vec Ideal S16384x3840 .f32) (ix2 r k)) := by
  obtain ⟨-, -, -, ⟨e0, e1⟩, -⟩ := index_facts t
  unfold iblk
  rw [View.read_apply]
  show V m c main_arg0 _ = m (c.tc.loc main_arg0) _
  unfold V
  congr 1
  funext a
  apply Fin.ext
  match a with
  | ⟨0, _⟩ => show win0_2.index t 0 * 256 + 1 * p.val = r.val; rw [e0]; omega
  | ⟨1, _⟩ => show win0_2.index t 1 * 256 + 1 * q.val = k.val; rw [e1]; omega

theorem tile3 (c : Dev nD) (t : Fin cfg0.N) (p q : Fin 256) (r : Fin 16384) (k : Fin 3840) (hr : r.val = 256 * t.val + p.val)
    (hk : k.val = 3328 + q.val) :
    @Eq EReal ((iblk m c 3 t : Vec Ideal S256x256 .f32) (ix2 p q)) ((m ((c : Thread nD τ).loc main_arg0) : Vec Ideal S16384x3840 .f32) (ix2 r k)) := by
  obtain ⟨-, -, -, -, ⟨e0, e1⟩, -⟩ := index_facts t
  unfold iblk
  rw [View.read_apply]
  show V m c main_arg0 _ = m (c.tc.loc main_arg0) _
  unfold V
  congr 1
  funext a
  apply Fin.ext
  match a with
  | ⟨0, _⟩ => show win0_3.index t 0 * 256 + 1 * p.val = r.val; rw [e0]; omega
  | ⟨1, _⟩ => show win0_3.index t 1 * 256 + 1 * q.val = k.val; rw [e1]; omega

theorem tile4 (c : Dev nD) (t : Fin cfg0.N) (p : Fin 256) (d : Fin 64) (s : Fin 4096) (hs : s.val = t.val % 16 * 256 + p.val) :
    @Eq EReal ((iblk m c 4 t : Vec Ideal S256x64 .f32) (ix2 p d)) ((m ((c : Thread nD τ).loc main_arg1) : Vec Ideal S4096x64 .f32) (ix2 s d)) := by
  obtain ⟨-, -, -, -, -, ⟨e0, e1⟩, -⟩ := index_facts t
  unfold iblk
  rw [View.read_apply]
  show V m c main_arg1 _ = m (c.tc.loc main_arg1) _
  unfold V
  congr 1
  funext a
  apply Fin.ext
  match a with
  | ⟨0, _⟩ => show win0_4.index t 0 * 256 + 1 * p.val = s.val; rw [e0]; omega
  | ⟨1, _⟩ => show win0_4.index t 1 * 64 + 1 * d.val = d.val; rw [e1]; omega

theorem tile5 (c : Dev nD) (t : Fin cfg0.N) (p : Fin 256) (d : Fin 64) (s : Fin 4096) (hs : s.val = t.val % 16 * 256 + p.val) :
    @Eq EReal ((iblk m c 5 t : Vec Ideal S256x64 .f32) (ix2 p d)) ((m ((c : Thread nD τ).loc main_arg2) : Vec Ideal S4096x64 .f32) (ix2 s d)) := by
  obtain ⟨-, -, -, -, -, -, ⟨e0, e1⟩, -⟩ := index_facts t
  unfold iblk
  rw [View.read_apply]
  show V m c main_arg2 _ = m (c.tc.loc main_arg2) _
  unfold V
  congr 1
  funext a
  apply Fin.ext
  match a with
  | ⟨0, _⟩ => show win0_5.index t 0 * 256 + 1 * p.val = s.val; rw [e0]; omega
  | ⟨1, _⟩ => show win0_5.index t 1 * 64 + 1 * d.val = d.val; rw [e1]; omega

/-- A turned head of the tile is a turned head of the call's rows. -/
theorem turn_tile0 (c : Dev nD) (t : Fin cfg0.N) (b g : Fin 4) (i : Fin 16) (p : Fin 256) (d : Fin 64) (ht : t.val = 16 * b.val + i.val) :
    turnTile (iblk m c 0 t : Vec Ideal S256x256 .f32) (iblk m c 4 t : Vec Ideal S256x64 .f32) (iblk m c 5 t : Vec Ideal S256x64 .f32) g p d
      = turnedAt (m ((c : Thread nD τ).loc main_arg0)) (m ((c : Thread nD τ).loc main_arg1)) (m ((c : Thread nD τ).loc main_arg2)) 2560 b (pos i p) g d := by
  have hs : (pos i p).val = t.val % 16 * 256 + p.val := by show i.val * 256 + p.val = _; omega
  have hr : (row b (pos i p)).val = 256 * t.val + p.val := by show b.val * 4096 + (i.val * 256 + p.val) = _; omega
  unfold turnTile turnedAt
  rw [tile0 m c t p _ (row b (pos i p)) (col 2560 g d) hr rfl, tile0 m c t p _ (row b (pos i p)) (col 2560 g (across d)) hr rfl,
    tile4 m c t p d (pos i p) hs, tile5 m c t p d (pos i p) hs]

/-- A turned head of the tile is a turned head of the call's rows. -/
theorem turn_tile2 (c : Dev nD) (t : Fin cfg0.N) (b g : Fin 4) (i : Fin 16) (p : Fin 256) (d : Fin 64) (ht : t.val = 16 * b.val + i.val) :
    turnTile (iblk m c 2 t : Vec Ideal S256x256 .f32) (iblk m c 4 t : Vec Ideal S256x64 .f32) (iblk m c 5 t : Vec Ideal S256x64 .f32) g p d
      = turnedAt (m ((c : Thread nD τ).loc main_arg0)) (m ((c : Thread nD τ).loc main_arg1)) (m ((c : Thread nD τ).loc main_arg2)) 3072 b (pos i p) g d := by
  have hs : (pos i p).val = t.val % 16 * 256 + p.val := by show i.val * 256 + p.val = _; omega
  have hr : (row b (pos i p)).val = 256 * t.val + p.val := by show b.val * 4096 + (i.val * 256 + p.val) = _; omega
  unfold turnTile turnedAt
  rw [tile2 m c t p _ (row b (pos i p)) (col 3072 g d) hr rfl, tile2 m c t p _ (row b (pos i p)) (col 3072 g (across d)) hr rfl,
    tile4 m c t p d (pos i p) hs, tile5 m c t p d (pos i p) hs]

/-- The array of block-sparse keys at an index. -/
theorem array6_eq (c : Dev nD) (b g : Fin 4) (i : Fin 16) (p : Fin 256) (e : Fin 128) :
    @Eq EReal ((dats m 0 c).arrAt 6 cfg0.N (ix5 b g i p e))
      (markedAt (m ((c : Thread nD τ).loc main_arg0)) (m ((c : Thread nD τ).loc main_arg1)) (m ((c : Thread nD τ).loc main_arg2)) 2560 b (pos i p) g e) := by
  have hN : cfg0.N = 64 := N_0
  let t : Fin cfg0.N := ⟨16 * b.val + i.val, by omega⟩
  have ht : t.val = 16 * b.val + i.val := rfl
  have hi := (index_facts t).1
  obtain ⟨-, -, -, -, -, -, -, ⟨e0, e1, e2, e3, e4⟩, -⟩ := index_facts t
  have hf : (cfg0.win 6).flush t = true := (by decide +kernel : ∀ t : Fin grid0.N, win0_6.flush t = true) t
  have h := congrFun (blocks6 m c t hf) (ix5 0 g 0 p e)
  rw [View.read_apply, flushed6_A] at h
  have hidx : ((cfg0.win 6).blk t).view.emb (ix5 0 g 0 p e) = ix5 b g i p e := by
    funext a
    apply Fin.ext
    match a with
    | ⟨0, _⟩ => show win0_6.index t 0 * 1 + 1 * 0 = b.val; rw [e0]; omega
    | ⟨1, _⟩ => show win0_6.index t 1 * 4 + 1 * g.val = g.val; rw [e1]; omega
    | ⟨2, _⟩ => show win0_6.index t 2 * 1 + 1 * 0 = i.val; rw [e2]; omega
    | ⟨3, _⟩ => show win0_6.index t 3 * 256 + 1 * p.val = p.val; rw [e3]; omega
    | ⟨4, _⟩ => show win0_6.index t 4 * 128 + 1 * e.val = e.val; rw [e4]; omega
  rw [hidx] at h
  refine h.trans ((block6_eq c (grid0.coords t) _ _ _ _ _ _ _ _ _ _ _ _ _ _ _ _ _ _ _ _ _ _ _ _ _ _ 0 0 g p e).trans ?_)
  unfold markedAt
  by_cases h' : e.val < 64
  · rw [dif_pos h', dif_pos h']
    exact turn_tile0 m c t b g i p ⟨e.val, h'⟩ ht
  · rw [dif_neg h', dif_neg h', hi]
    have hs : 256 * (t.val % 16) + p.val = (pos i p).val := by show _ = i.val * 256 + p.val; omega
    rw [hs]

/-- The array of block-sparse values at an index. -/
theorem array7_eq (c : Dev nD) (b g : Fin 4) (i : Fin 16) (e : Fin 80) (p : Fin 256) :
    @Eq EReal ((dats m 0 c).arrAt 7 cfg0.N (ix5 b g i e p))
      (paddedAt (m ((c : Thread nD τ).loc main_arg0)) 2816 b (pos i p) g e) := by
  have hN : cfg0.N = 64 := N_0
  let t : Fin cfg0.N := ⟨16 * b.val + i.val, by omega⟩
  have ht : t.val = 16 * b.val + i.val := rfl
  have hi := (index_facts t).1
  obtain ⟨-, -, -, -, -, -, -, -, ⟨e0, e1, e2, e3, e4⟩, -⟩ := index_facts t
  have hf : (cfg0.win 7).flush t = true := (by decide +kernel : ∀ t : Fin grid0.N, win0_7.flush t = true) t
  have h := congrFun (blocks7 m c t hf) (ix5 0 g 0 e p)
  rw [View.read_apply, flushed7_A] at h
  have hidx : ((cfg0.win 7).blk t).view.emb (ix5 0 g 0 e p) = ix5 b g i e p := by
    funext a
    apply Fin.ext
    match a with
    | ⟨0, _⟩ => show win0_7.index t 0 * 1 + 1 * 0 = b.val; rw [e0]; omega
    | ⟨1, _⟩ => show win0_7.index t 1 * 4 + 1 * g.val = g.val; rw [e1]; omega
    | ⟨2, _⟩ => show win0_7.index t 2 * 1 + 1 * 0 = i.val; rw [e2]; omega
    | ⟨3, _⟩ => show win0_7.index t 3 * 80 + 1 * e.val = e.val; rw [e3]; omega
    | ⟨4, _⟩ => show win0_7.index t 4 * 256 + 1 * p.val = p.val; rw [e4]; omega
  rw [hidx] at h
  refine h.trans ((block7_eq c (grid0.coords t) _ _ _ _ _ _ _ _ _ _ _ _ _ _ _ _ _ _ _ _ _ _ _ _ _ _ 0 0 g e p).trans ?_)
  unfold paddedAt
  by_cases h' : e.val < 64
  · rw [dif_pos h', dif_pos h']
    exact tile1 m c t p _ (row b (pos i p)) _ (by show b.val * 4096 + (i.val * 256 + p.val) = _; omega) rfl
  · rw [dif_neg h', dif_neg h']

/-- The array of window keys at an index. -/
theorem array8_eq (c : Dev nD) (b g : Fin 4) (i : Fin 16) (p : Fin 256) (e : Fin 64) :
    @Eq EReal ((dats m 0 c).arrAt 8 cfg0.N (ix5 b g i p e))
      (turnedAt (m ((c : Thread nD τ).loc main_arg0)) (m ((c : Thread nD τ).loc main_arg1)) (m ((c : Thread nD τ).loc main_arg2)) 3072 b (pos i p) g e) := by
  have hN : cfg0.N = 64 := N_0
  let t : Fin cfg0.N := ⟨16 * b.val + i.val, by omega⟩
  have ht : t.val = 16 * b.val + i.val := rfl
  have hi := (index_facts t).1
  obtain ⟨-, -, -, -, -, -, -, -, -, ⟨e0, e1, e2, e3, e4⟩, -⟩ := index_facts t
  have hf : (cfg0.win 8).flush t = true := (by decide +kernel : ∀ t : Fin grid0.N, win0_8.flush t = true) t
  have h := congrFun (blocks8 m c t hf) (ix5 0 g 0 p e)
  rw [View.read_apply, flushed8_A] at h
  have hidx : ((cfg0.win 8).blk t).view.emb (ix5 0 g 0 p e) = ix5 b g i p e := by
    funext a
    apply Fin.ext
    match a with
    | ⟨0, _⟩ => show win0_8.index t 0 * 1 + 1 * 0 = b.val; rw [e0]; omega
    | ⟨1, _⟩ => show win0_8.index t 1 * 4 + 1 * g.val = g.val; rw [e1]; omega
    | ⟨2, _⟩ => show win0_8.index t 2 * 1 + 1 * 0 = i.val; rw [e2]; omega
    | ⟨3, _⟩ => show win0_8.index t 3 * 256 + 1 * p.val = p.val; rw [e3]; omega
    | ⟨4, _⟩ => show win0_8.index t 4 * 64 + 1 * e.val = e.val; rw [e4]; omega
  rw [hidx] at h
  refine h.trans ((block8_eq c (grid0.coords t) _ _ _ _ _ _ _ _ _ _ _ _ _ _ _ _ _ _ _ _ _ _ _ _ _ _ 0 0 g p e).trans ?_)
  exact turn_tile2 m c t b g i p e ht

/-- The array of window values at an index. -/
theorem array9_eq (c : Dev nD) (b g : Fin 4) (i : Fin 16) (e : Fin 80) (p : Fin 256) :
    @Eq EReal ((dats m 0 c).arrAt 9 cfg0.N (ix5 b g i e p))
      (paddedAt (m ((c : Thread nD τ).loc main_arg0)) 3328 b (pos i p) g e) := by
  have hN : cfg0.N = 64 := N_0
  let t : Fin cfg0.N := ⟨16 * b.val + i.val, by omega⟩
  have ht : t.val = 16 * b.val + i.val := rfl
  have hi := (index_facts t).1
  obtain ⟨-, -, -, -, -, -, -, -, -, -, ⟨e0, e1, e2, e3, e4⟩⟩ := index_facts t
  have hf : (cfg0.win 9).flush t = true := (by decide +kernel : ∀ t : Fin grid0.N, win0_9.flush t = true) t
  have h := congrFun (blocks9 m c t hf) (ix5 0 g 0 e p)
  rw [View.read_apply, flushed9_A] at h
  have hidx : ((cfg0.win 9).blk t).view.emb (ix5 0 g 0 e p) = ix5 b g i e p := by
    funext a
    apply Fin.ext
    match a with
    | ⟨0, _⟩ => show win0_9.index t 0 * 1 + 1 * 0 = b.val; rw [e0]; omega
    | ⟨1, _⟩ => show win0_9.index t 1 * 4 + 1 * g.val = g.val; rw [e1]; omega
    | ⟨2, _⟩ => show win0_9.index t 2 * 1 + 1 * 0 = i.val; rw [e2]; omega
    | ⟨3, _⟩ => show win0_9.index t 3 * 80 + 1 * e.val = e.val; rw [e3]; omega
    | ⟨4, _⟩ => show win0_9.index t 4 * 256 + 1 * p.val = p.val; rw [e4]; omega
  rw [hidx] at h
  refine h.trans ((block9_eq c (grid0.coords t) _ _ _ _ _ _ _ _ _ _ _ _ _ _ _ _ _ _ _ _ _ _ _ _ _ _ 0 0 g e p).trans ?_)
  unfold paddedAt
  by_cases h' : e.val < 64
  · rw [dif_pos h', dif_pos h']
    exact tile3 m c t p _ (row b (pos i p)) _ (by show b.val * 4096 + (i.val * 256 + p.val) = _; omega) rfl
  · rw [dif_neg h', dif_neg h']

end Cert.PrepIdeal.Prepared

end
-- ==== Proof.lean ====
/-
  The claims of the five calls, put together.

  Each kernel's frame and value come from its run, each reference's from its own. What joins a kernel and its reference is a
  function of the arguments both are shown to compute: `Cert.MergeSpec.result` for the merging call
  (Proof/MergeValue.lean, Proof/MergeSpec.lean), `Cert.ProjectIdeal.Product.productAt` for the projection
  (Proof/ProjectValue.lean), `Cert.PoolRefIdeal.Means.mixedAt` for the pooling mixer (Proof/PoolMeans.lean,
  Proof/PoolValue.lean), and `markedAt`, `paddedAt` and `turnedAt` of `Cert.PrepRefIdeal.Turned` for the four results of
  preparing keys and values (Proof/PrepTurned.lean, Proof/PrepTiles.lean, Proof/PrepValue.lean). Of the attention only the frames are proved, the printed program's and the idealized one's
  (Proof/AttnFrame.lean, Proof/AttnIdealFrame.lean).
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.Project.Frame
public import proofs.«01_k».proof.Proof.Gen.ProjectIdeal.Value
public import proofs.«01_k».proof.Proof.Gen.ProjectRefIdeal.Run
public import proofs.«01_k».proof.Proof.Gen.Pool.Frame
public import proofs.«01_k».proof.Proof.Gen.PoolIdeal.Value
public import proofs.«01_k».proof.Proof.Gen.PoolRefIdeal.Run
public import proofs.«01_k».proof.Proof.Gen.Prep.Frame
public import proofs.«01_k».proof.Proof.Gen.PrepIdeal.Value
public import proofs.«01_k».proof.Proof.Gen.PrepRefIdeal.Run
public import Idealize.ShloMosaic.Adequacy
public import Idealize.ShloMosaic.Init
public import Idealize.ShloMosaic.Lib.Quiescent
public import proofs.«01_k».proof.Proof.AttnFrame
public import proofs.«01_k».proof.Proof.AttnIdealFrame
public import proofs.«01_k».proof.Proof.MergeValue
public import proofs.«01_k».proof.Proof.ProjectValue
public import proofs.«01_k».proof.Proof.PoolValue
public import proofs.«01_k».proof.Proof.PrepValue

@[expose] public section

noncomputable section

namespace Cert.Proof

open Idealize.ShloMosaic Idealize.SL.Sem

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem quiescent_ProjectRefIdeal : quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run (F := Ideal) m ρ)

theorem quiescent_PoolRefIdeal : quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem quiescent_PrepRefIdeal : quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨?_, (h c).2⟩) (Cert.MergeRefIdeal.Value.run (F := Ideal) m' ρ')
  rw [(h c).1]
  funext i
  refine Eq.trans ?_ (Cert.MergeIdeal.Merged.array_eq m c i).symm
  refine (Cert.MergeSpec.reference_eq m' c i).trans ?_
  unfold Cert.MergeIdeal.Merged.resultOf
  simp only [hagree c]

theorem algebraic_ProjectIdeal_ProjectRefIdeal : algebraic_ProjectIdeal_ProjectRefIdeal := by
  intro m ρ m' ρ' _ hagree
  refine ⟨_, Cert.ProjectIdeal.Value.run (F := Ideal) m ρ, ?_⟩
  refine (θ_run Cert.ProjectRefIdeal.defs _ _).mono (fun _ h c => ⟨?_, (h c).2⟩) (Cert.ProjectRefIdeal.Value.run (F := Ideal) m' ρ')
  rw [(h c).1]
  simp only [hagree c]
  funext i
  exact (Cert.ProjectIdeal.Product.reference_eq _ _ _ i).trans (Cert.ProjectIdeal.Product.array_eq m c i).symm

theorem algebraic_PoolIdeal_PoolRefIdeal : algebraic_PoolIdeal_PoolRefIdeal := by
  intro m ρ m' ρ' _ hagree
  refine ⟨_, Cert.PoolIdeal.Value.run_blocks (F := Ideal) m ρ, ?_⟩
  refine (θ_run Cert.PoolRefIdeal.defs _ _).mono (fun _ h c => ⟨?_, (h c).2⟩) (Cert.PoolRefIdeal.Value.run (F := Ideal) m' ρ')
  rw [(h c).1]
  funext i
  obtain ⟨r, q, rfl⟩ : ∃ (r : Fin 16384) (q : Fin 1024), i = ix2 r q := ⟨i 0, i 1, by funext a; fin_cases a <;> rfl⟩
  have h0 := (hagree c).1
  have h1 := (hagree c).2.1
  have h2 := (hagree c).2.2
  refine Eq.trans ?_ (Cert.PoolIdeal.Mixed.array_eq m c r q).symm
  rw [← h0, ← h1, ← h2]
  exact Cert.PoolRefIdeal.Means.result_apply _ _ _ r ⟨q.val / 256, by omega⟩ ⟨q.val % 256, by omega⟩ q (by dsimp only; omega)

theorem algebraic_PrepIdeal_PrepRefIdeal : algebraic_PrepIdeal_PrepRefIdeal := by
  intro m ρ m' ρ' _ hagree
  refine ⟨_, _, _, _, Cert.PrepIdeal.Value.run_blocks (F := Ideal) m ρ, ?_⟩
  refine (θ_run Cert.PrepRefIdeal.defs _ _).mono (fun _ h c => ⟨?_, ?_, ?_, ?_, (h c).2.2.2.2⟩) (Cert.PrepRefIdeal.Value.run (F := Ideal) m' ρ')
  · rw [(h c).1]
    funext y
    obtain ⟨b, g, i, p, e, rfl⟩ : ∃ (b g : Fin 4) (i : Fin 16) (p : Fin 256) (e : Fin 128), y = ix5 b g i p e := ⟨y 0, y 1, y 2, y 3, y 4, by funext a; fin_cases a <;> rfl⟩
    refine Eq.trans ?_ (Cert.PrepIdeal.Prepared.array6_eq m c b g i p e).symm
    rw [← (hagree c).1, ← (hagree c).2.1, ← (hagree c).2.2]
    exact Cert.PrepRefIdeal.Turned.sparse_keys _ _ _ b g i p e
  · rw [(h c).2.1]
    funext y
    obtain ⟨b, g, i, e, p, rfl⟩ : ∃ (b g : Fin 4) (i : Fin 16) (e : Fin 80) (p : Fin 256), y = ix5 b g i e p := ⟨y 0, y 1, y 2, y 3, y 4, by funext a; fin_cases a <;> rfl⟩
    refine Eq.trans ?_ (Cert.PrepIdeal.Prepared.array7_eq m c b g i e p).symm
    rw [← (hagree c).1]
    exact Cert.PrepRefIdeal.Turned.sparse_values _ b g i e p
  · rw [(h c).2.2.1]
    funext y
    obtain ⟨b, g, i, p, d, rfl⟩ : ∃ (b g : Fin 4) (i : Fin 16) (p : Fin 256) (d : Fin 64), y = ix5 b g i p d := ⟨y 0, y 1, y 2, y 3, y 4, by funext a; fin_cases a <;> rfl⟩
    refine Eq.trans ?_ (Cert.PrepIdeal.Prepared.array8_eq m c b g i p d).symm
    rw [← (hagree c).1, ← (hagree c).2.1, ← (hagree c).2.2]
    exact Cert.PrepRefIdeal.Turned.window_keys _ _ _ b g i p d
  · rw [(h c).2.2.2.1]
    funext y
    obtain ⟨b, g, i, e, p, rfl⟩ : ∃ (b g : Fin 4) (i : Fin 16) (e : Fin 80) (p : Fin 256), y = ix5 b g i e p := ⟨y 0, y 1, y 2, y 3, y 4, by funext a; fin_cases a <;> rfl⟩
    refine Eq.trans ?_ (Cert.PrepIdeal.Prepared.array9_eq m c b g i e p).symm
    rw [← (hagree c).1]
    exact Cert.PrepRefIdeal.Turned.window_values _ b g i e p

/-- The constant the attention masks with is named, and its name denotes −∞. -/
theorem preserves_Attention_AttentionIdeal : preserves_Attention_AttentionIdeal :=
  IdealRules.named_const.statement Cert.AttentionIdeal.κ "mask" .f32 0xF149F2CA#32 ⊥ rfl

theorem claim : Cert.Claim := ⟨Cert.Merge.Gen.facts, Cert.MergeIdeal.Gen.facts, Cert.MergeRefIdeal.Gen.facts, Cert.Project.Gen.facts, Cert.ProjectIdeal.Gen.facts, Cert.ProjectRefIdeal.Gen.facts, Cert.Attention.Gen.facts, Cert.AttentionIdeal.Gen.facts, Cert.Pool.Gen.facts, Cert.PoolIdeal.Gen.facts, Cert.PoolRefIdeal.Gen.facts, Cert.Prep.Gen.facts, Cert.PrepIdeal.Gen.facts, Cert.PrepRefIdeal.Gen.facts,
  fun m ρ _ => Cert.Merge.Gen.frame m ρ, fun m ρ _ => Cert.MergeIdeal.Gen.frame m ρ, quiescent_MergeRefIdeal, fun m ρ _ => Cert.Project.Gen.frame m ρ, fun m ρ _ => Cert.ProjectIdeal.Gen.frame m ρ, quiescent_ProjectRefIdeal, fun m ρ _ => Cert.Attention.Held.frame m ρ, fun m ρ _ => Cert.AttentionIdeal.Held.frame m ρ, fun m ρ _ => Cert.Pool.Gen.frame m ρ, fun m ρ _ => Cert.PoolIdeal.Gen.frame m ρ, quiescent_PoolRefIdeal, fun m ρ _ => Cert.Prep.Gen.frame m ρ, fun m ρ _ => Cert.PrepIdeal.Gen.frame m ρ, quiescent_PrepRefIdeal, (trivial : preserves_Merge_MergeIdeal), algebraic_MergeIdeal_MergeRefIdeal, (trivial : preserves_Project_ProjectIdeal), algebraic_ProjectIdeal_ProjectRefIdeal, preserves_Attention_AttentionIdeal, (trivial : preserves_Pool_PoolIdeal), algebraic_PoolIdeal_PoolRefIdeal, (trivial : preserves_Prep_PrepIdeal), algebraic_PrepIdeal_PrepRefIdeal⟩

end Cert.Proof

end
